-- ==== Defs.lean ====
def Pre_Kernel [hPre_scene_in_range : Cert.Pre_scene_in_range.Facts] (m : (ℓ : Loc Cert.Kernel.nD Cert.Kernel.τ Cert.Kernel.sig) → Buf (Elt Bits) ℓ) : Prop :=
  ∀ c : Dev Cert.Kernel.nD,
    (Cert.Pre_scene_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_scene_in_range : Cert.Pre_scene_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scene_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] [hPre_scene_in_range : Cert.Pre_scene_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_scene_in_range : Cert.Pre_scene_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scene_in_range : Cert.Pre_scene_in_range.Facts) (hPre_finite_and_in_range : Cert.Pre_finite_and_in_range.Facts),
    quiescent_Kernel (hKernel := hKernel) (hPre_scene_in_range := hPre_scene_in_range)
    ∧ quiescent_KernelIdeal (hKernelIdeal := hKernelIdeal) (hPre_scene_in_range := hPre_scene_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S64x2048x32 : Shape := ⟨3, ![64, 2048, 32]⟩
abbrev S2048 : Shape := ⟨1, ![2048]⟩
abbrev S2048x128 : Shape := ⟨2, ![2048, 128]⟩
abbrev S32x64 : Shape := ⟨2, ![32, 64]⟩
abbrev S64 : Shape := ⟨1, ![64]⟩
abbrev S128x64 : Shape := ⟨2, ![128, 64]⟩
abbrev S1 : Shape := ⟨1, ![1]⟩
abbrev S_ : Shape := ⟨0, ![]⟩

class Facts : Prop where
  bcast_S_S2048 : S_.BroadcastsInDim S2048 (![] : Fin 0 → Fin S2048.rank)
  bcast_S_S64x2048x32 : S_.BroadcastsInDim S64x2048x32 (![] : Fin 0 → Fin S64x2048x32.rank)
  bcast_S_S2048x128 : S_.BroadcastsInDim S2048x128 (![] : Fin 0 → Fin S2048x128.rank)
  bcast_S_S32x64 : S_.BroadcastsInDim S32x64 (![] : Fin 0 → Fin S32x64.rank)
  bcast_S_S64 : S_.BroadcastsInDim S64 (![] : Fin 0 → Fin S64.rank)
  bcast_S_S128x64 : S_.BroadcastsInDim S128x64 (![] : Fin 0 → Fin S128x64.rank)
  bcast_S_S1 : S_.BroadcastsInDim S1 (![] : Fin 0 → Fin S1.rank)

variable [Facts]

def fn_part1 {F : FTy → Type} [FloatOps F] (main_arg6 : FVec F S64 .f32) (main_arg7 : FVec F S64 .f32) (main_arg8 : FVec F S1 .f32) (main_v4 : IVec S2048 1) (main_v7 : IVec S64x2048x32 1) (main_v10 : IVec S2048x128 1) (main_v13 : IVec S32x64 1) (main_v16 : IVec S64 1) (main_v17 : FVec F S128x64 .f32) : IVec S2048 1 × IVec S64x2048x32 1 × IVec S2048x128 1 × IVec S32x64 1 × IVec S64 1 × IVec S128x64 1 × IVec S64 1 × IVec S64 1 × IVec S1 1 :=
  let main_cst_4 : FVec F S_ .f32 := constant S_ .f32 0x7F800000#32
  let main_v18 : FVec F S128x64 .f32 := broadcastInDim S128x64 ![] bcast_S_S128x64 main_cst_4
  let main_v19 : IVec S128x64 1 := cmpf .olt main_v17 main_v18
  let main_v20 : FVec F S64 .f32 := Host.absf main_arg6
  let main_cst_5 : FVec F S_ .f32 := constant S_ .f32 0x7F800000#32
  let main_v21 : FVec F S64 .f32 := broadcastInDim S64 ![] bcast_S_S64 main_cst_5
  let main_v22 : IVec S64 1 := cmpf .olt main_v20 main_v21
  let main_v23 : FVec F S64 .f32 := Host.absf main_arg7
  let main_cst_6 : FVec F S_ .f32 := constant S_ .f32 0x7F800000#32
  let main_v24 : FVec F S64 .f32 := broadcastInDim S64 ![] bcast_S_S64 main_cst_6
  let main_v25 : IVec S64 1 := cmpf .olt main_v23 main_v24
  let main_v26 : FVec F S1 .f32 := Host.absf main_arg8
  let main_cst_7 : FVec F S_ .f32 := constant S_ .f32 0x7F800000#32
  let main_v27 : FVec F S1 .f32 := broadcastInDim S1 ![] bcast_S_S1 main_cst_7
  let main_v28 : IVec S1 1 := cmpf .olt main_v26 main_v27
  (main_v4, main_v7, main_v10, main_v13, main_v16, main_v19, main_v22, main_v25, main_v28)

def fn {F : FTy → Type} [FloatOps F] (main_arg0 : FVec F S64x2048x32 .f32) (main_arg1 : IVec S2048 32) (main_arg2 : FVec F S2048x128 .f32) (main_arg3 : FVec F S32x64 .f32) (main_arg4 : FVec F S64 .f32) (main_arg5 : FVec F S128x64 .f32) (main_arg6 : FVec F S64 .f32) (main_arg7 : FVec F S64 .f32) (main_arg8 : FVec F S1 .f32) : IVec S2048 1 × IVec S64x2048x32 1 × IVec S2048x128 1 × IVec S32x64 1 × IVec S64 1 × IVec S128x64 1 × IVec S64 1 × IVec S64 1 × IVec S1 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 64#32
  let main_v2 : IVec S2048 32 := broadcastInDim S2048 ![] bcast_S_S2048 main_c_0
  let main_v3 : IVec S2048 1 := cmpi .slt main_arg1 main_v2
  let main_v4 : IVec S2048 1 := andi main_v1 main_v3
  let main_v5 : FVec F S64x2048x32 .f32 := Host.absf main_arg0
  let main_cst : FVec F S_ .f32 := constant S_ .f32 0x7F800000#32
  let main_v6 : FVec F S64x2048x32 .f32 := broadcastInDim S64x2048x32 ![] bcast_S_S64x2048x32 main_cst
  let main_v7 : IVec S64x2048x32 1 := cmpf .olt main_v5 main_v6
  let main_v8 : FVec F S2048x128 .f32 := Host.absf main_arg2
  let main_cst_1 : FVec F S_ .f32 := constant S_ .f32 0x7F800000#32
  let main_v9 : FVec F S2048x128 .f32 := broadcastInDim S2048x128 ![] bcast_S_S2048x128 main_cst_1
  let main_v10 : IVec S2048x128 1 := cmpf .olt main_v8 main_v9
  let main_v11 : FVec F S32x64 .f32 := Host.absf main_arg3
  let main_cst_2 : FVec F S_ .f32 := constant S_ .f32 0x7F800000#32
  let main_v12 : FVec F S32x64 .f32 := broadcastInDim S32x64 ![] bcast_S_S32x64 main_cst_2
  let main_v13 : IVec S32x64 1 := cmpf .olt main_v11 main_v12
  let main_v14 : FVec F S64 .f32 := Host.absf main_arg4
  let main_cst_3 : FVec F S_ .f32 := constant S_ .f32 0x7F800000#32
  let main_v15 : FVec F S64 .f32 := broadcastInDim S64 ![] bcast_S_S64 main_cst_3
  let main_v16 : IVec S64 1 := cmpf .olt main_v14 main_v15
  let main_v17 : FVec F S128x64 .f32 := Host.absf main_arg5
  fn_part1 (F := F) main_arg6 main_arg7 main_arg8 main_v4 main_v7 main_v10 main_v13 main_v16 main_v17
-- ==== Pre_scene_in_range.lean ====
abbrev S64x2048x32 : Shape := ⟨3, ![64, 2048, 32]⟩
abbrev S2048 : Shape := ⟨1, ![2048]⟩
abbrev S2048x128 : Shape := ⟨2, ![2048, 128]⟩
abbrev S32x64 : Shape := ⟨2, ![32, 64]⟩
abbrev S64 : Shape := ⟨1, ![64]⟩
abbrev S128x64 : Shape := ⟨2, ![128, 64]⟩
abbrev S1 : Shape := ⟨1, ![1]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S64x2048x32 .f32) (main_arg1 : IVec S2048 32) (main_arg2 : FVec F S2048x128 .f32) (main_arg3 : FVec F S32x64 .f32) (main_arg4 : FVec F S64 .f32) (main_arg5 : FVec F S128x64 .f32) (main_arg6 : FVec F S64 .f32) (main_arg7 : FVec F S64 .f32) (main_arg8 : FVec F S1 .f32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 64#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Kernel.lean ====
abbrev S64x2048x32 : Shape := ⟨3, ![64, 2048, 32]⟩
abbrev S2048 : Shape := ⟨1, ![2048]⟩
abbrev S2048x128 : Shape := ⟨2, ![2048, 128]⟩
abbrev S32x64 : Shape := ⟨2, ![32, 64]⟩
abbrev S64 : Shape := ⟨1, ![64]⟩
abbrev S128x64 : Shape := ⟨2, ![128, 64]⟩
abbrev S1 : Shape := ⟨1, ![1]⟩
abbrev S64x32x128 : Shape := ⟨3, ![64, 32, 128]⟩
abbrev S1x2048 : Shape := ⟨2, ![1, 2048]⟩
abbrev S64x1 : Shape := ⟨2, ![64, 1]⟩
abbrev S1x64 : Shape := ⟨2, ![1, 64]⟩
abbrev S64x64x2048 : Shape := ⟨3, ![64, 64, 2048]⟩
abbrev S64x32x64 : Shape := ⟨3, ![64, 32, 64]⟩
abbrev S192x1 : Shape := ⟨2, ![192, 1]⟩
abbrev S2048x1 : Shape := ⟨2, ![2048, 1]⟩
abbrev S1x2048x32 : Shape := ⟨3, ![1, 2048, 32]⟩
abbrev S1x32x128 : Shape := ⟨3, ![1, 32, 128]⟩
abbrev S1x64x2048 : Shape := ⟨3, ![1, 64, 2048]⟩
abbrev S1x32x64 : Shape := ⟨3, ![1, 32, 64]⟩
abbrev S2048x32 : Shape := ⟨2, ![2048, 32]⟩
abbrev S64x2048 : Shape := ⟨2, ![64, 2048]⟩
abbrev S32x128 : Shape := ⟨2, ![32, 128]⟩
abbrev S64x64 : Shape := ⟨2, ![64, 64]⟩
abbrev S1x256 : Shape := ⟨2, ![1, 256]⟩
abbrev S256x1 : Shape := ⟨2, ![256, 1]⟩
abbrev S256x2048 : Shape := ⟨2, ![256, 2048]⟩
abbrev S256 : Shape := ⟨1, ![256]⟩
abbrev S256x64 : Shape := ⟨2, ![256, 64]⟩
abbrev S1x64x1 : Shape := ⟨3, ![1, 64, 1]⟩
abbrev S1x1x1 : Shape := ⟨3, ![1, 1, 1]⟩
abbrev S192x64 : Shape := ⟨2, ![192, 64]⟩
abbrev S192 : Shape := ⟨1, ![192]⟩
abbrev S2048x64 : Shape := ⟨2, ![2048, 64]⟩
abbrev S16x64 : Shape := ⟨2, ![16, 64]⟩
abbrev S64x16 : Shape := ⟨2, ![64, 16]⟩
abbrev S16x2048 : Shape := ⟨2, ![16, 2048]⟩
abbrev S16 : Shape := ⟨1, ![16]⟩
abbrev S16x1 : Shape := ⟨2, ![16, 1]⟩
abbrev S16x32 : Shape := ⟨2, ![16, 32]⟩
abbrev S1x32 : Shape := ⟨2, ![1, 32]⟩

abbrev nBuf : Space → Nat
  | .hbm => 23
  | .vmem => 25
  | .smem => 4
  | _ => 0

abbrev bufTy : (tb : Table) → Fin (tcTables nBuf tb) → BufTy
  | .hbm, ⟨0, _⟩ => ⟨S64x2048x32, .f32⟩
  | .hbm, ⟨1, _⟩ => ⟨S2048, .i32⟩
  | .hbm, ⟨2, _⟩ => ⟨S2048x128, .f32⟩
  | .hbm, ⟨3, _⟩ => ⟨S32x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S1, .f32⟩
  | .hbm, ⟨9, _⟩ => ⟨S64x32x128, .f32⟩
  | .hbm, ⟨10, _⟩ => ⟨S1x2048, .i32⟩
  | .hbm, ⟨11, _⟩ => ⟨S64x1, .f32⟩
  | .hbm, ⟨12, _⟩ => ⟨S1x64, .f32⟩
  | .hbm, ⟨13, _⟩ => ⟨S64x64x2048, .bf16⟩
  | .hbm, ⟨14, _⟩ => ⟨S64x32x64, .f32⟩
  | .hbm, ⟨15, _⟩ => ⟨S192x1, .i32⟩
  | .hbm, ⟨16, _⟩ => ⟨S192x1, .i32⟩
  | .hbm, ⟨17, _⟩ => ⟨S192x1, .i32⟩
  | .hbm, ⟨18, _⟩ => ⟨S2048x1, .i32⟩
  | .hbm, ⟨19, _⟩ => ⟨S2048x64, .f32⟩
  | .hbm, ⟨20, _⟩ => ⟨S1x64, .f32⟩
  | .hbm, ⟨21, _⟩ => ⟨S1x64, .bf16⟩
  | .hbm, ⟨22, _⟩ => ⟨S2048x32, .f32⟩
  | .local _ .vmem, ⟨0, _⟩ => ⟨S1x2048x32, .f32⟩
  | .local _ .vmem, ⟨1, _⟩ => ⟨S1x2048x32, .f32⟩
  | .local _ .vmem, ⟨2, _⟩ => ⟨S1x32x128, .f32⟩
  | .local _ .vmem, ⟨3, _⟩ => ⟨S1x32x128, .f32⟩
  | .local _ .vmem, ⟨4, _⟩ => ⟨S1x2048, .i32⟩
  | .local _ .vmem, ⟨5, _⟩ => ⟨S32x64, .f32⟩
  | .local _ .vmem, ⟨6, _⟩ => ⟨S64x1, .f32⟩
  | .local _ .vmem, ⟨7, _⟩ => ⟨S128x64, .f32⟩
  | .local _ .vmem, ⟨8, _⟩ => ⟨S1x64, .f32⟩
  | .local _ .vmem, ⟨9, _⟩ => ⟨S1x64x2048, .bf16⟩
  | .local _ .vmem, ⟨10, _⟩ => ⟨S1x64x2048, .bf16⟩
  | .local _ .vmem, ⟨11, _⟩ => ⟨S1x32x64, .f32⟩
  | .local _ .vmem, ⟨12, _⟩ => ⟨S1x32x64, .f32⟩
  | .local _ .vmem, ⟨13, _⟩ => ⟨S192x1, .i32⟩
  | .local _ .vmem, ⟨14, _⟩ => ⟨S192x1, .i32⟩
  | .local _ .vmem, ⟨15, _⟩ => ⟨S192x1, .i32⟩
  | .local _ .vmem, ⟨16, _⟩ => ⟨S2048x1, .i32⟩
  | .local _ .vmem, ⟨17, _⟩ => ⟨S1x64x2048, .bf16⟩
  | .local _ .vmem, ⟨18, _⟩ => ⟨S1x64x2048, .bf16⟩
  | .local _ .vmem, ⟨19, _⟩ => ⟨S1x2048x32, .f32⟩
  | .local _ .vmem, ⟨20, _⟩ => ⟨S1x2048x32, .f32⟩
  | .local _ .vmem, ⟨21, _⟩ => ⟨S2048x64, .f32⟩
  | .local _ .vmem, ⟨22, _⟩ => ⟨S1x64, .bf16⟩
  | .local _ .vmem, ⟨23, _⟩ => ⟨S2048x32, .f32⟩
  | .local _ .vmem, ⟨24, _⟩ => ⟨S16x64, .f32⟩
  | .local _ .smem, ⟨0, _⟩ => ⟨S192, .i32⟩
  | .local _ .smem, ⟨1, _⟩ => ⟨S192, .i32⟩
  | .local _ .smem, ⟨2, _⟩ => ⟨S192, .i32⟩
  | .local _ .smem, ⟨3, _⟩ => ⟨S2048, .i32⟩
  | _, _ => ⟨S64x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v6 : Ref sig .tc := ⟨.smem, 0, rfl⟩
abbrev main_v7 : Ref sig .tc := ⟨.smem, 1, rfl⟩
abbrev main_v8 : Ref sig .tc := ⟨.smem, 2, rfl⟩
abbrev main_v9 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_20 : BitVec 32 := 0#32
  let v25 : BitVec 1 := Scalar.cmpi .ne v24 c0_i32_20
  v25

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S192x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![192], ![false]⟩

abbrev pre1 : Pipeline.Prefetch sig := ⟨4, ![main_v6.idx, main_v7.idx, main_v8.idx, main_v9.idx], fun | 0 => main_v6.names | 1 => main_v7.names | 2 => main_v8.names | 3 => main_v9.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (v1 : BitVec 32) : Fin 1 → Nat :=
  let c0_i32_1 : BitVec 32 := 0#32
  let v7 : BitVec 32 := Scalar.addi v1 c0_i32_1
  let c2047_i32 : BitVec 32 := 2047#32
  let v8 : BitVec 32 := Scalar.minsi v7 c2047_i32
  let v9 : Index := Scalar.indexCast v8
  ![v9.toNat]
def k1_cond1 (v3 : BitVec 32) : BitVec 1 :=
  let c0_i32 : BitVec 32 := 0#32
  let v4 : BitVec 1 := Scalar.cmpi .sgt v3 c0_i32
  let v5 : BitVec 32 := Scalar.extui v4
  let c0_i32_0 : BitVec 32 := 0#32
  let v6 : BitVec 1 := Scalar.cmpi .ne v5 c0_i32_0
  v6

def k1_off3 (v10 : BitVec 32) : Fin 2 → Nat :=
  let v11 : Index := Scalar.indexCast v10
  let c0 : Index := 0#32
  ![v11.toNat, 0]

def k1_chk2 (v3 : BitVec 32) (v10 : BitVec 32) : Prop :=
  (∀ (k1_h1 : k1_cond1 v3 = 1#1), ∀ a, (k1_off3 v10) a + S1x64.size a ≤ S2048x64.size a)
theorem k1_off3_inb : ∀ (v3 : BitVec 32) (v10 : BitVec 32) (k1_hw2 : k1_chk2 v3 v10), ∀ (k1_h1 : k1_cond1 v3 = 1#1), ∀ a, (k1_off3 v10) a + S1x64.size a ≤ S2048x64.size a := fun v3 v10 k1_hw2 k1_h1 => k1_hw2 k1_h1

def k1_off4 (v1 : BitVec 32) : Fin 1 → Nat :=
  let c1_i32 : BitVec 32 := 1#32
  let v17 : BitVec 32 := Scalar.addi v1 c1_i32
  let c2047_i32_4 : BitVec 32 := 2047#32
  let v18 : BitVec 32 := Scalar.minsi v17 c2047_i32_4
  let v19 : Index := Scalar.indexCast v18
  ![v19.toNat]
def k1_off5 (v20 : BitVec 32) : Fin 2 → Nat :=
  let v21 : Index := Scalar.indexCast v20
  let c0_5 : Index := 0#32
  ![v21.toNat, 0]

def k1_chk3 (v3 : BitVec 32) (v20 : BitVec 32) : Prop :=
  (∀ (k1_h1 : k1_cond1 v3 = 1#1), ∀ a, (k1_off5 v20) a + S1x64.size a ≤ S2048x64.size a)
theorem k1_off5_inb : ∀ (v3 : BitVec 32) (v20 : BitVec 32) (k1_hw3 : k1_chk3 v3 v20), ∀ (k1_h1 : k1_cond1 v3 = 1#1), ∀ a, (k1_off5 v20) a + S1x64.size a ≤ S2048x64.size a := fun v3 v20 k1_hw3 k1_h1 => k1_hw3 k1_h1

def k1_off6 (v1 : BitVec 32) : Fin 1 → Nat :=
  let c2_i32 : BitVec 32 := 2#32
  let v27 : BitVec 32 := Scalar.addi v1 c2_i32
  let c2047_i32_7 : BitVec 32 := 2047#32
  let v28 : BitVec 32 := Scalar.minsi v27 c2047_i32_7
  let v29 : Index := Scalar.indexCast v28
  ![v29.toNat]
def k1_off7 (v30 : BitVec 32) : Fin 2 → Nat :=
  let v31 : Index := Scalar.indexCast v30
  let c0_8 : Index := 0#32
  ![v31.toNat, 0]

def k1_chk4 (v3 : BitVec 32) (v30 : BitVec 32) : Prop :=
  (∀ (k1_h1 : k1_cond1 v3 = 1#1), ∀ a, (k1_off7 v30) a + S1x64.size a ≤ S2048x64.size a)
theorem k1_off7_inb : ∀ (v3 : BitVec 32) (v30 : BitVec 32) (k1_hw4 : k1_chk4 v3 v30), ∀ (k1_h1 : k1_cond1 v3 = 1#1), ∀ a, (k1_off7 v30) a + S1x64.size a ≤ S2048x64.size a := fun v3 v30 k1_hw4 k1_h1 => k1_hw4 k1_h1

def k1_off8 (v1 : BitVec 32) : Fin 1 → Nat :=
  let c3_i32 : BitVec 32 := 3#32
  let v37 : BitVec 32 := Scalar.addi v1 c3_i32
  let c2047_i32_10 : BitVec 32 := 2047#32
  let v38 : BitVec 32 := Scalar.minsi v37 c2047_i32_10
  let v39 : Index := Scalar.indexCast v38
  ![v39.toNat]
def k1_off9 (v40 : BitVec 32) : Fin 2 → Nat :=
  let v41 : Index := Scalar.indexCast v40
  let c0_11 : Index := 0#32
  ![v41.toNat, 0]

def k1_chk5 (v3 : BitVec 32) (v40 : BitVec 32) : Prop :=
  (∀ (k1_h1 : k1_cond1 v3 = 1#1), ∀ a, (k1_off9 v40) a + S1x64.size a ≤ S2048x64.size a)
theorem k1_off9_inb : ∀ (v3 : BitVec 32) (v40 : BitVec 32) (k1_hw5 : k1_chk5 v3 v40), ∀ (k1_h1 : k1_cond1 v3 = 1#1), ∀ a, (k1_off9 v40) a + S1x64.size a ≤ S2048x64.size a := fun v3 v40 k1_hw5 k1_h1 => k1_hw5 k1_h1

def k1_off10 (v1 : BitVec 32) : Fin 1 → Nat :=
  let c4_i32 : BitVec 32 := 4#32
  let v47 : BitVec 32 := Scalar.addi v1 c4_i32
  let c2047_i32_13 : BitVec 32 := 2047#32
  let v48 : BitVec 32 := Scalar.minsi v47 c2047_i32_13
  let v49 : Index := Scalar.indexCast v48
  ![v49.toNat]
def k1_off11 (v50 : BitVec 32) : Fin 2 → Nat :=
  let v51 : Index := Scalar.indexCast v50
  let c0_14 : Index := 0#32
  ![v51.toNat, 0]

def k1_chk6 (v3 : BitVec 32) (v50 : BitVec 32) : Prop :=
  (∀ (k1_h1 : k1_cond1 v3 = 1#1), ∀ a, (k1_off11 v50) a + S1x64.size a ≤ S2048x64.size a)
theorem k1_off11_inb : ∀ (v3 : BitVec 32) (v50 : BitVec 32) (k1_hw6 : k1_chk6 v3 v50), ∀ (k1_h1 : k1_cond1 v3 = 1#1), ∀ a, (k1_off11 v50) a + S1x64.size a ≤ S2048x64.size a := fun v3 v50 k1_hw6 k1_h1 => k1_hw6 k1_h1

def k1_off12 (v1 : BitVec 32) : Fin 1 → Nat :=
  let c5_i32 : BitVec 32 := 5#32
  let v57 : BitVec 32 := Scalar.addi v1 c5_i32
  let c2047_i32_16 : BitVec 32 := 2047#32
  let v58 : BitVec 32 := Scalar.minsi v57 c2047_i32_16
  let v59 : Index := Scalar.indexCast v58
  ![v59.toNat]
def k1_off13 (v60 : BitVec 32) : Fin 2 → Nat :=
  let v61 : Index := Scalar.indexCast v60
  let c0_17 : Index := 0#32
  ![v61.toNat, 0]

def k1_chk7 (v3 : BitVec 32) (v60 : BitVec 32) : Prop :=
  (∀ (k1_h1 : k1_cond1 v3 = 1#1), ∀ a, (k1_off13 v60) a + S1x64.size a ≤ S2048x64.size a)
theorem k1_off13_inb : ∀ (v3 : BitVec 32) (v60 : BitVec 32) (k1_hw7 : k1_chk7 v3 v60), ∀ (k1_h1 : k1_cond1 v3 = 1#1), ∀ a, (k1_off13 v60) a + S1x64.size a ≤ S2048x64.size a := fun v3 v60 k1_hw7 k1_h1 => k1_hw7 k1_h1

def k1_off14 (v1 : BitVec 32) : Fin 1 → Nat :=
  let c6_i32 : BitVec 32 := 6#32
  let v67 : BitVec 32 := Scalar.addi v1 c6_i32
  let c2047_i32_19 : BitVec 32 := 2047#32
  let v68 : BitVec 32 := Scalar.minsi v67 c2047_i32_19
  let v69 : Index := Scalar.indexCast v68
  ![v69.toNat]
def k1_off15 (v70 : BitVec 32) : Fin 2 → Nat :=
  let v71 : Index := Scalar.indexCast v70
  let c0_20 : Index := 0#32
  ![v71.toNat, 0]

def k1_chk8 (v3 : BitVec 32) (v70 : BitVec 32) : Prop :=
  (∀ (k1_h1 : k1_cond1 v3 = 1#1), ∀ a, (k1_off15 v70) a + S1x64.size a ≤ S2048x64.size a)
theorem k1_off15_inb : ∀ (v3 : BitVec 32) (v70 : BitVec 32) (k1_hw8 : k1_chk8 v3 v70), ∀ (k1_h1 : k1_cond1 v3 = 1#1), ∀ a, (k1_off15 v70) a + S1x64.size a ≤ S2048x64.size a := fun v3 v70 k1_hw8 k1_h1 => k1_hw8 k1_h1

def k1_off16 (v1 : BitVec 32) : Fin 1 → Nat :=
  let c7_i32 : BitVec 32 := 7#32
  let v77 : BitVec 32 := Scalar.addi v1 c7_i32
  let c2047_i32_22 : BitVec 32 := 2047#32
  let v78 : BitVec 32 := Scalar.minsi v77 c2047_i32_22
  let v79 : Index := Scalar.indexCast v78
  ![v79.toNat]
def k1_off17 (v80 : BitVec 32) : Fin 2 → Nat :=
  let v81 : Index := Scalar.indexCast v80
  let c0_23 : Index := 0#32
  ![v81.toNat, 0]

def k1_chk9 (v3 : BitVec 32) (v80 : BitVec 32) : Prop :=
  (∀ (k1_h1 : k1_cond1 v3 = 1#1), ∀ a, (k1_off17 v80) a + S1x64.size a ≤ S2048x64.size a)
theorem k1_off17_inb : ∀ (v3 : BitVec 32) (v80 : BitVec 32) (k1_hw9 : k1_chk9 v3 v80), ∀ (k1_h1 : k1_cond1 v3 = 1#1), ∀ a, (k1_off17 v80) a + S1x64.size a ≤ S2048x64.size a := fun v3 v80 k1_hw9 k1_h1 => k1_hw9 k1_h1

def k1_off18 (v1 : BitVec 32) : Fin 1 → Nat :=
  let c8_i32 : BitVec 32 := 8#32
  let v87 : BitVec 32 := Scalar.addi v1 c8_i32
  let c2047_i32_25 : BitVec 32 := 2047#32
  let v88 : BitVec 32 := Scalar.minsi v87 c2047_i32_25
  let v89 : Index := Scalar.indexCast v88
  ![v89.toNat]
def k1_off19 (v90 : BitVec 32) : Fin 2 → Nat :=
  let v91 : Index := Scalar.indexCast v90
  let c0_26 : Index := 0#32
  ![v91.toNat, 0]

def k1_chk10 (v3 : BitVec 32) (v90 : BitVec 32) : Prop :=
  (∀ (k1_h1 : k1_cond1 v3 = 1#1), ∀ a, (k1_off19 v90) a + S1x64.size a ≤ S2048x64.size a)
theorem k1_off19_inb : ∀ (v3 : BitVec 32) (v90 : BitVec 32) (k1_hw10 : k1_chk10 v3 v90), ∀ (k1_h1 : k1_cond1 v3 = 1#1), ∀ a, (k1_off19 v90) a + S1x64.size a ≤ S2048x64.size a := fun v3 v90 k1_hw10 k1_h1 => k1_hw10 k1_h1

def k1_off20 (v1 : BitVec 32) : Fin 1 → Nat :=
  let c9_i32 : BitVec 32 := 9#32
  let v97 : BitVec 32 := Scalar.addi v1 c9_i32
  let c2047_i32_28 : BitVec 32 := 2047#32
  let v98 : BitVec 32 := Scalar.minsi v97 c2047_i32_28
  let v99 : Index := Scalar.indexCast v98
  ![v99.toNat]
def k1_off21 (v100 : BitVec 32) : Fin 2 → Nat :=
  let v101 : Index := Scalar.indexCast v100
  let c0_29 : Index := 0#32
  ![v101.toNat, 0]

def k1_chk11 (v3 : BitVec 32) (v100 : BitVec 32) : Prop :=
  (∀ (k1_h1 : k1_cond1 v3 = 1#1), ∀ a, (k1_off21 v100) a + S1x64.size a ≤ S2048x64.size a)
theorem k1_off21_inb : ∀ (v3 : BitVec 32) (v100 : BitVec 32) (k1_hw11 : k1_chk11 v3 v100), ∀ (k1_h1 : k1_cond1 v3 = 1#1), ∀ a, (k1_off21 v100) a + S1x64.size a ≤ S2048x64.size a := fun v3 v100 k1_hw11 k1_h1 => k1_hw11 k1_h1

def k1_off22 (v1 : BitVec 32) : Fin 1 → Nat :=
  let c10_i32 : BitVec 32 := 10#32
  let v107 : BitVec 32 := Scalar.addi v1 c10_i32
  let c2047_i32_31 : BitVec 32 := 2047#32
  let v108 : BitVec 32 := Scalar.minsi v107 c2047_i32_31
  let v109 : Index := Scalar.indexCast v108
  ![v109.toNat]
def k1_off23 (v110 : BitVec 32) : Fin 2 → Nat :=
  let v111 : Index := Scalar.indexCast v110
  let c0_32 : Index := 0#32
  ![v111.toNat, 0]

def k1_chk12 (v3 : BitVec 32) (v110 : BitVec 32) : Prop :=
  (∀ (k1_h1 : k1_cond1 v3 = 1#1), ∀ a, (k1_off23 v110) a + S1x64.size a ≤ S2048x64.size a)
theorem k1_off23_inb : ∀ (v3 : BitVec 32) (v110 : BitVec 32) (k1_hw12 : k1_chk12 v3 v110), ∀ (k1_h1 : k1_cond1 v3 = 1#1), ∀ a, (k1_off23 v110) a + S1x64.size a ≤ S2048x64.size a := fun v3 v110 k1_hw12 k1_h1 => k1_hw12 k1_h1

def k1_off24 (v1 : BitVec 32) : Fin 1 → Nat :=
  let c11_i32 : BitVec 32 := 11#32
  let v117 : BitVec 32 := Scalar.addi v1 c11_i32
  let c2047_i32_34 : BitVec 32 := 2047#32
  let v118 : BitVec 32 := Scalar.minsi v117 c2047_i32_34
  let v119 : Index := Scalar.indexCast v118
  ![v119.toNat]
def k1_off25 (v120 : BitVec 32) : Fin 2 → Nat :=
  let v121 : Index := Scalar.indexCast v120
  let c0_35 : Index := 0#32
  ![v121.toNat, 0]

def k1_chk13 (v3 : BitVec 32) (v120 : BitVec 32) : Prop :=
  (∀ (k1_h1 : k1_cond1 v3 = 1#1), ∀ a, (k1_off25 v120) a + S1x64.size a ≤ S2048x64.size a)
theorem k1_off25_inb : ∀ (v3 : BitVec 32) (v120 : BitVec 32) (k1_hw13 : k1_chk13 v3 v120), ∀ (k1_h1 : k1_cond1 v3 = 1#1), ∀ a, (k1_off25 v120) a + S1x64.size a ≤ S2048x64.size a := fun v3 v120 k1_hw13 k1_h1 => k1_hw13 k1_h1

def k1_off26 (v1 : BitVec 32) : Fin 1 → Nat :=
  let c12_i32 : BitVec 32 := 12#32
  let v127 : BitVec 32 := Scalar.addi v1 c12_i32
  let c2047_i32_37 : BitVec 32 := 2047#32
  let v128 : BitVec 32 := Scalar.minsi v127 c2047_i32_37
  let v129 : Index := Scalar.indexCast v128
  ![v129.toNat]
def k1_off27 (v130 : BitVec 32) : Fin 2 → Nat :=
  let v131 : Index := Scalar.indexCast v130
  let c0_38 : Index := 0#32
  ![v131.toNat, 0]

def k1_chk14 (v3 : BitVec 32) (v130 : BitVec 32) : Prop :=
  (∀ (k1_h1 : k1_cond1 v3 = 1#1), ∀ a, (k1_off27 v130) a + S1x64.size a ≤ S2048x64.size a)
theorem k1_off27_inb : ∀ (v3 : BitVec 32) (v130 : BitVec 32) (k1_hw14 : k1_chk14 v3 v130), ∀ (k1_h1 : k1_cond1 v3 = 1#1), ∀ a, (k1_off27 v130) a + S1x64.size a ≤ S2048x64.size a := fun v3 v130 k1_hw14 k1_h1 => k1_hw14 k1_h1

def k1_off28 (v1 : BitVec 32) : Fin 1 → Nat :=
  let c13_i32 : BitVec 32 := 13#32
  let v137 : BitVec 32 := Scalar.addi v1 c13_i32
  let c2047_i32_40 : BitVec 32 := 2047#32
  let v138 : BitVec 32 := Scalar.minsi v137 c2047_i32_40
  let v139 : Index := Scalar.indexCast v138
  ![v139.toNat]
def k1_off29 (v140 : BitVec 32) : Fin 2 → Nat :=
  let v141 : Index := Scalar.indexCast v140
  let c0_41 : Index := 0#32
  ![v141.toNat, 0]

def k1_chk15 (v3 : BitVec 32) (v140 : BitVec 32) : Prop :=
  (∀ (k1_h1 : k1_cond1 v3 = 1#1), ∀ a, (k1_off29 v140) a + S1x64.size a ≤ S2048x64.size a)
theorem k1_off29_inb : ∀ (v3 : BitVec 32) (v140 : BitVec 32) (k1_hw15 : k1_chk15 v3 v140), ∀ (k1_h1 : k1_cond1 v3 = 1#1), ∀ a, (k1_off29 v140) a + S1x64.size a ≤ S2048x64.size a := fun v3 v140 k1_hw15 k1_h1 => k1_hw15 k1_h1

def k1_off30 (v1 : BitVec 32) : Fin 1 → Nat :=
  let c14_i32 : BitVec 32 := 14#32
  let v147 : BitVec 32 := Scalar.addi v1 c14_i32
  let c2047_i32_43 : BitVec 32 := 2047#32
  let v148 : BitVec 32 := Scalar.minsi v147 c2047_i32_43
  let v149 : Index := Scalar.indexCast v148
  ![v149.toNat]
def k1_off31 (v150 : BitVec 32) : Fin 2 → Nat :=
  let v151 : Index := Scalar.indexCast v150
  let c0_44 : Index := 0#32
  ![v151.toNat, 0]

def k1_chk16 (v3 : BitVec 32) (v150 : BitVec 32) : Prop :=
  (∀ (k1_h1 : k1_cond1 v3 = 1#1), ∀ a, (k1_off31 v150) a + S1x64.size a ≤ S2048x64.size a)
theorem k1_off31_inb : ∀ (v3 : BitVec 32) (v150 : BitVec 32) (k1_hw16 : k1_chk16 v3 v150), ∀ (k1_h1 : k1_cond1 v3 = 1#1), ∀ a, (k1_off31 v150) a + S1x64.size a ≤ S2048x64.size a := fun v3 v150 k1_hw16 k1_h1 => k1_hw16 k1_h1

def k1_off32 (v1 : BitVec 32) : Fin 1 → Nat :=
  let c15_i32 : BitVec 32 := 15#32
  let v157 : BitVec 32 := Scalar.addi v1 c15_i32
  let c2047_i32_46 : BitVec 32 := 2047#32
  let v158 : BitVec 32 := Scalar.minsi v157 c2047_i32_46
  let v159 : Index := Scalar.indexCast v158
  ![v159.toNat]
def k1_off33 (v160 : BitVec 32) : Fin 2 → Nat :=
  let v161 : Index := Scalar.indexCast v160
  let c0_47 : Index := 0#32
  ![v161.toNat, 0]

def k1_chk17 (v3 : BitVec 32) (v160 : BitVec 32) : Prop :=
  (∀ (k1_h1 : k1_cond1 v3 = 1#1), ∀ a, (k1_off33 v160) a + S1x64.size a ≤ S2048x64.size a)
theorem k1_off33_inb : ∀ (v3 : BitVec 32) (v160 : BitVec 32) (k1_hw17 : k1_chk17 v3 v160), ∀ (k1_h1 : k1_cond1 v3 = 1#1), ∀ a, (k1_off33 v160) a + S1x64.size a ≤ S2048x64.size a := fun v3 v160 k1_hw17 k1_h1 => k1_hw17 k1_h1

def k1_off34 (v1 : BitVec 32) : Fin 1 → Nat :=
  let c0_i32_93 : BitVec 32 := 0#32
  let v283 : BitVec 32 := Scalar.addi v1 c0_i32_93
  let c2047_i32_125 : BitVec 32 := 2047#32
  let v347 : BitVec 32 := Scalar.minsi v283 c2047_i32_125
  let v349 : Index := Scalar.indexCast v347
  ![v349.toNat]
def k1_cond2 (v1 : BitVec 32) (v3 : BitVec 32) : BitVec 1 :=
  let c0_i32_93 : BitVec 32 := 0#32
  let v283 : BitVec 32 := Scalar.addi v1 c0_i32_93
  let v284 : BitVec 1 := Scalar.cmpi .slt v283 v3
  let v285 : BitVec 32 := Scalar.extui v284
  let c0_i32_94 : BitVec 32 := 0#32
  let v286 : BitVec 1 := Scalar.cmpi .ne v285 c0_i32_94
  v286

def k1_off35 (v350 : BitVec 32) : Fin 2 → Nat :=
  let v351 : Index := Scalar.indexCast v350
  let c0_126 : Index := 0#32
  ![v351.toNat, 0]

def k1_chk18 (v1 : BitVec 32) (v3 : BitVec 32) (v350 : BitVec 32) : Prop :=
  (∀ (k1_h1 : k1_cond1 v3 = 1#1), ∀ (k1_h2 : k1_cond2 v1 v3 = 1#1), ∀ a, (k1_off35 v350) a + S1x32.size a ≤ S2048x32.size a)
theorem k1_off35_inb : ∀ (v1 : BitVec 32) (v3 : BitVec 32) (v350 : BitVec 32) (k1_hw18 : k1_chk18 v1 v3 v350), ∀ (k1_h1 : k1_cond1 v3 = 1#1), ∀ (k1_h2 : k1_cond2 v1 v3 = 1#1), ∀ a, (k1_off35 v350) a + S1x32.size a ≤ S2048x32.size a := fun v1 v3 v350 k1_hw18 k1_h1 k1_h2 => k1_hw18 k1_h1 k1_h2

def k1_off36 (v1 : BitVec 32) : Fin 1 → Nat :=
  let c1_i32_95 : BitVec 32 := 1#32
  let v287 : BitVec 32 := Scalar.addi v1 c1_i32_95
  let c2047_i32_125 : BitVec 32 := 2047#32
  let v347 : BitVec 32 := Scalar.minsi v287 c2047_i32_125
  let v349 : Index := Scalar.indexCast v347
  ![v349.toNat]
def k1_cond3 (v1 : BitVec 32) (v3 : BitVec 32) : BitVec 1 :=
  let c1_i32_95 : BitVec 32 := 1#32
  let v287 : BitVec 32 := Scalar.addi v1 c1_i32_95
  let v288 : BitVec 1 := Scalar.cmpi .slt v287 v3
  let v289 : BitVec 32 := Scalar.extui v288
  let c0_i32_96 : BitVec 32 := 0#32
  let v290 : BitVec 1 := Scalar.cmpi .ne v289 c0_i32_96
  v290

def k1_off37 (v350 : BitVec 32) : Fin 2 → Nat :=
  let v351 : Index := Scalar.indexCast v350
  let c0_126 : Index := 0#32
  ![v351.toNat, 0]

def k1_chk19 (v1 : BitVec 32) (v3 : BitVec 32) (v350 : BitVec 32) : Prop :=
  (∀ (k1_h1 : k1_cond1 v3 = 1#1), ∀ (k1_h3 : k1_cond3 v1 v3 = 1#1), ∀ a, (k1_off37 v350) a + S1x32.size a ≤ S2048x32.size a)
theorem k1_off37_inb : ∀ (v1 : BitVec 32) (v3 : BitVec 32) (v350 : BitVec 32) (k1_hw19 : k1_chk19 v1 v3 v350), ∀ (k1_h1 : k1_cond1 v3 = 1#1), ∀ (k1_h3 : k1_cond3 v1 v3 = 1#1), ∀ a, (k1_off37 v350) a + S1x32.size a ≤ S2048x32.size a := fun v1 v3 v350 k1_hw19 k1_h1 k1_h3 => k1_hw19 k1_h1 k1_h3

def k1_off38 (v1 : BitVec 32) : Fin 1 → Nat :=
  let c2_i32_97 : BitVec 32 := 2#32
  let v291 : BitVec 32 := Scalar.addi v1 c2_i32_97
  let c2047_i32_125 : BitVec 32 := 2047#32
  let v347 : BitVec 32 := Scalar.minsi v291 c2047_i32_125
  let v349 : Index := Scalar.indexCast v347
  ![v349.toNat]
def k1_cond4 (v1 : BitVec 32) (v3 : BitVec 32) : BitVec 1 :=
  let c2_i32_97 : BitVec 32 := 2#32
  let v291 : BitVec 32 := Scalar.addi v1 c2_i32_97
  let v292 : BitVec 1 := Scalar.cmpi .slt v291 v3
  let v293 : BitVec 32 := Scalar.extui v292
  let c0_i32_98 : BitVec 32 := 0#32
  let v294 : BitVec 1 := Scalar.cmpi .ne v293 c0_i32_98
  v294

def k1_off39 (v350 : BitVec 32) : Fin 2 → Nat :=
  let v351 : Index := Scalar.indexCast v350
  let c0_126 : Index := 0#32
  ![v351.toNat, 0]

def k1_chk20 (v1 : BitVec 32) (v3 : BitVec 32) (v350 : BitVec 32) : Prop :=
  (∀ (k1_h1 : k1_cond1 v3 = 1#1), ∀ (k1_h4 : k1_cond4 v1 v3 = 1#1), ∀ a, (k1_off39 v350) a + S1x32.size a ≤ S2048x32.size a)
theorem k1_off39_inb : ∀ (v1 : BitVec 32) (v3 : BitVec 32) (v350 : BitVec 32) (k1_hw20 : k1_chk20 v1 v3 v350), ∀ (k1_h1 : k1_cond1 v3 = 1#1), ∀ (k1_h4 : k1_cond4 v1 v3 = 1#1), ∀ a, (k1_off39 v350) a + S1x32.size a ≤ S2048x32.size a := fun v1 v3 v350 k1_hw20 k1_h1 k1_h4 => k1_hw20 k1_h1 k1_h4

def k1_off40 (v1 : BitVec 32) : Fin 1 → Nat :=
  let c3_i32_99 : BitVec 32 := 3#32
  let v295 : BitVec 32 := Scalar.addi v1 c3_i32_99
  let c2047_i32_125 : BitVec 32 := 2047#32
  let v347 : BitVec 32 := Scalar.minsi v295 c2047_i32_125
  let v349 : Index := Scalar.indexCast v347
  ![v349.toNat]
def k1_cond5 (v1 : BitVec 32) (v3 : BitVec 32) : BitVec 1 :=
  let c3_i32_99 : BitVec 32 := 3#32
  let v295 : BitVec 32 := Scalar.addi v1 c3_i32_99
  let v296 : BitVec 1 := Scalar.cmpi .slt v295 v3
  let v297 : BitVec 32 := Scalar.extui v296
  let c0_i32_100 : BitVec 32 := 0#32
  let v298 : BitVec 1 := Scalar.cmpi .ne v297 c0_i32_100
  v298

def k1_off41 (v350 : BitVec 32) : Fin 2 → Nat :=
  let v351 : Index := Scalar.indexCast v350
  let c0_126 : Index := 0#32
  ![v351.toNat, 0]

def k1_chk21 (v1 : BitVec 32) (v3 : BitVec 32) (v350 : BitVec 32) : Prop :=
  (∀ (k1_h1 : k1_cond1 v3 = 1#1), ∀ (k1_h5 : k1_cond5 v1 v3 = 1#1), ∀ a, (k1_off41 v350) a + S1x32.size a ≤ S2048x32.size a)
theorem k1_off41_inb : ∀ (v1 : BitVec 32) (v3 : BitVec 32) (v350 : BitVec 32) (k1_hw21 : k1_chk21 v1 v3 v350), ∀ (k1_h1 : k1_cond1 v3 = 1#1), ∀ (k1_h5 : k1_cond5 v1 v3 = 1#1), ∀ a, (k1_off41 v350) a + S1x32.size a ≤ S2048x32.size a := fun v1 v3 v350 k1_hw21 k1_h1 k1_h5 => k1_hw21 k1_h1 k1_h5

def k1_off42 (v1 : BitVec 32) : Fin 1 → Nat :=
  let c4_i32_101 : BitVec 32 := 4#32
  let v299 : BitVec 32 := Scalar.addi v1 c4_i32_101
  let c2047_i32_125 : BitVec 32 := 2047#32
  let v347 : BitVec 32 := Scalar.minsi v299 c2047_i32_125
  let v349 : Index := Scalar.indexCast v347
  ![v349.toNat]
def k1_cond6 (v1 : BitVec 32) (v3 : BitVec 32) : BitVec 1 :=
  let c4_i32_101 : BitVec 32 := 4#32
  let v299 : BitVec 32 := Scalar.addi v1 c4_i32_101
  let v300 : BitVec 1 := Scalar.cmpi .slt v299 v3
  let v301 : BitVec 32 := Scalar.extui v300
  let c0_i32_102 : BitVec 32 := 0#32
  let v302 : BitVec 1 := Scalar.cmpi .ne v301 c0_i32_102
  v302

def k1_off43 (v350 : BitVec 32) : Fin 2 → Nat :=
  let v351 : Index := Scalar.indexCast v350
  let c0_126 : Index := 0#32
  ![v351.toNat, 0]

def k1_chk22 (v1 : BitVec 32) (v3 : BitVec 32) (v350 : BitVec 32) : Prop :=
  (∀ (k1_h1 : k1_cond1 v3 = 1#1), ∀ (k1_h6 : k1_cond6 v1 v3 = 1#1), ∀ a, (k1_off43 v350) a + S1x32.size a ≤ S2048x32.size a)
theorem k1_off43_inb : ∀ (v1 : BitVec 32) (v3 : BitVec 32) (v350 : BitVec 32) (k1_hw22 : k1_chk22 v1 v3 v350), ∀ (k1_h1 : k1_cond1 v3 = 1#1), ∀ (k1_h6 : k1_cond6 v1 v3 = 1#1), ∀ a, (k1_off43 v350) a + S1x32.size a ≤ S2048x32.size a := fun v1 v3 v350 k1_hw22 k1_h1 k1_h6 => k1_hw22 k1_h1 k1_h6

def k1_off44 (v1 : BitVec 32) : Fin 1 → Nat :=
  let c5_i32_103 : BitVec 32 := 5#32
  let v303 : BitVec 32 := Scalar.addi v1 c5_i32_103
  let c2047_i32_125 : BitVec 32 := 2047#32
  let v347 : BitVec 32 := Scalar.minsi v303 c2047_i32_125
  let v349 : Index := Scalar.indexCast v347
  ![v349.toNat]
def k1_cond7 (v1 : BitVec 32) (v3 : BitVec 32) : BitVec 1 :=
  let c5_i32_103 : BitVec 32 := 5#32
  let v303 : BitVec 32 := Scalar.addi v1 c5_i32_103
  let v304 : BitVec 1 := Scalar.cmpi .slt v303 v3
  let v305 : BitVec 32 := Scalar.extui v304
  let c0_i32_104 : BitVec 32 := 0#32
  let v306 : BitVec 1 := Scalar.cmpi .ne v305 c0_i32_104
  v306

def k1_off45 (v350 : BitVec 32) : Fin 2 → Nat :=
  let v351 : Index := Scalar.indexCast v350
  let c0_126 : Index := 0#32
  ![v351.toNat, 0]

def k1_chk23 (v1 : BitVec 32) (v3 : BitVec 32) (v350 : BitVec 32) : Prop :=
  (∀ (k1_h1 : k1_cond1 v3 = 1#1), ∀ (k1_h7 : k1_cond7 v1 v3 = 1#1), ∀ a, (k1_off45 v350) a + S1x32.size a ≤ S2048x32.size a)
theorem k1_off45_inb : ∀ (v1 : BitVec 32) (v3 : BitVec 32) (v350 : BitVec 32) (k1_hw23 : k1_chk23 v1 v3 v350), ∀ (k1_h1 : k1_cond1 v3 = 1#1), ∀ (k1_h7 : k1_cond7 v1 v3 = 1#1), ∀ a, (k1_off45 v350) a + S1x32.size a ≤ S2048x32.size a := fun v1 v3 v350 k1_hw23 k1_h1 k1_h7 => k1_hw23 k1_h1 k1_h7

def k1_off46 (v1 : BitVec 32) : Fin 1 → Nat :=
  let c6_i32_105 : BitVec 32 := 6#32
  let v307 : BitVec 32 := Scalar.addi v1 c6_i32_105
  let c2047_i32_125 : BitVec 32 := 2047#32
  let v347 : BitVec 32 := Scalar.minsi v307 c2047_i32_125
  let v349 : Index := Scalar.indexCast v347
  ![v349.toNat]
def k1_cond8 (v1 : BitVec 32) (v3 : BitVec 32) : BitVec 1 :=
  let c6_i32_105 : BitVec 32 := 6#32
  let v307 : BitVec 32 := Scalar.addi v1 c6_i32_105
  let v308 : BitVec 1 := Scalar.cmpi .slt v307 v3
  let v309 : BitVec 32 := Scalar.extui v308
  let c0_i32_106 : BitVec 32 := 0#32
  let v310 : BitVec 1 := Scalar.cmpi .ne v309 c0_i32_106
  v310

def k1_off47 (v350 : BitVec 32) : Fin 2 → Nat :=
  let v351 : Index := Scalar.indexCast v350
  let c0_126 : Index := 0#32
  ![v351.toNat, 0]

def k1_chk24 (v1 : BitVec 32) (v3 : BitVec 32) (v350 : BitVec 32) : Prop :=
  (∀ (k1_h1 : k1_cond1 v3 = 1#1), ∀ (k1_h8 : k1_cond8 v1 v3 = 1#1), ∀ a, (k1_off47 v350) a + S1x32.size a ≤ S2048x32.size a)
theorem k1_off47_inb : ∀ (v1 : BitVec 32) (v3 : BitVec 32) (v350 : BitVec 32) (k1_hw24 : k1_chk24 v1 v3 v350), ∀ (k1_h1 : k1_cond1 v3 = 1#1), ∀ (k1_h8 : k1_cond8 v1 v3 = 1#1), ∀ a, (k1_off47 v350) a + S1x32.size a ≤ S2048x32.size a := fun v1 v3 v350 k1_hw24 k1_h1 k1_h8 => k1_hw24 k1_h1 k1_h8

def k1_off48 (v1 : BitVec 32) : Fin 1 → Nat :=
  let c7_i32_107 : BitVec 32 := 7#32
  let v311 : BitVec 32 := Scalar.addi v1 c7_i32_107
  let c2047_i32_125 : BitVec 32 := 2047#32
  let v347 : BitVec 32 := Scalar.minsi v311 c2047_i32_125
  let v349 : Index := Scalar.indexCast v347
  ![v349.toNat]
def k1_cond9 (v1 : BitVec 32) (v3 : BitVec 32) : BitVec 1 :=
  let c7_i32_107 : BitVec 32 := 7#32
  let v311 : BitVec 32 := Scalar.addi v1 c7_i32_107
  let v312 : BitVec 1 := Scalar.cmpi .slt v311 v3
  let v313 : BitVec 32 := Scalar.extui v312
  let c0_i32_108 : BitVec 32 := 0#32
  let v314 : BitVec 1 := Scalar.cmpi .ne v313 c0_i32_108
  v314

def k1_off49 (v350 : BitVec 32) : Fin 2 → Nat :=
  let v351 : Index := Scalar.indexCast v350
  let c0_126 : Index := 0#32
  ![v351.toNat, 0]

def k1_chk25 (v1 : BitVec 32) (v3 : BitVec 32) (v350 : BitVec 32) : Prop :=
  (∀ (k1_h1 : k1_cond1 v3 = 1#1), ∀ (k1_h9 : k1_cond9 v1 v3 = 1#1), ∀ a, (k1_off49 v350) a + S1x32.size a ≤ S2048x32.size a)
theorem k1_off49_inb : ∀ (v1 : BitVec 32) (v3 : BitVec 32) (v350 : BitVec 32) (k1_hw25 : k1_chk25 v1 v3 v350), ∀ (k1_h1 : k1_cond1 v3 = 1#1), ∀ (k1_h9 : k1_cond9 v1 v3 = 1#1), ∀ a, (k1_off49 v350) a + S1x32.size a ≤ S2048x32.size a := fun v1 v3 v350 k1_hw25 k1_h1 k1_h9 => k1_hw25 k1_h1 k1_h9

def k1_off50 (v1 : BitVec 32) : Fin 1 → Nat :=
  let c8_i32_109 : BitVec 32 := 8#32
  let v315 : BitVec 32 := Scalar.addi v1 c8_i32_109
  let c2047_i32_125 : BitVec 32 := 2047#32
  let v347 : BitVec 32 := Scalar.minsi v315 c2047_i32_125
  let v349 : Index := Scalar.indexCast v347
  ![v349.toNat]
def k1_cond10 (v1 : BitVec 32) (v3 : BitVec 32) : BitVec 1 :=
  let c8_i32_109 : BitVec 32 := 8#32
  let v315 : BitVec 32 := Scalar.addi v1 c8_i32_109
  let v316 : BitVec 1 := Scalar.cmpi .slt v315 v3
  let v317 : BitVec 32 := Scalar.extui v316
  let c0_i32_110 : BitVec 32 := 0#32
  let v318 : BitVec 1 := Scalar.cmpi .ne v317 c0_i32_110
  v318

def k1_off51 (v350 : BitVec 32) : Fin 2 → Nat :=
  let v351 : Index := Scalar.indexCast v350
  let c0_126 : Index := 0#32
  ![v351.toNat, 0]

def k1_chk26 (v1 : BitVec 32) (v3 : BitVec 32) (v350 : BitVec 32) : Prop :=
  (∀ (k1_h1 : k1_cond1 v3 = 1#1), ∀ (k1_h10 : k1_cond10 v1 v3 = 1#1), ∀ a, (k1_off51 v350) a + S1x32.size a ≤ S2048x32.size a)
theorem k1_off51_inb : ∀ (v1 : BitVec 32) (v3 : BitVec 32) (v350 : BitVec 32) (k1_hw26 : k1_chk26 v1 v3 v350), ∀ (k1_h1 : k1_cond1 v3 = 1#1), ∀ (k1_h10 : k1_cond10 v1 v3 = 1#1), ∀ a, (k1_off51 v350) a + S1x32.size a ≤ S2048x32.size a := fun v1 v3 v350 k1_hw26 k1_h1 k1_h10 => k1_hw26 k1_h1 k1_h10

def k1_off52 (v1 : BitVec 32) : Fin 1 → Nat :=
  let c9_i32_111 : BitVec 32 := 9#32
  let v319 : BitVec 32 := Scalar.addi v1 c9_i32_111
  let c2047_i32_125 : BitVec 32 := 2047#32
  let v347 : BitVec 32 := Scalar.minsi v319 c2047_i32_125
  let v349 : Index := Scalar.indexCast v347
  ![v349.toNat]
def k1_cond11 (v1 : BitVec 32) (v3 : BitVec 32) : BitVec 1 :=
  let c9_i32_111 : BitVec 32 := 9#32
  let v319 : BitVec 32 := Scalar.addi v1 c9_i32_111
  let v320 : BitVec 1 := Scalar.cmpi .slt v319 v3
  let v321 : BitVec 32 := Scalar.extui v320
  let c0_i32_112 : BitVec 32 := 0#32
  let v322 : BitVec 1 := Scalar.cmpi .ne v321 c0_i32_112
  v322

def k1_off53 (v350 : BitVec 32) : Fin 2 → Nat :=
  let v351 : Index := Scalar.indexCast v350
  let c0_126 : Index := 0#32
  ![v351.toNat, 0]

def k1_chk27 (v1 : BitVec 32) (v3 : BitVec 32) (v350 : BitVec 32) : Prop :=
  (∀ (k1_h1 : k1_cond1 v3 = 1#1), ∀ (k1_h11 : k1_cond11 v1 v3 = 1#1), ∀ a, (k1_off53 v350) a + S1x32.size a ≤ S2048x32.size a)
theorem k1_off53_inb : ∀ (v1 : BitVec 32) (v3 : BitVec 32) (v350 : BitVec 32) (k1_hw27 : k1_chk27 v1 v3 v350), ∀ (k1_h1 : k1_cond1 v3 = 1#1), ∀ (k1_h11 : k1_cond11 v1 v3 = 1#1), ∀ a, (k1_off53 v350) a + S1x32.size a ≤ S2048x32.size a := fun v1 v3 v350 k1_hw27 k1_h1 k1_h11 => k1_hw27 k1_h1 k1_h11

def k1_off54 (v1 : BitVec 32) : Fin 1 → Nat :=
  let c10_i32_113 : BitVec 32 := 10#32
  let v323 : BitVec 32 := Scalar.addi v1 c10_i32_113
  let c2047_i32_125 : BitVec 32 := 2047#32
  let v347 : BitVec 32 := Scalar.minsi v323 c2047_i32_125
  let v349 : Index := Scalar.indexCast v347
  ![v349.toNat]
def k1_cond12 (v1 : BitVec 32) (v3 : BitVec 32) : BitVec 1 :=
  let c10_i32_113 : BitVec 32 := 10#32
  let v323 : BitVec 32 := Scalar.addi v1 c10_i32_113
  let v324 : BitVec 1 := Scalar.cmpi .slt v323 v3
  let v325 : BitVec 32 := Scalar.extui v324
  let c0_i32_114 : BitVec 32 := 0#32
  let v326 : BitVec 1 := Scalar.cmpi .ne v325 c0_i32_114
  v326

def k1_off55 (v350 : BitVec 32) : Fin 2 → Nat :=
  let v351 : Index := Scalar.indexCast v350
  let c0_126 : Index := 0#32
  ![v351.toNat, 0]

def k1_chk28 (v1 : BitVec 32) (v3 : BitVec 32) (v350 : BitVec 32) : Prop :=
  (∀ (k1_h1 : k1_cond1 v3 = 1#1), ∀ (k1_h12 : k1_cond12 v1 v3 = 1#1), ∀ a, (k1_off55 v350) a + S1x32.size a ≤ S2048x32.size a)
theorem k1_off55_inb : ∀ (v1 : BitVec 32) (v3 : BitVec 32) (v350 : BitVec 32) (k1_hw28 : k1_chk28 v1 v3 v350), ∀ (k1_h1 : k1_cond1 v3 = 1#1), ∀ (k1_h12 : k1_cond12 v1 v3 = 1#1), ∀ a, (k1_off55 v350) a + S1x32.size a ≤ S2048x32.size a := fun v1 v3 v350 k1_hw28 k1_h1 k1_h12 => k1_hw28 k1_h1 k1_h12

def k1_off56 (v1 : BitVec 32) : Fin 1 → Nat :=
  let c11_i32_115 : BitVec 32 := 11#32
  let v327 : BitVec 32 := Scalar.addi v1 c11_i32_115
  let c2047_i32_125 : BitVec 32 := 2047#32
  let v347 : BitVec 32 := Scalar.minsi v327 c2047_i32_125
  let v349 : Index := Scalar.indexCast v347
  ![v349.toNat]
def k1_cond13 (v1 : BitVec 32) (v3 : BitVec 32) : BitVec 1 :=
  let c11_i32_115 : BitVec 32 := 11#32
  let v327 : BitVec 32 := Scalar.addi v1 c11_i32_115
  let v328 : BitVec 1 := Scalar.cmpi .slt v327 v3
  let v329 : BitVec 32 := Scalar.extui v328
  let c0_i32_116 : BitVec 32 := 0#32
  let v330 : BitVec 1 := Scalar.cmpi .ne v329 c0_i32_116
  v330

def k1_off57 (v350 : BitVec 32) : Fin 2 → Nat :=
  let v351 : Index := Scalar.indexCast v350
  let c0_126 : Index := 0#32
  ![v351.toNat, 0]

def k1_chk29 (v1 : BitVec 32) (v3 : BitVec 32) (v350 : BitVec 32) : Prop :=
  (∀ (k1_h1 : k1_cond1 v3 = 1#1), ∀ (k1_h13 : k1_cond13 v1 v3 = 1#1), ∀ a, (k1_off57 v350) a + S1x32.size a ≤ S2048x32.size a)
theorem k1_off57_inb : ∀ (v1 : BitVec 32) (v3 : BitVec 32) (v350 : BitVec 32) (k1_hw29 : k1_chk29 v1 v3 v350), ∀ (k1_h1 : k1_cond1 v3 = 1#1), ∀ (k1_h13 : k1_cond13 v1 v3 = 1#1), ∀ a, (k1_off57 v350) a + S1x32.size a ≤ S2048x32.size a := fun v1 v3 v350 k1_hw29 k1_h1 k1_h13 => k1_hw29 k1_h1 k1_h13

def k1_off58 (v1 : BitVec 32) : Fin 1 → Nat :=
  let c12_i32_117 : BitVec 32 := 12#32
  let v331 : BitVec 32 := Scalar.addi v1 c12_i32_117
  let c2047_i32_125 : BitVec 32 := 2047#32
  let v347 : BitVec 32 := Scalar.minsi v331 c2047_i32_125
  let v349 : Index := Scalar.indexCast v347
  ![v349.toNat]
def k1_cond14 (v1 : BitVec 32) (v3 : BitVec 32) : BitVec 1 :=
  let c12_i32_117 : BitVec 32 := 12#32
  let v331 : BitVec 32 := Scalar.addi v1 c12_i32_117
  let v332 : BitVec 1 := Scalar.cmpi .slt v331 v3
  let v333 : BitVec 32 := Scalar.extui v332
  let c0_i32_118 : BitVec 32 := 0#32
  let v334 : BitVec 1 := Scalar.cmpi .ne v333 c0_i32_118
  v334

def k1_off59 (v350 : BitVec 32) : Fin 2 → Nat :=
  let v351 : Index := Scalar.indexCast v350
  let c0_126 : Index := 0#32
  ![v351.toNat, 0]

def k1_chk30 (v1 : BitVec 32) (v3 : BitVec 32) (v350 : BitVec 32) : Prop :=
  (∀ (k1_h1 : k1_cond1 v3 = 1#1), ∀ (k1_h14 : k1_cond14 v1 v3 = 1#1), ∀ a, (k1_off59 v350) a + S1x32.size a ≤ S2048x32.size a)
theorem k1_off59_inb : ∀ (v1 : BitVec 32) (v3 : BitVec 32) (v350 : BitVec 32) (k1_hw30 : k1_chk30 v1 v3 v350), ∀ (k1_h1 : k1_cond1 v3 = 1#1), ∀ (k1_h14 : k1_cond14 v1 v3 = 1#1), ∀ a, (k1_off59 v350) a + S1x32.size a ≤ S2048x32.size a := fun v1 v3 v350 k1_hw30 k1_h1 k1_h14 => k1_hw30 k1_h1 k1_h14

def k1_off60 (v1 : BitVec 32) : Fin 1 → Nat :=
  let c13_i32_119 : BitVec 32 := 13#32
  let v335 : BitVec 32 := Scalar.addi v1 c13_i32_119
  let c2047_i32_125 : BitVec 32 := 2047#32
  let v347 : BitVec 32 := Scalar.minsi v335 c2047_i32_125
  let v349 : Index := Scalar.indexCast v347
  ![v349.toNat]
def k1_cond15 (v1 : BitVec 32) (v3 : BitVec 32) : BitVec 1 :=
  let c13_i32_119 : BitVec 32 := 13#32
  let v335 : BitVec 32 := Scalar.addi v1 c13_i32_119
  let v336 : BitVec 1 := Scalar.cmpi .slt v335 v3
  let v337 : BitVec 32 := Scalar.extui v336
  let c0_i32_120 : BitVec 32 := 0#32
  let v338 : BitVec 1 := Scalar.cmpi .ne v337 c0_i32_120
  v338

def k1_off61 (v350 : BitVec 32) : Fin 2 → Nat :=
  let v351 : Index := Scalar.indexCast v350
  let c0_126 : Index := 0#32
  ![v351.toNat, 0]

def k1_chk31 (v1 : BitVec 32) (v3 : BitVec 32) (v350 : BitVec 32) : Prop :=
  (∀ (k1_h1 : k1_cond1 v3 = 1#1), ∀ (k1_h15 : k1_cond15 v1 v3 = 1#1), ∀ a, (k1_off61 v350) a + S1x32.size a ≤ S2048x32.size a)
theorem k1_off61_inb : ∀ (v1 : BitVec 32) (v3 : BitVec 32) (v350 : BitVec 32) (k1_hw31 : k1_chk31 v1 v3 v350), ∀ (k1_h1 : k1_cond1 v3 = 1#1), ∀ (k1_h15 : k1_cond15 v1 v3 = 1#1), ∀ a, (k1_off61 v350) a + S1x32.size a ≤ S2048x32.size a := fun v1 v3 v350 k1_hw31 k1_h1 k1_h15 => k1_hw31 k1_h1 k1_h15

def k1_off62 (v1 : BitVec 32) : Fin 1 → Nat :=
  let c14_i32_121 : BitVec 32 := 14#32
  let v339 : BitVec 32 := Scalar.addi v1 c14_i32_121
  let c2047_i32_125 : BitVec 32 := 2047#32
  let v347 : BitVec 32 := Scalar.minsi v339 c2047_i32_125
  let v349 : Index := Scalar.indexCast v347
  ![v349.toNat]
def k1_cond16 (v1 : BitVec 32) (v3 : BitVec 32) : BitVec 1 :=
  let c14_i32_121 : BitVec 32 := 14#32
  let v339 : BitVec 32 := Scalar.addi v1 c14_i32_121
  let v340 : BitVec 1 := Scalar.cmpi .slt v339 v3
  let v341 : BitVec 32 := Scalar.extui v340
  let c0_i32_122 : BitVec 32 := 0#32
  let v342 : BitVec 1 := Scalar.cmpi .ne v341 c0_i32_122
  v342

def k1_off63 (v350 : BitVec 32) : Fin 2 → Nat :=
  let v351 : Index := Scalar.indexCast v350
  let c0_126 : Index := 0#32
  ![v351.toNat, 0]

def k1_chk32 (v1 : BitVec 32) (v3 : BitVec 32) (v350 : BitVec 32) : Prop :=
  (∀ (k1_h1 : k1_cond1 v3 = 1#1), ∀ (k1_h16 : k1_cond16 v1 v3 = 1#1), ∀ a, (k1_off63 v350) a + S1x32.size a ≤ S2048x32.size a)
theorem k1_off63_inb : ∀ (v1 : BitVec 32) (v3 : BitVec 32) (v350 : BitVec 32) (k1_hw32 : k1_chk32 v1 v3 v350), ∀ (k1_h1 : k1_cond1 v3 = 1#1), ∀ (k1_h16 : k1_cond16 v1 v3 = 1#1), ∀ a, (k1_off63 v350) a + S1x32.size a ≤ S2048x32.size a := fun v1 v3 v350 k1_hw32 k1_h1 k1_h16 => k1_hw32 k1_h1 k1_h16

def k1_off64 (v1 : BitVec 32) : Fin 1 → Nat :=
  let c15_i32_123 : BitVec 32 := 15#32
  let v343 : BitVec 32 := Scalar.addi v1 c15_i32_123
  let c2047_i32_125 : BitVec 32 := 2047#32
  let v347 : BitVec 32 := Scalar.minsi v343 c2047_i32_125
  let v349 : Index := Scalar.indexCast v347
  ![v349.toNat]
def k1_cond17 (v1 : BitVec 32) (v3 : BitVec 32) : BitVec 1 :=
  let c15_i32_123 : BitVec 32 := 15#32
  let v343 : BitVec 32 := Scalar.addi v1 c15_i32_123
  let v344 : BitVec 1 := Scalar.cmpi .slt v343 v3
  let v345 : BitVec 32 := Scalar.extui v344
  let c0_i32_124 : BitVec 32 := 0#32
  let v346 : BitVec 1 := Scalar.cmpi .ne v345 c0_i32_124
  v346

def k1_chk1 (v1 : BitVec 32) (v3 : BitVec 32) : Prop :=
  (∀ (k1_h1 : k1_cond1 v3 = 1#1), ∀ a, (k1_off2 v1) a + S1.size a ≤ S2048.size a) ∧
  (∀ (k1_h1 : k1_cond1 v3 = 1#1), ∀ a, (k1_off4 v1) a + S1.size a ≤ S2048.size a) ∧
  (∀ (k1_h1 : k1_cond1 v3 = 1#1), ∀ a, (k1_off6 v1) a + S1.size a ≤ S2048.size a) ∧
  (∀ (k1_h1 : k1_cond1 v3 = 1#1), ∀ a, (k1_off8 v1) a + S1.size a ≤ S2048.size a) ∧
  (∀ (k1_h1 : k1_cond1 v3 = 1#1), ∀ a, (k1_off10 v1) a + S1.size a ≤ S2048.size a) ∧
  (∀ (k1_h1 : k1_cond1 v3 = 1#1), ∀ a, (k1_off12 v1) a + S1.size a ≤ S2048.size a) ∧
  (∀ (k1_h1 : k1_cond1 v3 = 1#1), ∀ a, (k1_off14 v1) a + S1.size a ≤ S2048.size a) ∧
  (∀ (k1_h1 : k1_cond1 v3 = 1#1), ∀ a, (k1_off16 v1) a + S1.size a ≤ S2048.size a) ∧
  (∀ (k1_h1 : k1_cond1 v3 = 1#1), ∀ a, (k1_off18 v1) a + S1.size a ≤ S2048.size a) ∧
  (∀ (k1_h1 : k1_cond1 v3 = 1#1), ∀ a, (k1_off20 v1) a + S1.size a ≤ S2048.size a) ∧
  (∀ (k1_h1 : k1_cond1 v3 = 1#1), ∀ a, (k1_off22 v1) a + S1.size a ≤ S2048.size a) ∧
  (∀ (k1_h1 : k1_cond1 v3 = 1#1), ∀ a, (k1_off24 v1) a + S1.size a ≤ S2048.size a) ∧
  (∀ (k1_h1 : k1_cond1 v3 = 1#1), ∀ a, (k1_off26 v1) a + S1.size a ≤ S2048.size a) ∧
  (∀ (k1_h1 : k1_cond1 v3 = 1#1), ∀ a, (k1_off28 v1) a + S1.size a ≤ S2048.size a) ∧
  (∀ (k1_h1 : k1_cond1 v3 = 1#1), ∀ a, (k1_off30 v1) a + S1.size a ≤ S2048.size a) ∧
  (∀ (k1_h1 : k1_cond1 v3 = 1#1), ∀ a, (k1_off32 v1) a + S1.size a ≤ S2048.size a) ∧
  (∀ (k1_h1 : k1_cond1 v3 = 1#1), ∀ (k1_h2 : k1_cond2 v1 v3 = 1#1), ∀ a, (k1_off34 v1) a + S1.size a ≤ S2048.size a) ∧
  (∀ (k1_h1 : k1_cond1 v3 = 1#1), ∀ (k1_h3 : k1_cond3 v1 v3 = 1#1), ∀ a, (k1_off36 v1) a + S1.size a ≤ S2048.size a) ∧
  (∀ (k1_h1 : k1_cond1 v3 = 1#1), ∀ (k1_h4 : k1_cond4 v1 v3 = 1#1), ∀ a, (k1_off38 v1) a + S1.size a ≤ S2048.size a) ∧
  (∀ (k1_h1 : k1_cond1 v3 = 1#1), ∀ (k1_h5 : k1_cond5 v1 v3 = 1#1), ∀ a, (k1_off40 v1) a + S1.size a ≤ S2048.size a) ∧
  (∀ (k1_h1 : k1_cond1 v3 = 1#1), ∀ (k1_h6 : k1_cond6 v1 v3 = 1#1), ∀ a, (k1_off42 v1) a + S1.size a ≤ S2048.size a) ∧
  (∀ (k1_h1 : k1_cond1 v3 = 1#1), ∀ (k1_h7 : k1_cond7 v1 v3 = 1#1), ∀ a, (k1_off44 v1) a + S1.size a ≤ S2048.size a) ∧
  (∀ (k1_h1 : k1_cond1 v3 = 1#1), ∀ (k1_h8 : k1_cond8 v1 v3 = 1#1), ∀ a, (k1_off46 v1) a + S1.size a ≤ S2048.size a) ∧
  (∀ (k1_h1 : k1_cond1 v3 = 1#1), ∀ (k1_h9 : k1_cond9 v1 v3 = 1#1), ∀ a, (k1_off48 v1) a + S1.size a ≤ S2048.size a) ∧
  (∀ (k1_h1 : k1_cond1 v3 = 1#1), ∀ (k1_h10 : k1_cond10 v1 v3 = 1#1), ∀ a, (k1_off50 v1) a + S1.size a ≤ S2048.size a) ∧
  (∀ (k1_h1 : k1_cond1 v3 = 1#1), ∀ (k1_h11 : k1_cond11 v1 v3 = 1#1), ∀ a, (k1_off52 v1) a + S1.size a ≤ S2048.size a) ∧
  (∀ (k1_h1 : k1_cond1 v3 = 1#1), ∀ (k1_h12 : k1_cond12 v1 v3 = 1#1), ∀ a, (k1_off54 v1) a + S1.size a ≤ S2048.size a) ∧
  (∀ (k1_h1 : k1_cond1 v3 = 1#1), ∀ (k1_h13 : k1_cond13 v1 v3 = 1#1), ∀ a, (k1_off56 v1) a + S1.size a ≤ S2048.size a) ∧
  (∀ (k1_h1 : k1_cond1 v3 = 1#1), ∀ (k1_h14 : k1_cond14 v1 v3 = 1#1), ∀ a, (k1_off58 v1) a + S1.size a ≤ S2048.size a) ∧
  (∀ (k1_h1 : k1_cond1 v3 = 1#1), ∀ (k1_h15 : k1_cond15 v1 v3 = 1#1), ∀ a, (k1_off60 v1) a + S1.size a ≤ S2048.size a) ∧
  (∀ (k1_h1 : k1_cond1 v3 = 1#1), ∀ (k1_h16 : k1_cond16 v1 v3 = 1#1), ∀ a, (k1_off62 v1) a + S1.size a ≤ S2048.size a) ∧
  (∀ (k1_h1 : k1_cond1 v3 = 1#1), ∀ (k1_h17 : k1_cond17 v1 v3 = 1#1), ∀ a, (k1_off64 v1) a + S1.size a ≤ S2048.size a)
theorem k1_off2_inb : ∀ (v1 : BitVec 32) (v3 : BitVec 32) (k1_hw1 : k1_chk1 v1 v3), ∀ (k1_h1 : k1_cond1 v3 = 1#1), ∀ a, (k1_off2 v1) a + S1.size a ≤ S2048.size a := fun v1 v3 k1_hw1 k1_h1 => k1_hw1.1 k1_h1
theorem k1_off4_inb : ∀ (v1 : BitVec 32) (v3 : BitVec 32) (k1_hw1 : k1_chk1 v1 v3), ∀ (k1_h1 : k1_cond1 v3 = 1#1), ∀ a, (k1_off4 v1) a + S1.size a ≤ S2048.size a := fun v1 v3 k1_hw1 k1_h1 => k1_hw1.2.1 k1_h1
theorem k1_off6_inb : ∀ (v1 : BitVec 32) (v3 : BitVec 32) (k1_hw1 : k1_chk1 v1 v3), ∀ (k1_h1 : k1_cond1 v3 = 1#1), ∀ a, (k1_off6 v1) a + S1.size a ≤ S2048.size a := fun v1 v3 k1_hw1 k1_h1 => k1_hw1.2.2.1 k1_h1
theorem k1_off8_inb : ∀ (v1 : BitVec 32) (v3 : BitVec 32) (k1_hw1 : k1_chk1 v1 v3), ∀ (k1_h1 : k1_cond1 v3 = 1#1), ∀ a, (k1_off8 v1) a + S1.size a ≤ S2048.size a := fun v1 v3 k1_hw1 k1_h1 => k1_hw1.2.2.2.1 k1_h1
theorem k1_off10_inb : ∀ (v1 : BitVec 32) (v3 : BitVec 32) (k1_hw1 : k1_chk1 v1 v3), ∀ (k1_h1 : k1_cond1 v3 = 1#1), ∀ a, (k1_off10 v1) a + S1.size a ≤ S2048.size a := fun v1 v3 k1_hw1 k1_h1 => k1_hw1.2.2.2.2.1 k1_h1
theorem k1_off12_inb : ∀ (v1 : BitVec 32) (v3 : BitVec 32) (k1_hw1 : k1_chk1 v1 v3), ∀ (k1_h1 : k1_cond1 v3 = 1#1), ∀ a, (k1_off12 v1) a + S1.size a ≤ S2048.size a := fun v1 v3 k1_hw1 k1_h1 => k1_hw1.2.2.2.2.2.1 k1_h1
theorem k1_off14_inb : ∀ (v1 : BitVec 32) (v3 : BitVec 32) (k1_hw1 : k1_chk1 v1 v3), ∀ (k1_h1 : k1_cond1 v3 = 1#1), ∀ a, (k1_off14 v1) a + S1.size a ≤ S2048.size a := fun v1 v3 k1_hw1 k1_h1 => k1_hw1.2.2.2.2.2.2.1 k1_h1
theorem k1_off16_inb : ∀ (v1 : BitVec 32) (v3 : BitVec 32) (k1_hw1 : k1_chk1 v1 v3), ∀ (k1_h1 : k1_cond1 v3 = 1#1), ∀ a, (k1_off16 v1) a + S1.size a ≤ S2048.size a := fun v1 v3 k1_hw1 k1_h1 => k1_hw1.2.2.2.2.2.2.2.1 k1_h1
theorem k1_off18_inb : ∀ (v1 : BitVec 32) (v3 : BitVec 32) (k1_hw1 : k1_chk1 v1 v3), ∀ (k1_h1 : k1_cond1 v3 = 1#1), ∀ a, (k1_off18 v1) a + S1.size a ≤ S2048.size a := fun v1 v3 k1_hw1 k1_h1 => k1_hw1.2.2.2.2.2.2.2.2.1 k1_h1
theorem k1_off20_inb : ∀ (v1 : BitVec 32) (v3 : BitVec 32) (k1_hw1 : k1_chk1 v1 v3), ∀ (k1_h1 : k1_cond1 v3 = 1#1), ∀ a, (k1_off20 v1) a + S1.size a ≤ S2048.size a := fun v1 v3 k1_hw1 k1_h1 => k1_hw1.2.2.2.2.2.2.2.2.2.1 k1_h1
theorem k1_off22_inb : ∀ (v1 : BitVec 32) (v3 : BitVec 32) (k1_hw1 : k1_chk1 v1 v3), ∀ (k1_h1 : k1_cond1 v3 = 1#1), ∀ a, (k1_off22 v1) a + S1.size a ≤ S2048.size a := fun v1 v3 k1_hw1 k1_h1 => k1_hw1.2.2.2.2.2.2.2.2.2.2.1 k1_h1
theorem k1_off24_inb : ∀ (v1 : BitVec 32) (v3 : BitVec 32) (k1_hw1 : k1_chk1 v1 v3), ∀ (k1_h1 : k1_cond1 v3 = 1#1), ∀ a, (k1_off24 v1) a + S1.size a ≤ S2048.size a := fun v1 v3 k1_hw1 k1_h1 => k1_hw1.2.2.2.2.2.2.2.2.2.2.2.1 k1_h1
theorem k1_off26_inb : ∀ (v1 : BitVec 32) (v3 : BitVec 32) (k1_hw1 : k1_chk1 v1 v3), ∀ (k1_h1 : k1_cond1 v3 = 1#1), ∀ a, (k1_off26 v1) a + S1.size a ≤ S2048.size a := fun v1 v3 k1_hw1 k1_h1 => k1_hw1.2.2.2.2.2.2.2.2.2.2.2.2.1 k1_h1
theorem k1_off28_inb : ∀ (v1 : BitVec 32) (v3 : BitVec 32) (k1_hw1 : k1_chk1 v1 v3), ∀ (k1_h1 : k1_cond1 v3 = 1#1), ∀ a, (k1_off28 v1) a + S1.size a ≤ S2048.size a := fun v1 v3 k1_hw1 k1_h1 => k1_hw1.2.2.2.2.2.2.2.2.2.2.2.2.2.1 k1_h1
theorem k1_off30_inb : ∀ (v1 : BitVec 32) (v3 : BitVec 32) (k1_hw1 : k1_chk1 v1 v3), ∀ (k1_h1 : k1_cond1 v3 = 1#1), ∀ a, (k1_off30 v1) a + S1.size a ≤ S2048.size a := fun v1 v3 k1_hw1 k1_h1 => k1_hw1.2.2.2.2.2.2.2.2.2.2.2.2.2.2.1 k1_h1
theorem k1_off32_inb : ∀ (v1 : BitVec 32) (v3 : BitVec 32) (k1_hw1 : k1_chk1 v1 v3), ∀ (k1_h1 : k1_cond1 v3 = 1#1), ∀ a, (k1_off32 v1) a + S1.size a ≤ S2048.size a := fun v1 v3 k1_hw1 k1_h1 => k1_hw1.2.2.2.2.2.2.2.2.2.2.2.2.2.2.2.1 k1_h1
theorem k1_off34_inb : ∀ (v1 : BitVec 32) (v3 : BitVec 32) (k1_hw1 : k1_chk1 v1 v3), ∀ (k1_h1 : k1_cond1 v3 = 1#1), ∀ (k1_h2 : k1_cond2 v1 v3 = 1#1), ∀ a, (k1_off34 v1) a + S1.size a ≤ S2048.size a := fun v1 v3 k1_hw1 k1_h1 k1_h2 => k1_hw1.2.2.2.2.2.2.2.2.2.2.2.2.2.2.2.2.1 k1_h1 k1_h2
theorem k1_off36_inb : ∀ (v1 : BitVec 32) (v3 : BitVec 32) (k1_hw1 : k1_chk1 v1 v3), ∀ (k1_h1 : k1_cond1 v3 = 1#1), ∀ (k1_h3 : k1_cond3 v1 v3 = 1#1), ∀ a, (k1_off36 v1) a + S1.size a ≤ S2048.size a := fun v1 v3 k1_hw1 k1_h1 k1_h3 => k1_hw1.2.2.2.2.2.2.2.2.2.2.2.2.2.2.2.2.2.1 k1_h1 k1_h3
theorem k1_off38_inb : ∀ (v1 : BitVec 32) (v3 : BitVec 32) (k1_hw1 : k1_chk1 v1 v3), ∀ (k1_h1 : k1_cond1 v3 = 1#1), ∀ (k1_h4 : k1_cond4 v1 v3 = 1#1), ∀ a, (k1_off38 v1) a + S1.size a ≤ S2048.size a := fun v1 v3 k1_hw1 k1_h1 k1_h4 => k1_hw1.2.2.2.2.2.2.2.2.2.2.2.2.2.2.2.2.2.2.1 k1_h1 k1_h4
theorem k1_off40_inb : ∀ (v1 : BitVec 32) (v3 : BitVec 32) (k1_hw1 : k1_chk1 v1 v3), ∀ (k1_h1 : k1_cond1 v3 = 1#1), ∀ (k1_h5 : k1_cond5 v1 v3 = 1#1), ∀ a, (k1_off40 v1) a + S1.size a ≤ S2048.size a := fun v1 v3 k1_hw1 k1_h1 k1_h5 => k1_hw1.2.2.2.2.2.2.2.2.2.2.2.2.2.2.2.2.2.2.2.1 k1_h1 k1_h5
theorem k1_off42_inb : ∀ (v1 : BitVec 32) (v3 : BitVec 32) (k1_hw1 : k1_chk1 v1 v3), ∀ (k1_h1 : k1_cond1 v3 = 1#1), ∀ (k1_h6 : k1_cond6 v1 v3 = 1#1), ∀ a, (k1_off42 v1) a + S1.size a ≤ S2048.size a := fun v1 v3 k1_hw1 k1_h1 k1_h6 => k1_hw1.2.2.2.2.2.2.2.2.2.2.2.2.2.2.2.2.2.2.2.2.1 k1_h1 k1_h6
theorem k1_off44_inb : ∀ (v1 : BitVec 32) (v3 : BitVec 32) (k1_hw1 : k1_chk1 v1 v3), ∀ (k1_h1 : k1_cond1 v3 = 1#1), ∀ (k1_h7 : k1_cond7 v1 v3 = 1#1), ∀ a, (k1_off44 v1) a + S1.size a ≤ S2048.size a := fun v1 v3 k1_hw1 k1_h1 k1_h7 => k1_hw1.2.2.2.2.2.2.2.2.2.2.2.2.2.2.2.2.2.2.2.2.2.1 k1_h1 k1_h7
theorem k1_off46_inb : ∀ (v1 : BitVec 32) (v3 : BitVec 32) (k1_hw1 : k1_chk1 v1 v3), ∀ (k1_h1 : k1_cond1 v3 = 1#1), ∀ (k1_h8 : k1_cond8 v1 v3 = 1#1), ∀ a, (k1_off46 v1) a + S1.size a ≤ S2048.size a := fun v1 v3 k1_hw1 k1_h1 k1_h8 => k1_hw1.2.2.2.2.2.2.2.2.2.2.2.2.2.2.2.2.2.2.2.2.2.2.1 k1_h1 k1_h8
theorem k1_off48_inb : ∀ (v1 : BitVec 32) (v3 : BitVec 32) (k1_hw1 : k1_chk1 v1 v3), ∀ (k1_h1 : k1_cond1 v3 = 1#1), ∀ (k1_h9 : k1_cond9 v1 v3 = 1#1), ∀ a, (k1_off48 v1) a + S1.size a ≤ S2048.size a := fun v1 v3 k1_hw1 k1_h1 k1_h9 => k1_hw1.2.2.2.2.2.2.2.2.2.2.2.2.2.2.2.2.2.2.2.2.2.2.2.1 k1_h1 k1_h9
theorem k1_off50_inb : ∀ (v1 : BitVec 32) (v3 : BitVec 32) (k1_hw1 : k1_chk1 v1 v3), ∀ (k1_h1 : k1_cond1 v3 = 1#1), ∀ (k1_h10 : k1_cond10 v1 v3 = 1#1), ∀ a, (k1_off50 v1) a + S1.size a ≤ S2048.size a := fun v1 v3 k1_hw1 k1_h1 k1_h10 => k1_hw1.2.2.2.2.2.2.2.2.2.2.2.2.2.2.2.2.2.2.2.2.2.2.2.2.1 k1_h1 k1_h10
theorem k1_off52_inb : ∀ (v1 : BitVec 32) (v3 : BitVec 32) (k1_hw1 : k1_chk1 v1 v3), ∀ (k1_h1 : k1_cond1 v3 = 1#1), ∀ (k1_h11 : k1_cond11 v1 v3 = 1#1), ∀ a, (k1_off52 v1) a + S1.size a ≤ S2048.size a := fun v1 v3 k1_hw1 k1_h1 k1_h11 => k1_hw1.2.2.2.2.2.2.2.2.2.2.2.2.2.2.2.2.2.2.2.2.2.2.2.2.2.1 k1_h1 k1_h11
theorem k1_off54_inb : ∀ (v1 : BitVec 32) (v3 : BitVec 32) (k1_hw1 : k1_chk1 v1 v3), ∀ (k1_h1 : k1_cond1 v3 = 1#1), ∀ (k1_h12 : k1_cond12 v1 v3 = 1#1), ∀ a, (k1_off54 v1) a + S1.size a ≤ S2048.size a := fun v1 v3 k1_hw1 k1_h1 k1_h12 => k1_hw1.2.2.2.2.2.2.2.2.2.2.2.2.2.2.2.2.2.2.2.2.2.2.2.2.2.2.1 k1_h1 k1_h12
theorem k1_off56_inb : ∀ (v1 : BitVec 32) (v3 : BitVec 32) (k1_hw1 : k1_chk1 v1 v3), ∀ (k1_h1 : k1_cond1 v3 = 1#1), ∀ (k1_h13 : k1_cond13 v1 v3 = 1#1), ∀ a, (k1_off56 v1) a + S1.size a ≤ S2048.size a := fun v1 v3 k1_hw1 k1_h1 k1_h13 => k1_hw1.2.2.2.2.2.2.2.2.2.2.2.2.2.2.2.2.2.2.2.2.2.2.2.2.2.2.2.1 k1_h1 k1_h13
theorem k1_off58_inb : ∀ (v1 : BitVec 32) (v3 : BitVec 32) (k1_hw1 : k1_chk1 v1 v3), ∀ (k1_h1 : k1_cond1 v3 = 1#1), ∀ (k1_h14 : k1_cond14 v1 v3 = 1#1), ∀ a, (k1_off58 v1) a + S1.size a ≤ S2048.size a := fun v1 v3 k1_hw1 k1_h1 k1_h14 => k1_hw1.2.2.2.2.2.2.2.2.2.2.2.2.2.2.2.2.2.2.2.2.2.2.2.2.2.2.2.2.1 k1_h1 k1_h14
theorem k1_off60_inb : ∀ (v1 : BitVec 32) (v3 : BitVec 32) (k1_hw1 : k1_chk1 v1 v3), ∀ (k1_h1 : k1_cond1 v3 = 1#1), ∀ (k1_h15 : k1_cond15 v1 v3 = 1#1), ∀ a, (k1_off60 v1) a + S1.size a ≤ S2048.size a := fun v1 v3 k1_hw1 k1_h1 k1_h15 => k1_hw1.2.2.2.2.2.2.2.2.2.2.2.2.2.2.2.2.2.2.2.2.2.2.2.2.2.2.2.2.2.1 k1_h1 k1_h15
theorem k1_off62_inb : ∀ (v1 : BitVec 32) (v3 : BitVec 32) (k1_hw1 : k1_chk1 v1 v3), ∀ (k1_h1 : k1_cond1 v3 = 1#1), ∀ (k1_h16 : k1_cond16 v1 v3 = 1#1), ∀ a, (k1_off62 v1) a + S1.size a ≤ S2048.size a := fun v1 v3 k1_hw1 k1_h1 k1_h16 => k1_hw1.2.2.2.2.2.2.2.2.2.2.2.2.2.2.2.2.2.2.2.2.2.2.2.2.2.2.2.2.2.2.1 k1_h1 k1_h16
theorem k1_off64_inb : ∀ (v1 : BitVec 32) (v3 : BitVec 32) (k1_hw1 : k1_chk1 v1 v3), ∀ (k1_h1 : k1_cond1 v3 = 1#1), ∀ (k1_h17 : k1_cond17 v1 v3 = 1#1), ∀ a, (k1_off64 v1) a + S1.size a ≤ S2048.size a := fun v1 v3 k1_hw1 k1_h1 k1_h17 => k1_hw1.2.2.2.2.2.2.2.2.2.2.2.2.2.2.2.2.2.2.2.2.2.2.2.2.2.2.2.2.2.2.2 k1_h1 k1_h17

def k1_off65 (v350 : BitVec 32) : Fin 2 → Nat :=
  let v351 : Index := Scalar.indexCast v350
  let c0_126 : Index := 0#32
  ![v351.toNat, 0]

def k1_chk33 (v1 : BitVec 32) (v3 : BitVec 32) (v350 : BitVec 32) : Prop :=
  (∀ (k1_h1 : k1_cond1 v3 = 1#1), ∀ (k1_h17 : k1_cond17 v1 v3 = 1#1), ∀ a, (k1_off65 v350) a + S1x32.size a ≤ S2048x32.size a)
theorem k1_off65_inb : ∀ (v1 : BitVec 32) (v3 : BitVec 32) (v350 : BitVec 32) (k1_hw33 : k1_chk33 v1 v3 v350), ∀ (k1_h1 : k1_cond1 v3 = 1#1), ∀ (k1_h17 : k1_cond17 v1 v3 = 1#1), ∀ a, (k1_off65 v350) a + S1x32.size a ≤ S2048x32.size a := fun v1 v3 v350 k1_hw33 k1_h1 k1_h17 => k1_hw33 k1_h1 k1_h17

def cc1_transform_0 (k1_off1_inb : ∀ i : grid1.Coords, ∀ a, (k1_off1 i) a + S1.size a ≤ S192.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S192) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S192.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S192) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S64x2048x32 : Shape := ⟨3, ![64, 2048, 32]⟩
abbrev S2048 : Shape := ⟨1, ![2048]⟩
abbrev S2048x128 : Shape := ⟨2, ![2048, 128]⟩
abbrev S32x64 : Shape := ⟨2, ![32, 64]⟩
abbrev S64 : Shape := ⟨1, ![64]⟩
abbrev S128x64 : Shape := ⟨2, ![128, 64]⟩
abbrev S1 : Shape := ⟨1, ![1]⟩
abbrev S64x2048x64 : Shape := ⟨3, ![64, 2048, 64]⟩
abbrev S1x1x64 : Shape := ⟨3, ![1, 1, 64]⟩
abbrev S2048x64 : Shape := ⟨2, ![2048, 64]⟩
abbrev S1x64 : Shape := ⟨2, ![1, 64]⟩
abbrev S_ : Shape := ⟨0, ![]⟩
abbrev S2048x1 : Shape := ⟨2, ![2048, 1]⟩
abbrev S2048x2048x64 : Shape := ⟨3, ![2048, 2048, 64]⟩
abbrev S2048x1x64 : Shape := ⟨3, ![2048, 1, 64]⟩
abbrev S2048x2048 : Shape := ⟨2, ![2048, 2048]⟩
abbrev S2048x2048x1 : Shape := ⟨3, ![2048, 2048, 1]⟩
abbrev S2048x2048x32 : Shape := ⟨3, ![2048, 2048, 32]⟩
abbrev S2048x32 : Shape := ⟨2, ![2048, 32]⟩

abbrev nBuf : Space → Nat
  | .hbm => 64
  | .vmem => 0
  | .smem => 0
  | _ => 0

abbrev bufTy : (tb : Table) → Fin (tcTables nBuf tb) → BufTy
  | .hbm, ⟨0, _⟩ => ⟨S64x2048x32, .f32⟩
  | .hbm, ⟨1, _⟩ => ⟨S2048, .i32⟩
  | .hbm, ⟨2, _⟩ => ⟨S2048x128, .f32⟩
  | .hbm, ⟨3, _⟩ => ⟨S32x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S1, .f32⟩
  | .hbm, ⟨9, _⟩ => ⟨S64x2048x64, .f32⟩
  | .hbm, ⟨10, _⟩ => ⟨S1x1x64, .f32⟩
  | .hbm, ⟨11, _⟩ => ⟨S64x2048x64, .f32⟩
  | .hbm, ⟨12, _⟩ => ⟨S64x2048x64, .f32⟩
  | .hbm, ⟨13, _⟩ => ⟨S2048x64, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x2048x64, .f32⟩
  | .hbm, ⟨26, _⟩ => ⟨S2048x1x64, .f32⟩
  | .hbm, ⟨27, _⟩ => ⟨S2048x2048x64, .f32⟩
  | .hbm, ⟨28, _⟩ => ⟨S2048x2048x64, .f32⟩
  | .hbm, ⟨29, _⟩ => ⟨S_, .f32⟩
  | .hbm, ⟨30, _⟩ => ⟨S2048x2048x64, .f32⟩
  | .hbm, ⟨31, _⟩ => ⟨S2048x2048x64, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S2048x1, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S2048x2048, .f32⟩
  | .hbm, ⟨49, _⟩ => ⟨S2048x2048, .f32⟩
  | .hbm, ⟨50, _⟩ => ⟨S2048x2048x1, .f32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048x1, .i32⟩
  | .hbm, ⟨59, _⟩ => ⟨S2048x2048x32, .f32⟩
  | .hbm, ⟨60, _⟩ => ⟨S2048x2048x32, .f32⟩
  | .hbm, ⟨61, _⟩ => ⟨S2048x2048x32, .f32⟩
  | .hbm, ⟨62, _⟩ => ⟨S_, .f32⟩
  | .hbm, ⟨63, _⟩ => ⟨S2048x32, .f32⟩
  | _, _ => ⟨S64x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_3 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Steps.lean ====
/-
  One step of a program at a time, over memrefs owned at vectors. A load hands the program a window of the vector, an
  unmasked store puts its payload over a window (`VecWindow.window`, `VecWindow.put`), a word of scalar memory is one
  entry of the table. From these come the two patterns the attention kernel repeats sixteen times each: fetching one row
  named by a table word into a row of the scratch buffer (`wp_fetch`), and storing one row, if a condition holds, at the
  row named by a table word (`wp_row`).
-/
module

public import Idealize.ShloMosaic.Lib.VecWindow
public import Idealize.ShloMosaic.Lib.Memref
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Steps

variable {nD : Nat} {τ : Topo} {sig : RefSig} {Ix : Type} [DecidableEq Ix]
variable {F : FTy → Type} [FloatOps F] {Name : Type} [DecidableEq Name] {U : Type} [URA U]
variable {Lvl : Type} [Preorder Lvl] {Λ : Labels} {defs : Defs nD τ sig (Elt F) Λ} (𝒱 : Variants) (c : Thread nD τ)
variable (bd : Option 𝒱.V) (E : Set Name)
variable {α : Type} {Q : α → sProp (MT nD τ sig Ix (Elt F) Name U Lvl)}

/-- A load of a unit-stride rectangle reads a window of the vector its memref is owned at. -/
theorem wp_load_window {cs : CoreSpace} {s : Shape} {e : EltTy} (m : Memref sig c.2.kind cs s e) {off size : Fin s.rank → ℕ}
    (inb : ∀ a, off a + size a ≤ s.size a) {hl : m.view.LoadsAt (Rect.unit off size inb).toLoadRect}
    {k : ((Rect.unit off size inb).shape.Idx → Elt F e) → Prog (TpuEff nD τ sig (Elt F) Λ c.2) α} {q : PosShare TreeShare} {X : s.Idx → Elt F e} :
    iprop(owns c m q X ∗ (owns c m q X -∗ wp frame (wpE defs 𝒱 c bd) E (k (VecWindow.window X off size inb)) Q))
      ⊢ wp frame (wpE defs 𝒱 c bd) E (.op (.load m (Rect.unit off size inb).toLoadRect hl) k) Q := by
  unfold owns
  iintro ⟨⟨%f, %hf, H⟩, Hk⟩
  subst hf
  iapply (wp_load_rect 𝒱 c bd E (m := m) (r := Rect.unit off size inb) (View.set_slice_subset m.view _)) $$ H
  iintro H
  iapply Hk
  iexists f
  isplitr
  · ipureintro; rfl
  iexact H

/-- An unmasked store at a unit-stride rectangle puts its payload over a window of the vector its memref is owned at. -/
theorem wp_store_window {cs : CoreSpace} {s : Shape} {e : EltTy} (m : Memref sig c.2.kind cs s e) {off size : Fin s.rank → ℕ}
    (inb : ∀ a, off a + size a ≤ s.size a) {w : (Rect.unit off size inb).shape.Idx → Elt F e}
    {hx : (m.access (Rect.unit off size inb)).Stores Finset.univ} {hm : _}
    {k : PUnit → Prog (TpuEff nD τ sig (Elt F) Λ c.2) α} {X : s.Idx → Elt F e} :
    iprop(owns c m fullShare X ∗ (owns c m fullShare (VecWindow.put X off size w) -∗ wp frame (wpE defs 𝒱 c bd) E (k ⟨⟩) Q))
      ⊢ wp frame (wpE defs 𝒱 c bd) E (.op (.store m (Rect.unit off size inb) w Finset.univ hx hm) k) Q := by
  unfold owns
  iintro ⟨⟨%f, %hf, H⟩, Hk⟩
  subst hf
  iapply (wp_store 𝒱 c bd E (m := m) (r := Rect.unit off size inb) (Mk := Finset.univ) (hx := hx) (hm := hm) (View.set_slice_subset m.view _)) $$ H
  iintro H
  iapply Hk
  iexists _
  isplitr
  rotate_left
  · iexact H
  ipureintro
  exact View.read_writes_cons_put m.view f inb w [] rfl

/-- A load of one word of a table in scalar memory. -/
theorem wp_word {s : Shape} {e : EltTy} (m : Memref sig c.2.kind .smem s e) {off size : Fin s.rank → ℕ}
    (inb : ∀ a, off a + size a ≤ s.size a) {h1 : (Rect.unit off size inb).shape.numel = 1} {hp : e.packing = 1}
    {k : Elt F e → Prog (TpuEff nD τ sig (Elt F) Λ c.2) α} {q : PosShare TreeShare} {X : s.Idx → Elt F e} :
    iprop(owns c m q X ∗ (owns c m q X -∗ wp frame (wpE defs 𝒱 c bd) E
        (k (VecWindow.window X off size inb (Shape.Idx.first (h1.symm ▸ Nat.one_pos)))) Q))
      ⊢ wp frame (wpE defs 𝒱 c bd) E (smemLoad m (Rect.unit off size inb) h1 hp >>= k) Q := by
  exact wp_load_window (Ix := Ix) (Name := Name) (U := U) (Lvl := Lvl) (defs := defs) (Q := Q) 𝒱 c bd E m inb
    (k := fun f => k (f (Shape.Idx.first (h1.symm ▸ Nat.one_pos))))

/-- Reading a word whose value is known. -/
theorem wp_word_eq {s : Shape} {e : EltTy} (m : Memref sig c.2.kind .smem s e) {off size : Fin s.rank → ℕ}
    (inb : ∀ a, off a + size a ≤ s.size a) {h1 : (Rect.unit off size inb).shape.numel = 1} {hp : e.packing = 1}
    {k : Elt F e → Prog (TpuEff nD τ sig (Elt F) Λ c.2) α} {q : PosShare TreeShare} {X : s.Idx → Elt F e} {w : Elt F e}
    (hw : VecWindow.window X off size inb (Shape.Idx.first (h1.symm ▸ Nat.one_pos)) = w) :
    iprop(owns c m q X ∗ (owns c m q X -∗ wp frame (wpE defs 𝒱 c bd) E (k w) Q))
      ⊢ wp frame (wpE defs 𝒱 c bd) E (smemLoad m (Rect.unit off size inb) h1 hp >>= k) Q := by
  subst hw
  exact wp_word 𝒱 c bd E m inb

/-- Fetching one row: a word of the table `a4` names a row of `a7`, which goes through `pay` into the scratch buffer `a10`.
    `C` is what the program checks of the word before it loads. -/
theorem wp_fetch {s4 : Shape} {cs7 cs10 : CoreSpace} {s7 s10 : Shape} {e7 e10 : EltTy}
    (a4 : Memref sig c.2.kind .smem s4 .i32) (a7 : Memref sig c.2.kind cs7 s7 e7) (a10 : Memref sig c.2.kind cs10 s10 e10)
    {off4 size4 : Fin s4.rank → ℕ} (inb4 : ∀ a, off4 a + size4 a ≤ s4.size a) {h1 : (Rect.unit off4 size4 inb4).shape.numel = 1}
    {hp : EltTy.packing .i32 = 1} (C : BitVec 32 → Prop) {dec : ∀ v, Decidable (C v)}
    {off7 : BitVec 32 → Fin s7.rank → ℕ} {size7 : Fin s7.rank → ℕ} (inb7 : ∀ v, C v → ∀ a, off7 v a + size7 a ≤ s7.size a)
    {hl7 : ∀ v h, a7.view.LoadsAt (Rect.unit (off7 v) size7 (inb7 v h)).toLoadRect}
    {off10 size10 : Fin s10.rank → ℕ} (inb10 : ∀ a, off10 a + size10 a ≤ s10.size a)
    {hl10 : a10.view.LoadsAt (Rect.unit off10 size10 inb10).toLoadRect}
    {pay : (((a : Fin s7.rank) → Fin (size7 a)) → Elt F e7) → (Rect.unit off10 size10 inb10).shape.Idx → Elt F e10}
    {hx : (a10.access (Rect.unit off10 size10 inb10)).Stores Finset.univ} {hm : _}
    {k : PUnit → Prog (TpuEff nD τ sig (Elt F) Λ c.2) α}
    {q4 q7 : PosShare TreeShare} {T : s4.Idx → BitVec 32} {Z : s7.Idx → Elt F e7} {S : s10.Idx → Elt F e10} {w : BitVec 32}
    (hw : VecWindow.window T off4 size4 inb4 (Shape.Idx.first (h1.symm ▸ Nat.one_pos)) = w) (hC : C w)
    {p : (Rect.unit off10 size10 inb10).shape.Idx → Elt F e10} (hpay : pay (VecWindow.window Z (off7 w) size7 (inb7 w hC)) = p) :
    iprop(owns (Val := Elt F) c a4 q4 T ∗ owns c a7 q7 Z ∗ owns c a10 fullShare S
        ∗ (owns (Val := Elt F) c a4 q4 T -∗ owns c a7 q7 Z
            -∗ owns c a10 fullShare (VecWindow.put S off10 size10 p)
            -∗ wp frame (wpE defs 𝒱 c bd) E (k ⟨⟩) Q))
      ⊢ wp frame (wpE defs 𝒱 c bd) E (smemLoad a4 (Rect.unit off4 size4 inb4) h1 hp >>= fun v : BitVec 32 =>
          Prog.lift (TpuEff.assume (C v) (dec v)) >>= fun h =>
          Prog.lift (.load a7 (Rect.unit (off7 v) size7 (inb7 v h.down)).toLoadRect (hl7 v h.down)) >>= fun x =>
          Prog.lift (.load a10 (Rect.unit off10 size10 inb10).toLoadRect hl10) >>= fun _ =>
          Prog.lift (.store a10 (Rect.unit off10 size10 inb10) (pay x) Finset.univ hx hm) >>= k) Q := by
  subst hw hpay
  iintro ⟨H4, H7, H10, Hk⟩
  iapply (wp_word 𝒱 c bd E a4 inb4)
  isplitl [H4]
  · iexact H4
  iintro H4
  iapply (wp_assume 𝒱 c bd E hC)
  iapply (wp_load_window 𝒱 c bd E a7 (inb7 _ hC))
  isplitl [H7]
  · iexact H7
  iintro H7
  iapply (wp_load_window 𝒱 c bd E a10 inb10)
  isplitl [H10]
  · iexact H10
  iintro H10
  iapply (wp_store_window 𝒱 c bd E a10 inb10)
  isplitl [H10]
  · iexact H10
  iintro H10
  iapply Hk $$ H4 H7 H10

/-- Storing one row under a condition: if `P`, a word of the table `a4` names the row of `a9` that `pay` is stored in. -/
theorem wp_row {s4 : Shape} {cs9 : CoreSpace} {s9 : Shape} {e9 : EltTy}
    (a4 : Memref sig c.2.kind .smem s4 .i32) (a9 : Memref sig c.2.kind cs9 s9 e9) (P : Prop) [dP : Decidable P]
    {off4 size4 : Fin s4.rank → ℕ} (inb4 : P → ∀ a, off4 a + size4 a ≤ s4.size a)
    {h1 : ∀ h, (Rect.unit off4 size4 (inb4 h)).shape.numel = 1}
    {hp : EltTy.packing .i32 = 1} (C : BitVec 32 → Prop) {dec : ∀ v, Decidable (C v)}
    {off9 : BitVec 32 → Fin s9.rank → ℕ} {size9 : Fin s9.rank → ℕ} (inb9 : P → ∀ v, C v → ∀ a, off9 v a + size9 a ≤ s9.size a)
    {hl9 : ∀ hP v h, a9.view.LoadsAt (Rect.unit (off9 v) size9 (inb9 hP v h)).toLoadRect}
    {pay : ((a : Fin s9.rank) → Fin (size9 a)) → Elt F e9}
    {hx : ∀ hP v h, (a9.access (Rect.unit (off9 v) size9 (inb9 hP v h))).Stores Finset.univ}
    {hm : ∀ hP v h, (Finset.univ : Finset (Rect.unit (off9 v) size9 (inb9 hP v h)).shape.Idx) = Finset.univ ∨ ∀ a, (Rect.unit (off9 v) size9 (inb9 hP v h)).stride a = 1}
    {k : Prog (TpuEff nD τ sig (Elt F) Λ c.2) α}
    {q4 : PosShare TreeShare} {T : s4.Idx → BitVec 32} {Y : s9.Idx → Elt F e9} {w : BitVec 32}
    (hw : ∀ h, VecWindow.window T off4 size4 (inb4 h) (Shape.Idx.first ((h1 h).symm ▸ Nat.one_pos)) = w) (hC : P → C w) {p : ((a : Fin s9.rank) → Fin (size9 a)) → Elt F e9} (hpay : pay = p) :
    iprop(owns (Val := Elt F) c a4 q4 T ∗ owns c a9 fullShare Y
        ∗ (owns (Val := Elt F) c a4 q4 T -∗ owns c a9 fullShare (if P then VecWindow.put Y (off9 w) size9 p else Y)
            -∗ wp frame (wpE defs 𝒱 c bd) E k Q))
      ⊢ wp frame (wpE defs 𝒱 c bd) E (if hP : P then
            smemLoad a4 (Rect.unit off4 size4 (inb4 hP)) (h1 hP) hp >>= fun v : BitVec 32 =>
            Prog.lift (TpuEff.assume (C v) (dec v)) >>= fun h =>
            Prog.lift (.load a9 (Rect.unit (off9 v) size9 (inb9 hP v h.down)).toLoadRect (hl9 hP v h.down)) >>= fun _ =>
            Prog.lift (.store a9 (Rect.unit (off9 v) size9 (inb9 hP v h.down)) pay Finset.univ (hx hP v h.down) (hm hP v h.down)) >>= fun _ => k
          else k) Q := by
  subst hpay
  by_cases hP : P
  · obtain rfl := hw hP
    simp only [dif_pos hP, if_pos hP]
    iintro ⟨H4, H9, Hk⟩
    iapply (wp_word 𝒱 c bd E a4 (inb4 hP))
    isplitl [H4]
    · iexact H4
    iintro H4
    iapply (wp_assume 𝒱 c bd E (hC hP))
    iapply (wp_load_window 𝒱 c bd E a9 (inb9 hP _ (hC hP)))
    isplitl [H9]
    · iexact H9
    iintro H9
    iapply (wp_store_window 𝒱 c bd E a9 (inb9 hP _ (hC hP)))
    isplitl [H9]
    · iexact H9
    iintro H9
    iapply Hk $$ H4 H9
  · rw [dif_neg hP, if_neg hP]
    iintro ⟨H4, H9, Hk⟩
    iapply Hk $$ H4 H9

/-- A value already returned is handed on. -/
theorem wp_ret_bind {β : Type} (a : β) (k : β → Prog (TpuEff nD τ sig (Elt F) Λ c.2) α) :
    wp frame (wpE defs 𝒱 c bd) E (k a) Q ⊢ wp frame (wpE defs 𝒱 c bd) E ((Prog.ret a).bind k) Q := .rfl

/-- A program under a condition that holds, -/
theorem wp_if_pos {P : Prop} [Decidable P] (h : P) (t : P → Prog (TpuEff nD τ sig (Elt F) Λ c.2) α) (e : ¬ P → Prog (TpuEff nD τ sig (Elt F) Λ c.2) α) :
    wp frame (wpE defs 𝒱 c bd) E (t h) Q ⊢ wp frame (wpE defs 𝒱 c bd) E (dite P t e) Q := by
  rw [dif_pos h]

/-- and under one that does not. -/
theorem wp_if_neg {P : Prop} [Decidable P] (h : ¬ P) (t : P → Prog (TpuEff nD τ sig (Elt F) Λ c.2) α) (e : ¬ P → Prog (TpuEff nD τ sig (Elt F) Λ c.2) α) :
    wp frame (wpE defs 𝒱 c bd) E (e h) Q ⊢ wp frame (wpE defs 𝒱 c bd) E (dite P t e) Q := by
  rw [dif_neg h]

/-- One program after another. -/
theorem wp_seq {β : Type} (p : Prog (TpuEff nD τ sig (Elt F) Λ c.2) β) (k : β → Prog (TpuEff nD τ sig (Elt F) Λ c.2) α) :
    wp frame (wpE defs 𝒱 c bd) E p (fun a => wp frame (wpE defs 𝒱 c bd) E (k a) Q) ⊢ wp frame (wpE defs 𝒱 c bd) E (p >>= k) Q := by
  rw [wp_bind]

/-- A program that returns is done. -/
theorem wp_done (a : α) : Q a ⊢ wp frame (wpE defs 𝒱 c bd) E (Prog.ret a) Q := by
  iintro H
  sl_step
  iexact H

/-- The window of a vector that is all of it. -/
theorem window_whole {s : Shape} {β : Type} (T : s.Idx → β) {off : Fin s.rank → ℕ} (inb : ∀ a, off a + s.size a ≤ s.size a) :
    VecWindow.window T off s.size inb = T := by
  funext x
  refine congrArg T (funext fun a => Fin.ext ?_)
  have := inb a
  show off a + 1 * (x a).val = (x a).val
  omega

/-- A vector put over all of another is itself. -/
theorem put_whole {s : Shape} {β : Type} (T w : s.Idx → β) {off : Fin s.rank → ℕ} (inb : ∀ a, off a + s.size a ≤ s.size a) :
    VecWindow.put T off s.size w = w := by
  funext x
  have h : ∀ a, off a ≤ (x a).val ∧ (x a).val < off a + s.size a := fun a => by
    have := inb a
    have := (x a).isLt
    omega
  unfold VecWindow.put
  rw [dif_pos h]
  refine congrArg w (funext fun a => Fin.ext ?_)
  have := inb a
  show (x a).val - off a = (x a).val
  omega

/-- A load of all of a buffer reads what it holds. -/
theorem wp_load_all {cs : CoreSpace} {s : Shape} {e : EltTy} (m : Memref sig c.2.kind cs s e) {off : Fin s.rank → ℕ}
    (inb : ∀ a, off a + s.size a ≤ s.size a) {hl : m.view.LoadsAt (Rect.unit off s.size inb).toLoadRect}
    {k : ((Rect.unit off s.size inb).shape.Idx → Elt F e) → Prog (TpuEff nD τ sig (Elt F) Λ c.2) α} {q : PosShare TreeShare} {X : s.Idx → Elt F e} :
    iprop(owns c m q X ∗ (owns c m q X -∗ wp frame (wpE defs 𝒱 c bd) E (k X) Q))
      ⊢ wp frame (wpE defs 𝒱 c bd) E (.op (.load m (Rect.unit off s.size inb).toLoadRect hl) k) Q := by
  have h := wp_load_window (Ix := Ix) (Name := Name) (U := U) (Lvl := Lvl) (defs := defs) (Q := Q) 𝒱 c bd E m inb (hl := hl) (k := k) (q := q) (X := X)
  rw [window_whole X inb] at h
  exact h

/-- A store of all of a buffer leaves it at what is stored. -/
theorem wp_store_all {cs : CoreSpace} {s : Shape} {e : EltTy} (m : Memref sig c.2.kind cs s e) {off : Fin s.rank → ℕ}
    (inb : ∀ a, off a + s.size a ≤ s.size a) {w : s.Idx → Elt F e}
    {hx : (m.access (Rect.unit off s.size inb)).Stores Finset.univ} {hm : _}
    {k : PUnit → Prog (TpuEff nD τ sig (Elt F) Λ c.2) α} {X : s.Idx → Elt F e} :
    iprop(owns c m fullShare X ∗ (owns c m fullShare w -∗ wp frame (wpE defs 𝒱 c bd) E (k ⟨⟩) Q))
      ⊢ wp frame (wpE defs 𝒱 c bd) E (.op (.store m (Rect.unit off s.size inb) w Finset.univ hx hm) k) Q := by
  have h := wp_store_window (Ix := Ix) (Name := Name) (U := U) (Lvl := Lvl) (defs := defs) (Q := Q) 𝒱 c bd E m inb (w := w) (hx := hx) (hm := hm) (k := k) (X := X)
  rw [put_whole X w inb] at h
  exact h

end Steps

end Cert.Proof
-- ==== Proof.Routing.lean ====
module

public import Idealize.ShloMosaic.Lib.IndicatorCount
public import Idealize.ShloMosaic.Lib.WordSum
public import Mathlib.Algebra.Order.BigOperators.Group.Finset

@[expose] public section

/-! # Sorting points by scene, in natural numbers

`σ a` is the scene of point `a`. Points are put in the order of their scenes, a stable
counting sort: `pos σ a` is the place of point `a`. Every scene's places are cut in chunks of
sixteen, the chunks are numbered, and chunk `t` belongs to the scene `sfor σ t`, begins at place
`row0 σ t` and ends before place `hi σ t`. The facts proved here are those the kernel rests on:
the places are a permutation, every place lies in a chunk, and the places of a chunk hold points
of the chunk's scene. -/

namespace Cert.Routing

variable (σ : Fin 2048 → ℕ)

/-- How many points scene `n` has. -/
def cnt (n : ℕ) : ℕ := (Finset.univ.filter fun a => σ a = n).card

/-- How many points lie in the scenes before `n`: the first place of scene `n`. -/
def st (n : ℕ) : ℕ := (Finset.univ.filter fun a => σ a < n).card

/-- How many points of the scene of `a` come before `a`. -/
def rank (a : Fin 2048) : ℕ := (Finset.univ.filter fun b => σ b = σ a ∧ b < a).card

/-- The place of point `a`. -/
def pos (a : Fin 2048) : ℕ := st σ (σ a) + rank σ a

/-- How many chunks of sixteen scene `n` takes. -/
def nch (n : ℕ) : ℕ := (cnt σ n + 15) / 16

/-- The first chunk of scene `n`. -/
def base (n : ℕ) : ℕ := ∑ k : Fin 64, if (k : ℕ) < n then nch σ k else 0

/-- How many chunks there are. -/
def total : ℕ := ∑ k : Fin 64, nch σ k

/-- The scene of chunk `t`: the last scene with points whose chunks begin by `t`. -/
def sfor (t : ℕ) : ℕ :=
  (Finset.univ.filter fun n : Fin 64 => base σ n ≤ t ∧ 0 < nch σ n).sup fun n => (n : ℕ)

/-- The first place of chunk `t`. -/
def row0 (t : ℕ) : ℕ := st σ (sfor σ t) + (t - base σ (sfor σ t)) * 16

/-- The place chunk `t` ends before. -/
def hi (t : ℕ) : ℕ := if t < total σ then st σ (sfor σ t) + cnt σ (sfor σ t) else 0

theorem cnt_le (n : ℕ) : cnt σ n ≤ 2048 := by
  simpa [cnt] using Finset.card_filter_le (Finset.univ : Finset (Fin 2048)) (fun a => σ a = n)

theorem st_le (n : ℕ) : st σ n ≤ 2048 := by
  simpa [st] using Finset.card_filter_le (Finset.univ : Finset (Fin 2048)) (fun a => σ a < n)

theorem rank_lt (a : Fin 2048) : rank σ a < cnt σ (σ a) := by
  refine Finset.card_lt_card ⟨fun b hb => ?_, fun h => ?_⟩
  · simp only [Finset.mem_filter, Finset.mem_univ, true_and] at hb ⊢
    exact hb.1
  · have := h (show a ∈ _ by simp)
    simp at this

theorem st_succ (n : ℕ) : st σ (n + 1) = st σ n + cnt σ n := by
  unfold st cnt
  rw [← Finset.card_union_of_disjoint]
  · congr 1
    ext a
    simp only [Finset.mem_filter, Finset.mem_univ, true_and, Finset.mem_union]
    omega
  · rw [Finset.disjoint_filter]
    intro a _ h
    omega

theorem st_mono {m n : ℕ} (h : m ≤ n) : st σ m ≤ st σ n :=
  Finset.card_le_card fun a ha => by
    simp only [Finset.mem_filter, Finset.mem_univ, true_and] at ha ⊢
    omega

theorem st_add_le {m n : ℕ} (h : m < n) : st σ m + cnt σ m ≤ st σ n := by
  rw [← st_succ]
  exact st_mono σ h

theorem st_zero : st σ 0 = 0 := by simp [st]

/-- The first place of a scene as a sum of counts, the way the kernel takes it. -/
theorem st_eq_sum (n : ℕ) (hn : n ≤ 64) :
    st σ n = ∑ k : Fin 64, if (k : ℕ) < n then cnt σ k else 0 := by
  induction n with
  | zero => simp [st_zero]
  | succ n ih =>
    rw [st_succ, ih (by omega)]
    have : ∀ k : Fin 64, (if (k : ℕ) < n + 1 then cnt σ k else 0)
        = (if (k : ℕ) < n then cnt σ k else 0) + (if k = ⟨n, by omega⟩ then cnt σ k else 0) := by
      intro k
      by_cases h1 : (k : ℕ) < n
      · have : k ≠ ⟨n, by omega⟩ := fun e => by rw [e] at h1; simp at h1
        simp [h1, this, Nat.lt_succ_of_lt h1]
      · by_cases h2 : (k : ℕ) = n
        · have : k = ⟨n, by omega⟩ := Fin.ext h2
          simp [this]
        · have h3 : k ≠ ⟨n, by omega⟩ := fun e => h2 (by rw [e])
          have h4 : ¬ (k : ℕ) < n + 1 := by omega
          simp [h1, h3, h4]
    rw [Finset.sum_congr rfl fun k _ => this k, Finset.sum_add_distrib]
    simp

theorem pos_lt (a : Fin 2048) : pos σ a < 2048 := by
  have h1 := rank_lt σ a
  have h2 := st_le σ (σ a + 1)
  rw [st_succ] at h2
  unfold pos
  omega

theorem rank_strict {a b : Fin 2048} (h : σ a = σ b) (hab : a < b) : rank σ a < rank σ b := by
  refine Finset.card_lt_card ⟨fun c hc => ?_, fun hh => ?_⟩
  · simp only [Finset.mem_filter, Finset.mem_univ, true_and] at hc ⊢
    exact ⟨hc.1.trans h, hc.2.trans hab⟩
  · have := hh (show a ∈ _ by simp [h, hab])
    simp at this

theorem pos_lt_pos {a b : Fin 2048} (h : σ a < σ b) : pos σ a < pos σ b := by
  have h1 := rank_lt σ a
  have h2 := st_add_le σ h
  unfold pos
  omega

theorem pos_inj : Function.Injective (fun a => (⟨pos σ a, pos_lt σ a⟩ : Fin 2048)) := by
  intro a b h
  have h : pos σ a = pos σ b := congrArg Fin.val h
  rcases lt_trichotomy (σ a) (σ b) with h1 | h1 | h1
  · have := pos_lt_pos σ h1; omega
  · rcases lt_trichotomy a b with h2 | h2 | h2
    · have := rank_strict σ h1 h2; unfold pos at h; rw [h1] at h; omega
    · exact h2
    · have := rank_strict σ h1.symm h2; unfold pos at h; rw [h1] at h; omega
  · have := pos_lt_pos σ h1; omega

theorem pos_surj (r : Fin 2048) : ∃ a, pos σ a = r := by
  obtain ⟨a, ha⟩ := (Finite.injective_iff_surjective.mp (pos_inj σ)) r
  exact ⟨a, congrArg Fin.val ha⟩

/-- The point at place `r`. -/
noncomputable def perm (r : Fin 2048) : Fin 2048 := (pos_surj σ r).choose

theorem pos_perm (r : Fin 2048) : pos σ (perm σ r) = r := (pos_surj σ r).choose_spec

theorem perm_eq_iff (r a : Fin 2048) : perm σ r = a ↔ pos σ a = r := by
  constructor
  · rintro rfl; exact pos_perm σ r
  · intro h
    apply pos_inj σ
    exact Fin.ext ((pos_perm σ r).trans h.symm)

theorem perm_inj : Function.Injective (perm σ) := fun r r' h => by
  have h1 := pos_perm σ r
  rw [h, pos_perm] at h1
  exact Fin.ext h1.symm

theorem perm_surj (a : Fin 2048) : ∃ r, perm σ r = a :=
  ⟨⟨pos σ a, pos_lt σ a⟩, (perm_eq_iff σ _ a).mpr rfl⟩

/-- The point at a place of scene `n` belongs to scene `n`. -/
theorem scene_perm {n : ℕ} (r : Fin 2048) (h1 : st σ n ≤ r) (h2 : (r : ℕ) < st σ n + cnt σ n) :
    σ (perm σ r) = n := by
  have hp := pos_perm σ r
  have hr := rank_lt σ (perm σ r)
  unfold pos at hp
  rcases lt_trichotomy (σ (perm σ r)) n with h | h | h
  · have := st_add_le σ h; omega
  · exact h
  · have := st_add_le σ h; omega

theorem place_of_perm (r : Fin 2048) :
    st σ (σ (perm σ r)) ≤ r ∧ (r : ℕ) < st σ (σ (perm σ r)) + cnt σ (σ (perm σ r)) := by
  have hp := pos_perm σ r
  have hr := rank_lt σ (perm σ r)
  unfold pos at hp
  omega

theorem base_zero : base σ 0 = 0 := by simp [base]

theorem base_add_le {m n : ℕ} (hm : m < 64) (h : m < n) : base σ m + nch σ m ≤ base σ n := by
  have e : base σ m + nch σ m
      = ∑ k : Fin 64, ((if (k : ℕ) < m then nch σ k else 0)
          + (if k = ⟨m, hm⟩ then nch σ k else 0)) := by
    rw [Finset.sum_add_distrib]; simp [base]
  rw [e]
  refine Finset.sum_le_sum fun k _ => ?_
  by_cases h1 : (k : ℕ) < m
  · have h2 : k ≠ ⟨m, hm⟩ := fun e => by rw [e] at h1; simp at h1
    simp [h1, h2, h1.trans h]
  · by_cases h2 : k = ⟨m, hm⟩
    · subst h2; simp [h]
    · simp [h1, h2]

theorem base_add_le_total {m : ℕ} (hm : m < 64) : base σ m + nch σ m ≤ total σ := by
  have := base_add_le σ hm (show m < 64 from hm)
  refine this.trans (Finset.sum_le_sum fun k _ => ?_)
  split <;> simp

theorem sum_cnt (hσ : ∀ a, σ a < 64) : ∑ k : Fin 64, cnt σ k = 2048 := by
  have h := st_eq_sum σ 64 le_rfl
  have h2 : st σ 64 = 2048 := by
    unfold st
    rw [Finset.filter_true_of_mem fun a _ => hσ a]
    simp
  rw [h2] at h
  rw [h]
  exact Finset.sum_congr rfl fun k _ => by simp [k.isLt]

theorem nch_le (n : ℕ) : nch σ n ≤ 128 := by
  have := cnt_le σ n
  unfold nch
  omega

theorem total_le (hσ : ∀ a, σ a < 64) : total σ ≤ 188 := by
  have h : 16 * total σ ≤ ∑ k : Fin 64, (cnt σ k + 15) := by
    unfold total
    rw [Finset.mul_sum]
    exact Finset.sum_le_sum fun k _ => by unfold nch; omega
  rw [Finset.sum_add_distrib, sum_cnt σ hσ] at h
  simp at h
  omega

theorem total_le_crude : total σ ≤ 8192 := by
  have h : ∑ k : Fin 64, nch σ k ≤ ∑ _k : Fin 64, 128 := Finset.sum_le_sum fun k _ => nch_le σ k
  have e : ∑ _k : Fin 64, 128 = 8192 := by simp
  exact e ▸ h

theorem base_le_total (n : ℕ) : base σ n ≤ total σ := by
  unfold base total
  exact Finset.sum_le_sum fun k _ => by split <;> simp

theorem sfor_lt (t : ℕ) : sfor σ t < 64 := by
  unfold sfor
  rw [Finset.sup_lt_iff (by simp)]
  intro b _
  exact b.isLt

theorem base_sfor_le (t : ℕ) : base σ (sfor σ t) ≤ t := by
  rcases (Finset.univ.filter fun n : Fin 64 => base σ n ≤ t ∧ 0 < nch σ n).eq_empty_or_nonempty
    with h | h
  · have : sfor σ t = 0 := by unfold sfor; rw [h]; simp
    rw [this, base_zero]; omega
  · obtain ⟨m, hm, e⟩ := Finset.exists_mem_eq_sup _ h fun n : Fin 64 => (n : ℕ)
    have : sfor σ t = m := e
    rw [this]
    exact (Finset.mem_filter.mp hm).2.1

theorem row0_lt (t : ℕ) (ht : t < 192) : row0 σ t < 2 ^ 13 := by
  have := st_le σ (sfor σ t)
  unfold row0
  omega

theorem sfor_eq {t n : ℕ} (hn : n < 64) (h1 : base σ n ≤ t) (h2 : t < base σ n + nch σ n) :
    sfor σ t = n := by
  apply le_antisymm
  · refine Finset.sup_le fun k hk => ?_
    simp only [Finset.mem_filter, Finset.mem_univ, true_and] at hk
    by_contra hlt
    have := base_add_le σ hn (show n < (k : ℕ) by omega)
    omega
  · exact Finset.le_sup (f := fun n : Fin 64 => (n : ℕ)) (b := ⟨n, hn⟩) (by simp; omega)

/-- The rows of a chunk that are stored are places of the chunk's scene. -/
theorem scene_of_chunk {t r : ℕ} (h1 : row0 σ t ≤ r) (h2 : r < hi σ t) :
    ∃ hr : r < 2048, σ (perm σ ⟨r, hr⟩) = sfor σ t := by
  unfold hi at h2
  split at h2
  · have h3 := st_le σ (sfor σ t + 1)
    rw [st_succ] at h3
    refine ⟨by omega, scene_perm σ _ ?_ h2⟩
    show st σ (sfor σ t) ≤ r
    unfold row0 at h1
    omega
  · omega

/-- Every place lies in a chunk. -/
theorem chunk_of_place (hσ : ∀ a, σ a < 64) (r : Fin 2048) :
    ∃ t < 192, ∃ i < 16, row0 σ t + i = r ∧ (r : ℕ) < hi σ t := by
  obtain ⟨h1, h2⟩ := place_of_perm σ r
  set s := σ (perm σ r) with hs
  have hs64 : s < 64 := hσ _
  have hn : (r - st σ s) / 16 < nch σ s := by unfold nch; omega
  have hf : sfor σ (base σ s + (r - st σ s) / 16) = s := sfor_eq σ hs64 (by omega) (by omega)
  have ht := base_add_le_total σ hs64
  have ht' := total_le σ hσ
  refine ⟨base σ s + (r - st σ s) / 16, by omega, (r - st σ s) % 16, Nat.mod_lt _ (by decide),
    ?_, ?_⟩
  · unfold row0; rw [hf]; omega
  · unfold hi; rw [hf, if_pos (by omega)]; exact h2

/-- A segment ends inside the points. -/
theorem hi_le (t : ℕ) : hi σ t ≤ 2048 := by
  unfold hi
  split
  · have h3 := st_le σ (sfor σ t + 1)
    rw [st_succ] at h3
    exact h3
  · omega

/-- A place that is stored lies in one chunk only. -/
theorem chunk_unique {t t' r : ℕ} (h1 : row0 σ t ≤ r) (h2 : r < row0 σ t + 16) (h3 : r < hi σ t)
    (h1' : row0 σ t' ≤ r) (h2' : r < row0 σ t' + 16) (h3' : r < hi σ t') : t = t' := by
  obtain ⟨hr, e⟩ := scene_of_chunk σ h1 h3
  obtain ⟨_, e'⟩ := scene_of_chunk σ h1' h3'
  have hs : sfor σ t' = sfor σ t := e'.symm.trans e
  have hb := base_sfor_le σ t
  have hb' := base_sfor_le σ t'
  unfold row0 at h1 h2 h1' h2'
  rw [hs] at h1' h2' hb'
  omega

end Cert.Routing
-- ==== Proof.TableWords.lean ====
/-
  The words the first call's routing program computes, read at one index as natural numbers of the plan in
  `Proof/Routing.lean`: counts, first places, places of points, the point at a place, chunks.
-/
module

public import proofs.«01_k».proof.Proof.Gen.KernelIdeal.Skeleton
public import proofs.«01_k».proof.Proof.Routing
public import Idealize.ShloMosaic.Lib.Pointwise
public import Idealize.ShloMosaic.Lib.WordCmp
public import Idealize.ShloMosaic.Lib.VecWindow
public import Idealize.ShloMosaic.Lib.Routing.Words

@[expose] public section

noncomputable section

namespace Cert.KernelIdeal.Gen

open Idealize.ShloMosaic Cert.Routing
open Idealize.ShloMosaic.WordCmp (addi_ofNat muli_ofNat cmpi_eq_ofNat cmpi_slt_ofNat cmpi_sge_ofNat cmpi_sgt_ofNat select_decide cmpi_ne_ofNat)

variable {F : FTy → Type} [FloatOps F]

/-- The column numbers of a row of 2048 words. -/
abbrev i2048 : IVec S1x2048 32 := iota .tc S1x2048 32 [1] iota_S1x2048_d1_w32
/-- The column numbers of a row of 64 words. -/
abbrev i64 : IVec S1x64 32 := iota .tc S1x64 32 [1] iota_S1x64_d1_w32

/-- A decided bit widened to a word. -/
theorem bit_word (p : Prop) [Decidable p] : (BitVec.ofBool (decide p)).setWidth 32 = BitVec.ofNat 32 (if p then 1 else 0) := by
  by_cases h : p <;> simp [h]

/-- A sum of words of naturals is the word of the sum. -/
theorem fold_word {ι : Type} (S : Finset ι) (g : ι → ℕ) :
    S.fold IntOp.addi 0#32 (fun x => BitVec.ofNat 32 (g x)) = BitVec.ofNat 32 (∑ x ∈ S, g x) := by
  classical
  induction S using Finset.induction_on with
  | empty => rfl
  | insert a S ha ih => rw [Finset.fold_insert ha, ih, Finset.sum_insert ha, addi_ofNat]

/-- A sum of words, each the word of a natural. -/
theorem fold_eq {n : ℕ} {f : Fin n → BitVec 32} {g : Fin n → ℕ} (h : ∀ x, f x = BitVec.ofNat 32 (g x)) :
    Finset.univ.fold IntOp.addi 0#32 f = BitVec.ofNat 32 (∑ x, g x) := by
  rw [funext h, fold_word]

/-- The scene of each point: the row of scene numbers, in naturals. -/
def sceneOf (s : IVec S1x2048 32) (a : Fin 2048) : ℕ := (s (ix2 0 a)).toNat

section

variable {s : IVec S1x2048 32} (hs : ∀ a, sceneOf s a < 64)

theorem scene_word (a : Fin 2048) : s (ix2 0 a) = BitVec.ofNat 32 (sceneOf s a) := by
  simp [sceneOf]

include hs

theorem cnt_word (k : Fin 64) : k0_pay6 (F := F) s (ix2 k 0) = BitVec.ofNat 32 (cnt (sceneOf s) k) := by
  pointwise [k0_pay6, k0_pay5]
  rw [fold_eq (g := fun x => if sceneOf s x = k then 1 else 0) fun x => by
    have := hs x
    rw [scene_word (s := s), cmpi_eq_ofNat (by omega) (by omega), bit_word]]
  unfold cnt
  rw [Finset.card_filter]

theorem st_col (k : Fin 64) : (∑ x : Fin 64, (if (x : ℕ) < k then 1 else 0) * cnt (sceneOf s) x) = st (sceneOf s) k := by
  rw [st_eq_sum _ _ (by omega)]
  exact Finset.sum_congr rfl fun x _ => by split <;> simp

theorem st_word (k : Fin 64) : k0_pay9 (F := F) s (ix2 0 k) = BitVec.ofNat 32 (st (sceneOf s) k) := by
  pointwise [k0_pay9, k0_pay8, k0_pay7]
  rw [fold_eq (g := fun x : Fin 64 => (if (x : ℕ) < k then 1 else 0) * cnt (sceneOf s) x) fun x => by
    rw [cnt_word hs, cmpi_slt_ofNat (by omega) (by omega), bit_word, muli_ofNat], st_col hs]

theorem end_word (k : Fin 64) : k0_pay10 (F := F) s (ix2 0 k) = BitVec.ofNat 32 (st (sceneOf s) k + cnt (sceneOf s) k) := by
  pointwise [k0_pay10, k0_pay8, k0_pay7]
  rw [fold_eq (g := fun x : Fin 64 => (if (x : ℕ) < k then 1 else 0) * cnt (sceneOf s) x) fun x => by
    rw [cnt_word hs, cmpi_slt_ofNat (by omega) (by omega), bit_word, muli_ofNat], st_col hs, cnt_word hs, addi_ofNat]

/-- Picking the entry of a point's scene out of a row of 64. -/
theorem pick_scene (a : Fin 2048) {v : IVec S1x64 32} {g : ℕ → ℕ} (hv : ∀ k : Fin 64, v (ix2 0 k) = BitVec.ofNat 32 (g k)) :
    Finset.univ.fold IntOp.addi (0#32) (fun x : Fin 64 =>
      IntOp.muli (BitVec.setWidth 32 (IntOp.cmpi CmpIPredicate.eq (s (ix2 0 a)) (BitVec.ofNat 32 x))) (v (ix2 0 x)))
      = BitVec.ofNat 32 (g (sceneOf s a)) := by
  have h := hs a
  rw [fold_eq (g := fun x : Fin 64 => (if sceneOf s a = x then 1 else 0) * g x) fun x => by
    rw [hv, scene_word (s := s), cmpi_eq_ofNat (by omega) (by omega), bit_word, muli_ofNat]]
  refine congrArg (BitVec.ofNat 32) ?_
  rw [Finset.sum_eq_single ⟨sceneOf s a, h⟩]
  · simp
  · intro b _ hb
    have : sceneOf s a ≠ b := fun e => hb (Fin.ext e.symm)
    simp [this]
  · simp

/-- Counting the points of the same scene that come before. -/
theorem rank_word (a : Fin 2048) {k o : ℕ} (ha : (a : ℕ) = k + o) :
    Finset.univ.fold IntOp.addi (0#32) (fun x : Fin 2048 =>
      BitVec.setWidth 32 (IntOp.andi (IntOp.cmpi CmpIPredicate.eq (s (ix2 0 x)) (s (ix2 0 a)))
        (IntOp.cmpi CmpIPredicate.slt (BitVec.ofNat 32 x) (IntOp.addi (BitVec.ofNat 32 k) (BitVec.ofNat 32 o)))))
      = BitVec.ofNat 32 (rank (sceneOf s) a) := by
  have h := hs a
  have ha' := a.isLt
  rw [fold_eq (g := fun x : Fin 2048 => if sceneOf s x = sceneOf s a ∧ x < a then 1 else 0) fun x => by
    have := hs x
    rw [scene_word (s := s) x, scene_word (s := s) a, cmpi_eq_ofNat (by omega) (by omega), addi_ofNat, cmpi_slt_ofNat (by omega) (by omega),
      WordCmp.andi_ofBool, ← ha, ← Bool.decide_and, bit_word]
    rfl]
  unfold rank
  rw [Finset.card_filter]

theorem pos_blk (a : Fin 2048) {k o : ℕ} (ha : (a : ℕ) = k + o) :
    IntOp.addi
      (Finset.univ.fold IntOp.addi (0#32) (fun x : Fin 64 =>
        IntOp.muli (BitVec.setWidth 32 (IntOp.cmpi CmpIPredicate.eq (s (ix2 0 a)) (BitVec.ofNat 32 x))) (k0_pay9 (F := F) s (ix2 0 x))))
      (Finset.univ.fold IntOp.addi (0#32) (fun x : Fin 2048 =>
        BitVec.setWidth 32 (IntOp.andi (IntOp.cmpi CmpIPredicate.eq (s (ix2 0 x)) (s (ix2 0 a)))
          (IntOp.cmpi CmpIPredicate.slt (BitVec.ofNat 32 x) (IntOp.addi (BitVec.ofNat 32 k) (BitVec.ofNat 32 o))))))
      = BitVec.ofNat 32 (pos (sceneOf s) a) := by
  rw [rank_word hs a ha, pick_scene hs a (st_word hs), addi_ofNat]
  rfl

theorem pos_blk0 (k : Fin 256) (a : Fin 2048) (ha : (a : ℕ) = k + 0) :
    k0_pay11 (F := F) s (ix2 k 0) = BitVec.ofNat 32 (pos (sceneOf s) a) := by
  have hk := k.isLt
  have hb : (k : ℕ) < 2048 := by omega
  have e : (⟨k, hb⟩ : Fin 2048) = a := Fin.ext (by rw [ha]; rfl)
  clear ha
  subst e
  pointwise [k0_pay11, k0_pay5, i2048, i64]
  exact pos_blk (F := F) (k := k) (o := 0) hs ⟨k, hb⟩ rfl

theorem pos_blk1 (k : Fin 256) (a : Fin 2048) (ha : (a : ℕ) = k + 256) :
    k0_pay14 (k0_pay5 (F := F) s) i2048 i64 (k0_pay9 (F := F) s) (k0_pay12 (F := F) s) k0_pay13 (ix2 k 0) = BitVec.ofNat 32 (pos (sceneOf s) a) := by
  have hk := k.isLt
  have hb : 256 + (k : ℕ) < 2048 := by omega
  have e : (⟨256 + k, hb⟩ : Fin 2048) = a := Fin.ext (by rw [ha]; exact Nat.add_comm _ _)
  clear ha
  subst e
  pointwise [k0_pay14, k0_pay12, k0_pay13, k0_pay5, i2048, i64]
  exact pos_blk (F := F) (k := k) (o := 256) hs ⟨256 + k, hb⟩ (Nat.add_comm _ _)

theorem pos_blk2 (k : Fin 256) (a : Fin 2048) (ha : (a : ℕ) = k + 512) :
    k0_pay15 (k0_pay5 (F := F) s) i2048 i64 (k0_pay9 (F := F) s) (ix2 k 0) = BitVec.ofNat 32 (pos (sceneOf s) a) := by
  have hk := k.isLt
  have hb : 512 + (k : ℕ) < 2048 := by omega
  have e : (⟨512 + k, hb⟩ : Fin 2048) = a := Fin.ext (by rw [ha]; exact Nat.add_comm _ _)
  clear ha
  subst e
  pointwise [k0_pay15, k0_pay5, i2048, i64]
  exact pos_blk (F := F) (k := k) (o := 512) hs ⟨512 + k, hb⟩ (Nat.add_comm _ _)

theorem pos_blk3 (k : Fin 256) (a : Fin 2048) (ha : (a : ℕ) = k + 768) :
    k0_pay19 i64 (k0_pay9 (F := F) s) (k0_pay16 (k0_pay5 (F := F) s)) (k0_pay17 (k0_pay5 (F := F) s)) (k0_pay18 i2048) (ix2 k 0) = BitVec.ofNat 32 (pos (sceneOf s) a) := by
  have hk := k.isLt
  have hb : 768 + (k : ℕ) < 2048 := by omega
  have e : (⟨768 + k, hb⟩ : Fin 2048) = a := Fin.ext (by rw [ha]; exact Nat.add_comm _ _)
  clear ha
  subst e
  pointwise [k0_pay19, k0_pay16, k0_pay17, k0_pay18, k0_pay5, i2048, i64]
  exact pos_blk (F := F) (k := k) (o := 768) hs ⟨768 + k, hb⟩ (Nat.add_comm _ _)

theorem pos_blk4 (k : Fin 256) (a : Fin 2048) (ha : (a : ℕ) = k + 1024) :
    k0_pay20 (k0_pay5 (F := F) s) i2048 i64 (k0_pay9 (F := F) s) (ix2 k 0) = BitVec.ofNat 32 (pos (sceneOf s) a) := by
  have hk := k.isLt
  have hb : 1024 + (k : ℕ) < 2048 := by omega
  have e : (⟨1024 + k, hb⟩ : Fin 2048) = a := Fin.ext (by rw [ha]; exact Nat.add_comm _ _)
  clear ha
  subst e
  pointwise [k0_pay20, k0_pay5, i2048, i64]
  exact pos_blk (F := F) (k := k) (o := 1024) hs ⟨1024 + k, hb⟩ (Nat.add_comm _ _)

theorem pos_blk5 (k : Fin 256) (a : Fin 2048) (ha : (a : ℕ) = k + 1280) :
    k0_pay24 i64 (k0_pay9 (F := F) s) (k0_pay22 (k0_pay5 (F := F) s) i2048) (k0_pay23 (k0_pay5 (F := F) s)) (ix2 k 0) = BitVec.ofNat 32 (pos (sceneOf s) a) := by
  have hk := k.isLt
  have hb : 1280 + (k : ℕ) < 2048 := by omega
  have e : (⟨1280 + k, hb⟩ : Fin 2048) = a := Fin.ext (by rw [ha]; exact Nat.add_comm _ _)
  clear ha
  subst e
  pointwise [k0_pay24, k0_pay22, k0_pay23, k0_pay21, k0_pay5, i2048, i64]
  exact pos_blk (F := F) (k := k) (o := 1280) hs ⟨1280 + k, hb⟩ (Nat.add_comm _ _)

theorem pos_blk6 (k : Fin 256) (a : Fin 2048) (ha : (a : ℕ) = k + 1536) :
    k0_pay25 (k0_pay5 (F := F) s) i2048 i64 (k0_pay9 (F := F) s) (ix2 k 0) = BitVec.ofNat 32 (pos (sceneOf s) a) := by
  have hk := k.isLt
  have hb : 1536 + (k : ℕ) < 2048 := by omega
  have e : (⟨1536 + k, hb⟩ : Fin 2048) = a := Fin.ext (by rw [ha]; exact Nat.add_comm _ _)
  clear ha
  subst e
  pointwise [k0_pay25, k0_pay5, i2048, i64]
  exact pos_blk (F := F) (k := k) (o := 1536) hs ⟨1536 + k, hb⟩ (Nat.add_comm _ _)

theorem pos_blk7 (k : Fin 256) (a : Fin 2048) (ha : (a : ℕ) = k + 1792) :
    IntOp.addi (Finset.univ.fold IntOp.addi (0#32) (fun x : Fin 64 => k0_pay28 (k0_pay5 (F := F) s) i64 (k0_pay9 (F := F) s) (ix2 k x)))
      (k0_pay27 (k0_pay5 (F := F) s) i2048 (ix2 k 0)) = BitVec.ofNat 32 (pos (sceneOf s) a) := by
  have hk := k.isLt
  have hb : 1792 + (k : ℕ) < 2048 := by omega
  have e : (⟨1792 + k, hb⟩ : Fin 2048) = a := Fin.ext (by rw [ha]; exact Nat.add_comm _ _)
  clear ha
  subst e
  pointwise [k0_pay27, k0_pay28, k0_pay26, k0_pay5, i2048, i64]
  exact pos_blk (F := F) (k := k) (o := 1792) hs ⟨1792 + k, hb⟩ (Nat.add_comm _ _)

end

/-- The row of places, as the routing program puts it together. -/
abbrev posRow (s : IVec S1x2048 32) : IVec S1x2048 32 :=
  k0_pay29 (k0_pay11 (F := F) s)
    (k0_pay14 (k0_pay5 (F := F) s) i2048 i64 (k0_pay9 (F := F) s) (k0_pay12 (F := F) s) k0_pay13)
    (k0_pay15 (k0_pay5 (F := F) s) i2048 i64 (k0_pay9 (F := F) s))
    (k0_pay19 i64 (k0_pay9 (F := F) s) (k0_pay16 (k0_pay5 (F := F) s)) (k0_pay17 (k0_pay5 (F := F) s)) (k0_pay18 i2048))
    (k0_pay20 (k0_pay5 (F := F) s) i2048 i64 (k0_pay9 (F := F) s))
    (k0_pay24 i64 (k0_pay9 (F := F) s) (k0_pay22 (k0_pay5 (F := F) s) i2048) (k0_pay23 (k0_pay5 (F := F) s)))
    (k0_pay25 (k0_pay5 (F := F) s) i2048 i64 (k0_pay9 (F := F) s))
    (k0_pay27 (k0_pay5 (F := F) s) i2048)
    (k0_pay28 (k0_pay5 (F := F) s) i64 (k0_pay9 (F := F) s))

theorem pos_word {s : IVec S1x2048 32} (hs : ∀ a, sceneOf s a < 64) (k : Fin 2048) :
    posRow (F := F) s (ix2 0 k) = BitVec.ofNat 32 (pos (sceneOf s) k) := by
  pointwise [posRow, k0_pay29]
  by_cases h0 : (k : ℕ) < 256
  · rw [dif_pos h0]
    exact pos_blk0 (F := F) hs _ k (by simp only []; omega)
  rw [dif_neg h0]
  by_cases h1 : (k : ℕ) - 256 < 256
  · rw [dif_pos h1]
    exact pos_blk1 (F := F) hs _ k (by simp only []; omega)
  rw [dif_neg h1]
  by_cases h2 : (k : ℕ) - 256 - 256 < 256
  · rw [dif_pos h2]
    exact pos_blk2 (F := F) hs _ k (by simp only []; omega)
  rw [dif_neg h2]
  by_cases h3 : (k : ℕ) - 256 - 256 - 256 < 256
  · rw [dif_pos h3]
    exact pos_blk3 (F := F) hs _ k (by simp only []; omega)
  rw [dif_neg h3]
  by_cases h4 : (k : ℕ) - 256 - 256 - 256 - 256 < 256
  · rw [dif_pos h4]
    exact pos_blk4 (F := F) hs _ k (by simp only []; omega)
  rw [dif_neg h4]
  by_cases h5 : (k : ℕ) - 256 - 256 - 256 - 256 - 256 < 256
  · rw [dif_pos h5]
    exact pos_blk5 (F := F) hs _ k (by simp only []; omega)
  rw [dif_neg h5]
  by_cases h6 : (k : ℕ) - 256 - 256 - 256 - 256 - 256 - 256 < 256
  · rw [dif_pos h6]
    exact pos_blk6 (F := F) hs _ k (by simp only []; omega)
  rw [dif_neg h6]
  exact pos_blk7 (F := F) hs _ k (by simp only []; omega)

/-- The point whose place is `r`, found by running through the places. -/
theorem perm_blk {s : IVec S1x2048 32} (hs : ∀ a, sceneOf s a < 64) (r : Fin 2048) {k o : ℕ} (hr : (r : ℕ) = k + o) :
    Finset.univ.fold IntOp.addi (0#32) (fun x : Fin 2048 =>
      Scalar.select (IntOp.cmpi CmpIPredicate.eq (posRow (F := F) s (ix2 0 x)) (IntOp.addi (BitVec.ofNat 32 k) (BitVec.ofNat 32 o)))
        (BitVec.ofNat 32 x) 0#32) = BitVec.ofNat 32 (perm (sceneOf s) r) := by
  have hr' := r.isLt
  rw [fold_eq (g := fun x : Fin 2048 => if pos (sceneOf s) x = r then (x : ℕ) else 0) fun x => by
    have := pos_lt (sceneOf s) x
    rw [pos_word hs, addi_ofNat, cmpi_eq_ofNat (by omega) (by omega), select_decide, ← hr]
    split <;> rfl]
  refine congrArg (BitVec.ofNat 32) ?_
  rw [Finset.sum_eq_single (perm (sceneOf s) r)]
  · rw [if_pos (pos_perm _ r)]
  · intro b _ hb
    rw [if_neg fun h => hb ((perm_eq_iff _ r b).mpr h).symm]
  · simp

/-! ## Chunks -/

/-- One, as the kernel finds the sign of sixteen. -/
abbrev sgn16 : BitVec 32 := Scalar.extui (Scalar.cmpi .sgt 16#32 0#32)
/-- Whether sixteen is negative. -/
abbrev neg16 : BitVec 1 := Scalar.cmpi .slt 16#32 0#32

/-- Rounding a count up to chunks of sixteen: the kernel's floor division of the count plus fifteen. -/
theorem ceil_word {c : ℕ} (hc : c ≤ 2048) :
    Scalar.select
      (IntOp.andi
        (IntOp.cmpi CmpIPredicate.ne
          (IntOp.subi
            (BitVec.setWidth 32 (IntOp.cmpi CmpIPredicate.sgt (IntOp.subi (IntOp.addi (BitVec.ofNat 32 c) 16#32) 1#32) 0#32))
            (BitVec.setWidth 32 (IntOp.cmpi CmpIPredicate.slt (IntOp.subi (IntOp.addi (BitVec.ofNat 32 c) 16#32) 1#32) 0#32)))
          (Scalar.subi sgn16 (Scalar.extui neg16)))
        (IntOp.cmpi CmpIPredicate.ne
          (IntOp.remsi ArithUnit.vector (IntOp.subi (IntOp.addi (BitVec.ofNat 32 c) 16#32) 1#32) 16#32) 0#32))
      (IntOp.subi (IntOp.divsi ArithUnit.vector (IntOp.subi (IntOp.addi (BitVec.ofNat 32 c) 16#32) 1#32) 16#32) 1#32)
      (IntOp.divsi ArithUnit.vector (IntOp.subi (IntOp.addi (BitVec.ofNat 32 c) 16#32) 1#32) 16#32)
      = BitVec.ofNat 32 ((c + 15) / 16) := by
  have e : IntOp.subi (IntOp.addi (BitVec.ofNat 32 c) 16#32) 1#32 = BitVec.ofNat 32 (c + 15) := by
    apply BitVec.eq_of_toNat_eq
    show (BitVec.ofNat 32 c + 16#32 - 1#32).toNat = _
    rw [BitVec.toNat_sub, BitVec.toNat_add]
    simp only [BitVec.toNat_ofNat]
    omega
  rw [e, cmpi_sgt_ofNat (by omega) (by omega), cmpi_slt_ofNat (by omega) (by omega), Routing.divsi_word _ (by omega) (by omega) (by omega)]
  have h1 : (0 < c + 15) := by omega
  have h2 : ¬ (c + 15 < 0) := by omega
  simp only [h1, h2, decide_true, decide_false]
  have e2 : IntOp.cmpi CmpIPredicate.ne (IntOp.subi (BitVec.setWidth 32 (BitVec.ofBool true)) (BitVec.setWidth 32 (BitVec.ofBool false)))
      (Scalar.subi sgn16 (Scalar.extui neg16)) = 0#1 := by decide
  rw [e2]
  show Scalar.select (0#1 &&& _) _ _ = _
  rw [BitVec.zero_and]
  rfl

section

variable {s : IVec S1x2048 32} (hs : ∀ a, sceneOf s a < 64)

include hs

theorem nch_col (k : Fin 64) :
    k0_pay41 (k0_pay38 (k0_pay6 (F := F) s)) 16#32 (k0_pay39 (k0_pay6 (F := F) s)) (k0_pay40 (k0_pay6 (F := F) s)) sgn16 neg16 (ix2 k 0)
      = BitVec.ofNat 32 (nch (sceneOf s) k) := by
  pointwise [k0_pay41, k0_pay40, k0_pay39, k0_pay38]
  rw [cnt_word hs]
  exact ceil_word (cnt_le _ _)

theorem nch_word (k : Fin 64) :
    k0_pay42 (k0_pay38 (k0_pay6 (F := F) s)) 16#32 (k0_pay39 (k0_pay6 (F := F) s)) (k0_pay40 (k0_pay6 (F := F) s)) sgn16 neg16 (ix2 0 k)
      = BitVec.ofNat 32 (nch (sceneOf s) k) := by
  pointwise [k0_pay42]
  exact nch_col hs k

theorem total_word :
    extractAt ![0, 0, 0] (k0_pay44 (k0_pay38 (k0_pay6 (F := F) s)) 16#32 (k0_pay39 (k0_pay6 (F := F) s)) (k0_pay40 (k0_pay6 (F := F) s)) sgn16 neg16) inpos_S1x1x1_p0_0_0
      = BitVec.ofNat 32 (total (sceneOf s)) := by
  pointwise [k0_pay44]
  rw [show (fun x : Fin 64 × Fin 1 => _) = fun x : Fin 64 × Fin 1 => BitVec.ofNat 32 (nch (sceneOf s) x.1) from funext fun x => nch_col hs x.1, fold_word,
    Fintype.sum_prod_type]
  simp only [Finset.univ_unique, Finset.sum_singleton]
  rfl

/-- The first chunk of a scene, as the kernel sums it. -/
theorem base_fold (k : Fin 64) :
    Finset.univ.fold IntOp.addi (0#32) (fun x : Fin 64 =>
      IntOp.muli (BitVec.setWidth 32 (IntOp.cmpi CmpIPredicate.slt (BitVec.ofNat 32 x) (BitVec.ofNat 32 k)))
        (k0_pay42 (k0_pay38 (k0_pay6 (F := F) s)) 16#32 (k0_pay39 (k0_pay6 (F := F) s)) (k0_pay40 (k0_pay6 (F := F) s)) sgn16 neg16 (ix2 0 x)))
      = BitVec.ofNat 32 (base (sceneOf s) k) := by
  rw [fold_eq (g := fun x : Fin 64 => if (x : ℕ) < k then nch (sceneOf s) x else 0) fun x => by
    rw [nch_word hs, cmpi_slt_ofNat (by omega) (by omega), bit_word, muli_ofNat]
    refine congrArg (BitVec.ofNat 32) ?_
    split <;> simp]
  rfl

theorem base_word (k : Fin 64) :
    k0_pay43 k0_pay7 (k0_pay38 (k0_pay6 (F := F) s)) 16#32 (k0_pay39 (k0_pay6 (F := F) s)) (k0_pay40 (k0_pay6 (F := F) s)) sgn16 neg16 (ix2 0 k)
      = BitVec.ofNat 32 (base (sceneOf s) k) := by
  pointwise [k0_pay43, k0_pay7]
  exact base_fold hs k

omit hs in
/-- A word that is the larger of a number and zero, with a scene's number or minus one added to the comparison. -/
theorem max_step (p : Prop) [Decidable p] {n m : ℕ} (hn : n < 64) (hm : m < 64) :
    IntOp.maxsi (if p then BitVec.ofNat 32 n else 4294967295#32) (BitVec.ofNat 32 m) = BitVec.ofNat 32 (max (if p then n else 0) m) := by
  have key : ∀ (a b : Fin 64), IntOp.maxsi (BitVec.ofNat 32 a) (BitVec.ofNat 32 b) = BitVec.ofNat 32 (max a.val b.val) := by decide +kernel
  have key2 : ∀ (b : Fin 64), IntOp.maxsi 4294967295#32 (BitVec.ofNat 32 b) = BitVec.ofNat 32 (max 0 b.val) := by decide +kernel
  by_cases h : p
  · simp only [if_pos h]; exact key ⟨n, hn⟩ ⟨m, hm⟩
  · simp only [if_neg h]; exact key2 ⟨m, hm⟩

omit hs in
/-- The largest number with a property, or zero: the kernel's maximum over a row of numbers and minus ones. -/
theorem max_fold (p : Fin 64 → Prop) [DecidablePred p] (S : Finset (Fin 64)) :
    IntOp.maxsi (S.fold IntOp.maxsi 2147483648#32 fun x => if p x then BitVec.ofNat 32 x else 4294967295#32) 0#32
      = BitVec.ofNat 32 ((S.filter p).sup fun n => (n : ℕ)) := by
  induction S using Finset.induction_on with
  | empty => rw [Finset.fold_empty, Finset.filter_empty, Finset.sup_empty]; decide
  | insert a S ha ih =>
    rw [Finset.fold_insert ha, Std.Associative.assoc (op := IntOp.maxsi), ih, max_step (p a) a.isLt ?_]
    · rw [Finset.filter_insert]
      by_cases h : p a
      · rw [if_pos h, if_pos h, Finset.sup_insert]
      · rw [if_neg h, if_neg h]; simp
    · rw [Finset.sup_lt_iff (by simp)]
      exact fun b _ => b.isLt

theorem sfor_word (k : Fin 192) :
    k0_pay45 i64 k0_pay7 (k0_pay38 (k0_pay6 (F := F) s)) 16#32 (k0_pay39 (k0_pay6 (F := F) s)) (k0_pay40 (k0_pay6 (F := F) s)) sgn16 neg16 (ix2 k 0)
      = BitVec.ofNat 32 (sfor (sceneOf s) k) := by
  pointwise [k0_pay45, k0_pay43, k0_pay7, i64]
  rw [show (fun x : Fin 64 => _) = fun x : Fin 64 => if base (sceneOf s) x ≤ k ∧ 0 < nch (sceneOf s) x then BitVec.ofNat 32 x else 4294967295#32 from funext fun x => by
    have h1 := nch_le (sceneOf s) x
    have h2 := base_le_total (sceneOf s) x
    have h3 := total_le_crude (sceneOf s)
    rw [base_fold hs x, nch_word hs, cmpi_sge_ofNat (by omega) (by omega), cmpi_sgt_ofNat (by omega) (by omega), WordCmp.andi_ofBool, ← Bool.decide_and, select_decide]]
  exact max_fold _ _

theorem hot_word (k : Fin 192) (j : Fin 64) :
    k0_pay46 i64 k0_pay7 (k0_pay38 (k0_pay6 (F := F) s)) 16#32 (k0_pay39 (k0_pay6 (F := F) s)) (k0_pay40 (k0_pay6 (F := F) s)) sgn16 neg16 (ix2 k j)
      = BitVec.ofNat 32 (if sfor (sceneOf s) k = j then 1 else 0) := by
  pointwise [k0_pay46]
  have h := sfor_lt (sceneOf s) k
  rw [sfor_word hs, cmpi_eq_ofNat (by omega) (by omega), bit_word]

/-- Picking the entry of a chunk's scene out of a row of 64. -/
theorem pick_chunk (k : Fin 192) {v : IVec S1x64 32} {g : ℕ → ℕ} (hv : ∀ j : Fin 64, v (ix2 0 j) = BitVec.ofNat 32 (g j)) :
    Finset.univ.fold IntOp.addi (0#32) (fun x : Fin 64 => IntOp.muli
        (k0_pay46 i64 k0_pay7 (k0_pay38 (k0_pay6 (F := F) s)) 16#32 (k0_pay39 (k0_pay6 (F := F) s)) (k0_pay40 (k0_pay6 (F := F) s)) sgn16 neg16 (ix2 k x)) (v (ix2 0 x)))
      = BitVec.ofNat 32 (g (sfor (sceneOf s) k)) := by
  have h := sfor_lt (sceneOf s) k
  rw [fold_eq (g := fun x : Fin 64 => (if sfor (sceneOf s) k = x then 1 else 0) * g x) fun x => by
    rw [hv, hot_word hs, muli_ofNat]]
  refine congrArg (BitVec.ofNat 32) ?_
  generalize sfor (sceneOf s) k = m at h
  rw [Finset.sum_eq_single ⟨m, h⟩]
  · simp
  · intro b _ hb
    have : m ≠ b := fun e => hb (Fin.ext e.symm)
    simp [this]
  · simp

theorem off_word (k : Fin 192) :
    k0_pay47 i64 k0_pay7 (k0_pay38 (k0_pay6 (F := F) s)) 16#32 (k0_pay39 (k0_pay6 (F := F) s)) (k0_pay40 (k0_pay6 (F := F) s)) sgn16 neg16 (ix2 k 0)
      = BitVec.ofNat 32 (k - base (sceneOf s) (sfor (sceneOf s) k)) := by
  pointwise [k0_pay47]
  rw [pick_chunk hs k (g := base (sceneOf s)) (base_word hs)]
  have h := base_sfor_le (sceneOf s) k
  apply BitVec.eq_of_toNat_eq
  show (BitVec.ofNat 32 k - BitVec.ofNat 32 (base (sceneOf s) (sfor (sceneOf s) k))).toNat = _
  rw [BitVec.toNat_sub]
  simp only [BitVec.toNat_ofNat]
  omega

theorem row0_word (k : Fin 192) :
    k0_pay3 (k0_pay9 (F := F) s)
      (k0_pay46 i64 k0_pay7 (k0_pay38 (k0_pay6 (F := F) s)) 16#32 (k0_pay39 (k0_pay6 (F := F) s)) (k0_pay40 (k0_pay6 (F := F) s)) sgn16 neg16)
      (k0_pay47 i64 k0_pay7 (k0_pay38 (k0_pay6 (F := F) s)) 16#32 (k0_pay39 (k0_pay6 (F := F) s)) (k0_pay40 (k0_pay6 (F := F) s)) sgn16 neg16) (ix2 k 0)
      = BitVec.ofNat 32 (row0 (sceneOf s) k) := by
  pointwise [k0_pay3]
  rw [pick_chunk hs k (g := st (sceneOf s)) (st_word hs), off_word hs, muli_ofNat, addi_ofNat]
  rfl

theorem hi_word (k : Fin 192) :
    k0_pay4 (k0_pay10 (F := F) s)
      (extractAt ![0, 0, 0] (k0_pay44 (k0_pay38 (k0_pay6 (F := F) s)) 16#32 (k0_pay39 (k0_pay6 (F := F) s)) (k0_pay40 (k0_pay6 (F := F) s)) sgn16 neg16) inpos_S1x1x1_p0_0_0)
      (iota .tc S192x1 32 [0] iota_S192x1_d0_w32)
      (k0_pay46 i64 k0_pay7 (k0_pay38 (k0_pay6 (F := F) s)) 16#32 (k0_pay39 (k0_pay6 (F := F) s)) (k0_pay40 (k0_pay6 (F := F) s)) sgn16 neg16) (ix2 k 0)
      = BitVec.ofNat 32 (hi (sceneOf s) k) := by
  have h := total_le_crude (sceneOf s)
  rw [total_word hs]
  pointwise [k0_pay4]
  rw [pick_chunk hs k (g := fun n => st (sceneOf s) n + cnt (sceneOf s) n) (end_word hs), cmpi_slt_ofNat (by omega) (by omega), select_decide]
  unfold hi
  split <;> rfl

end

/-! ## The point at each place, block by block -/

/-- Writing the blocks before the `n`-th leaves the table right there and as it was elsewhere. -/
def permUpTo (s : IVec S1x2048 32) (Y : S2048x1.Idx → BitVec 32) (n : ℕ) : S2048x1.Idx → BitVec 32 := fun y =>
  if (y 0).val < 256 * n then BitVec.ofNat 32 (perm (sceneOf s) (y 0)) else Y y

theorem permUpTo_zero (s : IVec S1x2048 32) (Y : S2048x1.Idx → BitVec 32) : permUpTo s Y 0 = Y := by
  funext y; simp [permUpTo]

theorem permUpTo_all (s : IVec S1x2048 32) (Y : S2048x1.Idx → BitVec 32) : permUpTo s Y 8 = fun y => BitVec.ofNat 32 (perm (sceneOf s) (y 0)) := by
  funext y
  have h : (y 0).val < 2048 := (y 0).isLt
  simp only [permUpTo]
  rw [if_pos (by omega)]

theorem permUpTo_succ (s : IVec S1x2048 32) (Y : S2048x1.Idx → BitVec 32) (n : ℕ) {w : S256x1.Idx → BitVec 32}
    (hw : ∀ (k : Fin 256) (r : Fin 2048), (r : ℕ) = k + 256 * n → w (ix2 k 0) = BitVec.ofNat 32 (perm (sceneOf s) r))  :
    VecWindow.put (permUpTo s Y n) ![256 * n, 0] S256x1.size w = permUpTo s Y (n + 1) := by
  funext y
  have h1 : (y 1).val < 1 := (y 1).isLt
  unfold VecWindow.put
  split
  · next h =>
    have h0 : 256 * n ≤ (y 0).val ∧ (y 0).val < 256 * n + 256 := h 0
    have hk : (y 0).val - 256 * n < 256 := by omega
    have e : Rect.unitLocal (s := S2048x1) (off := ![256 * n, 0]) (size := S256x1.size) y h = ix2 (⟨(y 0).val - 256 * n, hk⟩ : Fin 256) 0 := by
      funext a
      fin_cases a
      · rfl
      · exact Fin.ext (show (y 1).val - 0 = 0 by omega)
    have hy : (y 0).val < 2048 := (y 0).isLt
    have hr : (y 0).val = (y 0).val - 256 * n + 256 * n := by omega
    rw [e, hw ⟨(y 0).val - 256 * n, hk⟩ ⟨(y 0).val, hy⟩ hr]
    simp only [permUpTo]
    rw [if_pos (by omega)]
    rfl
  · next h =>
    have h0 : ¬ (256 * n ≤ (y 0).val ∧ (y 0).val < 256 * n + 256) := fun h0 => h fun a => by
      fin_cases a
      · exact h0
      · exact ⟨Nat.zero_le _, show (y 1).val < 0 + 1 by omega⟩
    simp only [permUpTo]
    by_cases h2 : (y 0).val < 256 * n
    · rw [if_pos h2, if_pos (by omega)]
    · rw [if_neg h2, if_neg (by omega)]

end Cert.KernelIdeal.Gen
-- ==== Proof.PreBody.lean ====
/-
  The body of the first call at one grid point: it leaves the scene's first-layer block and the second-layer rows of the
  scene, and at the first grid point the four routing tables, all owned at their values.
-/
module

public import proofs.«01_k».proof.Proof.Steps
public import proofs.«01_k».proof.Proof.TableWords

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Proof (wp_load_window wp_store_window wp_load_all wp_store_all wp_if_pos wp_if_neg wp_seq wp_done)
open Cert.Routing

variable {F : FTy → Type} [FloatOps F]

/-- The scene of every chunk, as words. -/
def sforT (s : IVec S1x2048 32) : S192x1.Idx → BitVec 32 := fun y => BitVec.ofNat 32 (sfor (sceneOf s) (y 0).val)
/-- The first place of every chunk. -/
def row0T (s : IVec S1x2048 32) : S192x1.Idx → BitVec 32 := fun y => BitVec.ofNat 32 (row0 (sceneOf s) (y 0).val)
/-- The place every chunk ends before. -/
def hiT (s : IVec S1x2048 32) : S192x1.Idx → BitVec 32 := fun y => BitVec.ofNat 32 (hi (sceneOf s) (y 0).val)
/-- The point at every place. -/
def permT (s : IVec S1x2048 32) : S2048x1.Idx → BitVec 32 := fun y => BitVec.ofNat 32 (perm (sceneOf s) (y 0))

/-- Two columns that agree at every row are equal. -/
theorem col_ext {n : ℕ} {v w : Shape.Idx ⟨2, ![n, 1]⟩ → BitVec 32} (h : ∀ k : Fin n, v (ix2 k 0) = w (ix2 k 0)) : v = w := by
  funext y
  have e : y = ix2 (y 0) 0 := by
    funext a
    fin_cases a
    · rfl
    · exact Fin.ext (by have : (y 1).val < 1 := (y 1).isLt; show (y 1).val = 0; omega)
  rw [e]
  exact h _

variable {Ix : Type} [DecidableEq Ix] {Name : Type} [DecidableEq Name] {U : Type} [URA U] {Lvl : Type} [Preorder Lvl]
variable (𝒱 : Variants) (c : Dev nD) (bd : Option 𝒱.V) (E : Set Name)

local notation "𝕄" => MT nD τ sig Ix (Elt F) Name U Lvl

variable (i : grid0.Coords)
  (arg1 : Memref sig .tc .vmem S1x2048x32 .f32) (harg1 : arg1.IsWhole)
  (arg2 : Memref sig .tc .vmem S1x32x128 .f32) (harg2 : arg2.IsWhole)
  (arg3 : Memref sig .tc .vmem S1x2048 .i32) (harg3 : arg3.IsWhole)
  (arg4 : Memref sig .tc .vmem S32x64 .f32) (harg4 : arg4.IsWhole)
  (arg5 : Memref sig .tc .vmem S64x1 .f32) (harg5 : arg5.IsWhole)
  (arg6 : Memref sig .tc .vmem S128x64 .f32) (harg6 : arg6.IsWhole)
  (arg7 : Memref sig .tc .vmem S1x64 .f32) (harg7 : arg7.IsWhole)
  (arg8 : Memref sig .tc .vmem S1x64x2048 .bf16) (harg8 : arg8.IsWhole)
  (arg9 : Memref sig .tc .vmem S1x32x64 .f32) (harg9 : arg9.IsWhole)
  (arg10 : Memref sig .tc .vmem S192x1 .i32) (harg10 : arg10.IsWhole)
  (arg11 : Memref sig .tc .vmem S192x1 .i32) (harg11 : arg11.IsWhole)
  (arg12 : Memref sig .tc .vmem S192x1 .i32) (harg12 : arg12.IsWhole)
  (arg13 : Memref sig .tc .vmem S2048x1 .i32) (harg13 : arg13.IsWhole)

variable {q1 q2 q3 q4 q5 q6 q7 : PosShare TreeShare} {s : IVec S1x2048 32}

/-- The scene numbers are read, counted and summed. -/
theorem kpart1_spec {Q : _ → sProp 𝕄} :
    iprop(owns (Val := Elt F) (c : Thread nD τ) arg3 q3 s ∗ (owns (Val := Elt F) (c : Thread nD τ) arg3 q3 s -∗ Q ⟨(k0_pay5 (F := F) s), i2048, i64, k0_pay6 (F := F) s, k0_pay7, (k0_pay9 (F := F) s), k0_pay10 (F := F) s, k0_pay11 (F := F) s, k0_pay12 (F := F) s, k0_pay13⟩))
      ⊢ wp frame (wpE (defs₀ (F := F)) 𝒱 (c : Thread nD τ) bd) E (k0_part1 i arg1 harg1 arg2 harg2 arg3 harg3 arg4 harg4 arg5 harg5 arg6 harg6 arg7 harg7 arg8 harg8 arg9 harg9 arg10 harg10 arg11 harg11 arg12 harg12 arg13 harg13 ) Q := by
  rw [k0_part1_eq_skeleton]
  unfold k0_part1_skel
  iintro ⟨H3, Hk⟩
  iapply (wp_load_all 𝒱 (c : Thread nD τ) bd E arg3 inb_S1x2048_S1x2048_0_0)
  isplitl [H3]; · iexact H3
  iintro H3
  iapply (wp_done 𝒱 (c : Thread nD τ) bd E)
  iapply Hk $$ H3

/-- The first two blocks of the table of points. -/
theorem kpart5_spec (hs : ∀ a, sceneOf s a < 64) {Y : S2048x1.Idx → BitVec 32} {Q : _ → sProp 𝕄} :
    iprop(owns (Val := Elt F) (c : Thread nD τ) arg13 fullShare Y ∗ (owns (Val := Elt F) (c : Thread nD τ) arg13 fullShare (permUpTo s Y 2) -∗ Q ⟨posRow (F := F) s, k0_pay32 i2048 (k0_pay11 (F := F) s) (k0_pay14 (k0_pay5 (F := F) s) i2048 i64 (k0_pay9 (F := F) s) (k0_pay12 (F := F) s) k0_pay13) (k0_pay15 (k0_pay5 (F := F) s) i2048 i64 (k0_pay9 (F := F) s)) (k0_pay19 i64 (k0_pay9 (F := F) s) (k0_pay16 (k0_pay5 (F := F) s)) (k0_pay17 (k0_pay5 (F := F) s)) (k0_pay18 i2048)) (k0_pay20 (k0_pay5 (F := F) s) i2048 i64 (k0_pay9 (F := F) s)) (k0_pay24 i64 (k0_pay9 (F := F) s) (k0_pay22 (k0_pay5 (F := F) s) i2048) (k0_pay23 (k0_pay5 (F := F) s))) (k0_pay25 (k0_pay5 (F := F) s) i2048 i64 (k0_pay9 (F := F) s)) (k0_pay27 (k0_pay5 (F := F) s) i2048) (k0_pay28 (k0_pay5 (F := F) s) i64 (k0_pay9 (F := F) s))⟩))
      ⊢ wp frame (wpE (defs₀ (F := F)) 𝒱 (c : Thread nD τ) bd) E (k0_part5 i arg1 harg1 arg2 harg2 arg3 harg3 arg4 harg4 arg5 harg5 arg6 harg6 arg7 harg7 arg8 harg8 arg9 harg9 arg10 harg10 arg11 harg11 arg12 harg12 arg13 harg13 i2048 (k0_pay11 (F := F) s) (k0_pay14 (k0_pay5 (F := F) s) i2048 i64 (k0_pay9 (F := F) s) (k0_pay12 (F := F) s) k0_pay13) (k0_pay15 (k0_pay5 (F := F) s) i2048 i64 (k0_pay9 (F := F) s)) (k0_pay19 i64 (k0_pay9 (F := F) s) (k0_pay16 (k0_pay5 (F := F) s)) (k0_pay17 (k0_pay5 (F := F) s)) (k0_pay18 i2048)) (k0_pay20 (k0_pay5 (F := F) s) i2048 i64 (k0_pay9 (F := F) s)) (k0_pay24 i64 (k0_pay9 (F := F) s) (k0_pay22 (k0_pay5 (F := F) s) i2048) (k0_pay23 (k0_pay5 (F := F) s))) (k0_pay25 (k0_pay5 (F := F) s) i2048 i64 (k0_pay9 (F := F) s)) (k0_pay27 (k0_pay5 (F := F) s) i2048) (k0_pay28 (k0_pay5 (F := F) s) i64 (k0_pay9 (F := F) s))) Q := by
  rw [k0_part5_eq_skeleton]
  unfold k0_part5_skel
  iintro ⟨H, Hk⟩
  iapply (wp_load_window 𝒱 (c : Thread nD τ) bd E arg13 inb_S2048x1_S256x1_0_0)
  isplitl [H]; · iexact H
  iintro H
  iapply (wp_store_window 𝒱 (c : Thread nD τ) bd E arg13 inb_S2048x1_S256x1_0_0)
  isplitl [H]; · iexact H
  iintro H
  iapply (wp_load_window 𝒱 (c : Thread nD τ) bd E arg13 inb_S2048x1_S256x1_256_0)
  isplitl [H]; · iexact H
  iintro H
  iapply (wp_store_window 𝒱 (c : Thread nD τ) bd E arg13 inb_S2048x1_S256x1_256_0)
  isplitl [H]; · iexact H
  iintro H
  iapply (wp_done 𝒱 (c : Thread nD τ) bd E)
  iapply Hk
  rw [← permUpTo_succ s Y 1 (w := k0_pay31 i2048 (k0_pay11 (F := F) s) (k0_pay14 (k0_pay5 (F := F) s) i2048 i64 (k0_pay9 (F := F) s) (k0_pay12 (F := F) s) k0_pay13) (k0_pay15 (k0_pay5 (F := F) s) i2048 i64 (k0_pay9 (F := F) s)) (k0_pay19 i64 (k0_pay9 (F := F) s) (k0_pay16 (k0_pay5 (F := F) s)) (k0_pay17 (k0_pay5 (F := F) s)) (k0_pay18 i2048)) (k0_pay20 (k0_pay5 (F := F) s) i2048 i64 (k0_pay9 (F := F) s)) (k0_pay24 i64 (k0_pay9 (F := F) s) (k0_pay22 (k0_pay5 (F := F) s) i2048) (k0_pay23 (k0_pay5 (F := F) s))) (k0_pay25 (k0_pay5 (F := F) s) i2048 i64 (k0_pay9 (F := F) s)) (k0_pay27 (k0_pay5 (F := F) s) i2048) (k0_pay28 (k0_pay5 (F := F) s) i64 (k0_pay9 (F := F) s))) (fun k r hr => by
      pointwise [k0_pay31, i2048]
      exact perm_blk (F := F) (k := k) (o := 256) hs r hr),
    ← permUpTo_succ s Y 0 (w := k0_pay30 i2048 (k0_pay11 (F := F) s) (k0_pay14 (k0_pay5 (F := F) s) i2048 i64 (k0_pay9 (F := F) s) (k0_pay12 (F := F) s) k0_pay13) (k0_pay15 (k0_pay5 (F := F) s) i2048 i64 (k0_pay9 (F := F) s)) (k0_pay19 i64 (k0_pay9 (F := F) s) (k0_pay16 (k0_pay5 (F := F) s)) (k0_pay17 (k0_pay5 (F := F) s)) (k0_pay18 i2048)) (k0_pay20 (k0_pay5 (F := F) s) i2048 i64 (k0_pay9 (F := F) s)) (k0_pay24 i64 (k0_pay9 (F := F) s) (k0_pay22 (k0_pay5 (F := F) s) i2048) (k0_pay23 (k0_pay5 (F := F) s))) (k0_pay25 (k0_pay5 (F := F) s) i2048 i64 (k0_pay9 (F := F) s)) (k0_pay27 (k0_pay5 (F := F) s) i2048) (k0_pay28 (k0_pay5 (F := F) s) i64 (k0_pay9 (F := F) s))) (fun k r hr => by
      pointwise [k0_pay30, i2048]
      exact perm_blk (F := F) (k := k) (o := 0) hs r hr), permUpTo_zero]
  iexact H

/-- The third to the sixth block. -/
theorem kpart6_spec (hs : ∀ a, sceneOf s a < 64) {Y : S2048x1.Idx → BitVec 32} {Q : _ → sProp 𝕄} :
    iprop(owns (Val := Elt F) (c : Thread nD τ) arg13 fullShare (permUpTo s Y 2) ∗ (owns (Val := Elt F) (c : Thread nD τ) arg13 fullShare (permUpTo s Y 6) -∗ Q (iota .tc S256x1 32 [0] iota_S256x1_d0_w32)))
      ⊢ wp frame (wpE (defs₀ (F := F)) 𝒱 (c : Thread nD τ) bd) E (k0_part6 i arg1 harg1 arg2 harg2 arg3 harg3 arg4 harg4 arg5 harg5 arg6 harg6 arg7 harg7 arg8 harg8 arg9 harg9 arg10 harg10 arg11 harg11 arg12 harg12 arg13 harg13 i2048 (posRow (F := F) s) (k0_pay32 i2048 (k0_pay11 (F := F) s) (k0_pay14 (k0_pay5 (F := F) s) i2048 i64 (k0_pay9 (F := F) s) (k0_pay12 (F := F) s) k0_pay13) (k0_pay15 (k0_pay5 (F := F) s) i2048 i64 (k0_pay9 (F := F) s)) (k0_pay19 i64 (k0_pay9 (F := F) s) (k0_pay16 (k0_pay5 (F := F) s)) (k0_pay17 (k0_pay5 (F := F) s)) (k0_pay18 i2048)) (k0_pay20 (k0_pay5 (F := F) s) i2048 i64 (k0_pay9 (F := F) s)) (k0_pay24 i64 (k0_pay9 (F := F) s) (k0_pay22 (k0_pay5 (F := F) s) i2048) (k0_pay23 (k0_pay5 (F := F) s))) (k0_pay25 (k0_pay5 (F := F) s) i2048 i64 (k0_pay9 (F := F) s)) (k0_pay27 (k0_pay5 (F := F) s) i2048) (k0_pay28 (k0_pay5 (F := F) s) i64 (k0_pay9 (F := F) s)))) Q := by
  rw [k0_part6_eq_skeleton]
  unfold k0_part6_skel
  iintro ⟨H, Hk⟩
  iapply (wp_load_window 𝒱 (c : Thread nD τ) bd E arg13 inb_S2048x1_S256x1_512_0)
  isplitl [H]; · iexact H
  iintro H
  iapply (wp_store_window 𝒱 (c : Thread nD τ) bd E arg13 inb_S2048x1_S256x1_512_0)
  isplitl [H]; · iexact H
  iintro H
  iapply (wp_load_window 𝒱 (c : Thread nD τ) bd E arg13 inb_S2048x1_S256x1_768_0)
  isplitl [H]; · iexact H
  iintro H
  iapply (wp_store_window 𝒱 (c : Thread nD τ) bd E arg13 inb_S2048x1_S256x1_768_0)
  isplitl [H]; · iexact H
  iintro H
  iapply (wp_load_window 𝒱 (c : Thread nD τ) bd E arg13 inb_S2048x1_S256x1_1024_0)
  isplitl [H]; · iexact H
  iintro H
  iapply (wp_store_window 𝒱 (c : Thread nD τ) bd E arg13 inb_S2048x1_S256x1_1024_0)
  isplitl [H]; · iexact H
  iintro H
  iapply (wp_load_window 𝒱 (c : Thread nD τ) bd E arg13 inb_S2048x1_S256x1_1280_0)
  isplitl [H]; · iexact H
  iintro H
  iapply (wp_store_window 𝒱 (c : Thread nD τ) bd E arg13 inb_S2048x1_S256x1_1280_0)
  isplitl [H]; · iexact H
  iintro H
  iapply (wp_done 𝒱 (c : Thread nD τ) bd E)
  iapply Hk
  rw [← permUpTo_succ s Y 5 (w := k0_pay35 i2048 (posRow (F := F) s)) (fun k r hr => by
      pointwise [k0_pay35, i2048]
      exact perm_blk (F := F) (k := k) (o := 1280) hs r hr),
    ← permUpTo_succ s Y 4 (w := k0_pay34 i2048 (posRow (F := F) s)) (fun k r hr => by
      pointwise [k0_pay34, i2048]
      exact perm_blk (F := F) (k := k) (o := 1024) hs r hr),
    ← permUpTo_succ s Y 3 (w := k0_pay33 i2048 (posRow (F := F) s)) (fun k r hr => by
      pointwise [k0_pay33, i2048]
      exact perm_blk (F := F) (k := k) (o := 768) hs r hr),
    ← permUpTo_succ s Y 2 (w := k0_pay32 i2048 (k0_pay11 (F := F) s) (k0_pay14 (k0_pay5 (F := F) s) i2048 i64 (k0_pay9 (F := F) s) (k0_pay12 (F := F) s) k0_pay13) (k0_pay15 (k0_pay5 (F := F) s) i2048 i64 (k0_pay9 (F := F) s)) (k0_pay19 i64 (k0_pay9 (F := F) s) (k0_pay16 (k0_pay5 (F := F) s)) (k0_pay17 (k0_pay5 (F := F) s)) (k0_pay18 i2048)) (k0_pay20 (k0_pay5 (F := F) s) i2048 i64 (k0_pay9 (F := F) s)) (k0_pay24 i64 (k0_pay9 (F := F) s) (k0_pay22 (k0_pay5 (F := F) s) i2048) (k0_pay23 (k0_pay5 (F := F) s))) (k0_pay25 (k0_pay5 (F := F) s) i2048 i64 (k0_pay9 (F := F) s)) (k0_pay27 (k0_pay5 (F := F) s) i2048) (k0_pay28 (k0_pay5 (F := F) s) i64 (k0_pay9 (F := F) s))) (fun k r hr => by
      pointwise [k0_pay32, i2048]
      exact perm_blk (F := F) (k := k) (o := 512) hs r hr)]
  iexact H

/-- The last two blocks. -/
theorem kpart7_spec (hs : ∀ a, sceneOf s a < 64) {Y : S2048x1.Idx → BitVec 32} {Q : _ → sProp 𝕄} :
    iprop(owns (Val := Elt F) (c : Thread nD τ) arg13 fullShare (permUpTo s Y 6) ∗ (owns (Val := Elt F) (c : Thread nD τ) arg13 fullShare (permUpTo s Y 8) -∗ Q ⟨k0_pay38 (k0_pay6 (F := F) s), 16#32, k0_pay39 (k0_pay6 (F := F) s), k0_pay40 (k0_pay6 (F := F) s), sgn16, neg16⟩))
      ⊢ wp frame (wpE (defs₀ (F := F)) 𝒱 (c : Thread nD τ) bd) E (k0_part7 i arg1 harg1 arg2 harg2 arg3 harg3 arg4 harg4 arg5 harg5 arg6 harg6 arg7 harg7 arg8 harg8 arg9 harg9 arg10 harg10 arg11 harg11 arg12 harg12 arg13 harg13 i2048 (k0_pay6 (F := F) s) (posRow (F := F) s) (iota .tc S256x1 32 [0] iota_S256x1_d0_w32)) Q := by
  rw [k0_part7_eq_skeleton]
  unfold k0_part7_skel
  iintro ⟨H, Hk⟩
  iapply (wp_load_window 𝒱 (c : Thread nD τ) bd E arg13 inb_S2048x1_S256x1_1536_0)
  isplitl [H]; · iexact H
  iintro H
  iapply (wp_store_window 𝒱 (c : Thread nD τ) bd E arg13 inb_S2048x1_S256x1_1536_0)
  isplitl [H]; · iexact H
  iintro H
  iapply (wp_load_window 𝒱 (c : Thread nD τ) bd E arg13 inb_S2048x1_S256x1_1792_0)
  isplitl [H]; · iexact H
  iintro H
  iapply (wp_store_window 𝒱 (c : Thread nD τ) bd E arg13 inb_S2048x1_S256x1_1792_0)
  isplitl [H]; · iexact H
  iintro H
  iapply (wp_done 𝒱 (c : Thread nD τ) bd E)
  iapply Hk
  rw [← permUpTo_succ s Y 7 (w := k0_pay37 i2048 (posRow (F := F) s)) (fun k r hr => by
      pointwise [k0_pay37, i2048]
      exact perm_blk (F := F) (k := k) (o := 1792) hs r hr),
    ← permUpTo_succ s Y 6 (w := k0_pay36 i2048 (posRow (F := F) s) (iota .tc S256x1 32 [0] iota_S256x1_d0_w32)) (fun k r hr => by
      pointwise [k0_pay36, i2048]
      exact perm_blk (F := F) (k := k) (o := 1536) hs r hr)]
  iexact H

/-- The chunks' scenes. -/
theorem kpart8_spec (hs : ∀ a, sceneOf s a < 64) {Y : S192x1.Idx → BitVec 32} {Q : _ → sProp 𝕄} :
    iprop(owns (Val := Elt F) (c : Thread nD τ) arg10 fullShare Y ∗ (owns (Val := Elt F) (c : Thread nD τ) arg10 fullShare (sforT s) -∗ Q ⟨extractAt ![0, 0, 0] (k0_pay44 (k0_pay38 (k0_pay6 (F := F) s)) 16#32 (k0_pay39 (k0_pay6 (F := F) s)) (k0_pay40 (k0_pay6 (F := F) s)) sgn16 neg16) inpos_S1x1x1_p0_0_0, iota .tc S192x1 32 [0] iota_S192x1_d0_w32, k0_pay46 i64 k0_pay7 (k0_pay38 (k0_pay6 (F := F) s)) 16#32 (k0_pay39 (k0_pay6 (F := F) s)) (k0_pay40 (k0_pay6 (F := F) s)) sgn16 neg16, k0_pay47 i64 k0_pay7 (k0_pay38 (k0_pay6 (F := F) s)) 16#32 (k0_pay39 (k0_pay6 (F := F) s)) (k0_pay40 (k0_pay6 (F := F) s)) sgn16 neg16⟩))
      ⊢ wp frame (wpE (defs₀ (F := F)) 𝒱 (c : Thread nD τ) bd) E (k0_part8 i arg1 harg1 arg2 harg2 arg3 harg3 arg4 harg4 arg5 harg5 arg6 harg6 arg7 harg7 arg8 harg8 arg9 harg9 arg10 harg10 arg11 harg11 arg12 harg12 arg13 harg13 i64 k0_pay7 (k0_pay38 (k0_pay6 (F := F) s)) 16#32 (k0_pay39 (k0_pay6 (F := F) s)) (k0_pay40 (k0_pay6 (F := F) s)) sgn16 neg16) Q := by
  rw [k0_part8_eq_skeleton]
  unfold k0_part8_skel
  iintro ⟨H, Hk⟩
  iapply (wp_load_all 𝒱 (c : Thread nD τ) bd E arg10 inb_S192x1_S192x1_0_0)
  isplitl [H]; · iexact H
  iintro H
  iapply (wp_store_all 𝒱 (c : Thread nD τ) bd E arg10 inb_S192x1_S192x1_0_0)
  isplitl [H]; · iexact H
  iintro H
  iapply (wp_done 𝒱 (c : Thread nD τ) bd E)
  iapply Hk
  rw [show sforT s = k0_pay45 i64 k0_pay7 (k0_pay38 (k0_pay6 (F := F) s)) 16#32 (k0_pay39 (k0_pay6 (F := F) s)) (k0_pay40 (k0_pay6 (F := F) s)) sgn16 neg16 from col_ext fun k => (sfor_word (F := F) hs k).symm]
  iexact H

set_option maxHeartbeats 4000000 in
/-- The step: the two blocks of the scene, and the routing tables at the first point. -/
theorem precompute_spec (hs : ∀ a, sceneOf s a < 64) {X : S1x2048x32.Idx → F .f32} {D : S1x32x128.Idx → F .f32} {WS : S32x64.Idx → F .f32} {BS : S64x1.Idx → F .f32}
    {WD : S128x64.Idx → F .f32} {BD : S1x64.Idx → F .f32} {Y8 : S1x64x2048.Idx → F .bf16} {Y9 : S1x32x64.Idx → F .f32} {Y10 Y11 Y12 : S192x1.Idx → BitVec 32} {Y13 : S2048x1.Idx → BitVec 32} {Q : PUnit → sProp 𝕄} :
    iprop(owns (Val := Elt F) (c : Thread nD τ) arg1 q1 X ∗ owns (Val := Elt F) (c : Thread nD τ) arg2 q2 D ∗ owns (Val := Elt F) (c : Thread nD τ) arg3 q3 s ∗ owns (Val := Elt F) (c : Thread nD τ) arg4 q4 WS ∗ owns (Val := Elt F) (c : Thread nD τ) arg5 q5 BS ∗ owns (Val := Elt F) (c : Thread nD τ) arg6 q6 WD ∗ owns (Val := Elt F) (c : Thread nD τ) arg7 q7 BD
        ∗ owns (Val := Elt F) (c : Thread nD τ) arg8 fullShare Y8 ∗ owns (Val := Elt F) (c : Thread nD τ) arg9 fullShare Y9 ∗ owns (Val := Elt F) (c : Thread nD τ) arg10 fullShare Y10 ∗ owns (Val := Elt F) (c : Thread nD τ) arg11 fullShare Y11 ∗ owns (Val := Elt F) (c : Thread nD τ) arg12 fullShare Y12 ∗ owns (Val := Elt F) (c : Thread nD τ) arg13 fullShare Y13
        ∗ (owns (Val := Elt F) (c : Thread nD τ) arg1 q1 X -∗ owns (Val := Elt F) (c : Thread nD τ) arg2 q2 D -∗ owns (Val := Elt F) (c : Thread nD τ) arg3 q3 s -∗ owns (Val := Elt F) (c : Thread nD τ) arg4 q4 WS -∗ owns (Val := Elt F) (c : Thread nD τ) arg5 q5 BS -∗ owns (Val := Elt F) (c : Thread nD τ) arg6 q6 WD -∗ owns (Val := Elt F) (c : Thread nD τ) arg7 q7 BD
          -∗ owns (Val := Elt F) (c : Thread nD τ) arg8 fullShare (k0_pay1 WS X BS) -∗ owns (Val := Elt F) (c : Thread nD τ) arg9 fullShare (k0_pay2 D WD BD)
          -∗ owns (Val := Elt F) (c : Thread nD τ) arg10 fullShare (if k0_cond1 i = 1#1 then sforT s else Y10) -∗ owns (Val := Elt F) (c : Thread nD τ) arg11 fullShare (if k0_cond1 i = 1#1 then row0T s else Y11)
          -∗ owns (Val := Elt F) (c : Thread nD τ) arg12 fullShare (if k0_cond1 i = 1#1 then hiT s else Y12) -∗ owns (Val := Elt F) (c : Thread nD τ) arg13 fullShare (if k0_cond1 i = 1#1 then permT s else Y13) -∗ Q ⟨⟩))
      ⊢ wp frame (wpE (defs₀ (F := F)) 𝒱 (c : Thread nD τ) bd) E (cc0_cma_precompute i arg1 harg1 arg2 harg2 arg3 harg3 arg4 harg4 arg5 harg5 arg6 harg6 arg7 harg7 arg8 harg8 arg9 harg9 arg10 harg10 arg11 harg11 arg12 harg12 arg13 harg13) Q := by
  rw [cc0_cma_precompute_eq_skeleton]
  unfold cc0_cma_precompute_skel
  iintro ⟨H1, H2, H3, H4, H5, H6, H7, H8, H9, H10, H11, H12, H13, Hk⟩
  iapply (wp_load_all 𝒱 (c : Thread nD τ) bd E arg4 inb_S32x64_S32x64_0_0)
  isplitl [H4]; · iexact H4
  iintro H4
  iapply (wp_load_all 𝒱 (c : Thread nD τ) bd E arg1 inb_S1x2048x32_S1x2048x32_0_0_0)
  isplitl [H1]; · iexact H1
  iintro H1
  iapply (wp_load_all 𝒱 (c : Thread nD τ) bd E arg5 inb_S64x1_S64x1_0_0)
  isplitl [H5]; · iexact H5
  iintro H5
  iapply (wp_load_all 𝒱 (c : Thread nD τ) bd E arg8 inb_S1x64x2048_S1x64x2048_0_0_0)
  isplitl [H8]; · iexact H8
  iintro H8
  iapply (wp_store_all 𝒱 (c : Thread nD τ) bd E arg8 inb_S1x64x2048_S1x64x2048_0_0_0)
  isplitl [H8]; · iexact H8
  iintro H8
  iapply (wp_load_all 𝒱 (c : Thread nD τ) bd E arg2 inb_S1x32x128_S1x32x128_0_0_0)
  isplitl [H2]; · iexact H2
  iintro H2
  iapply (wp_load_all 𝒱 (c : Thread nD τ) bd E arg6 inb_S128x64_S128x64_0_0)
  isplitl [H6]; · iexact H6
  iintro H6
  iapply (wp_load_all 𝒱 (c : Thread nD τ) bd E arg7 inb_S1x64_S1x64_0_0)
  isplitl [H7]; · iexact H7
  iintro H7
  iapply (wp_load_all 𝒱 (c : Thread nD τ) bd E arg9 inb_S1x32x64_S1x32x64_0_0_0)
  isplitl [H9]; · iexact H9
  iintro H9
  iapply (wp_store_all 𝒱 (c : Thread nD τ) bd E arg9 inb_S1x32x64_S1x32x64_0_0_0)
  isplitl [H9]; · iexact H9
  iintro H9
  by_cases h1 : k0_cond1 i = 1#1
  swap
  · simp only [if_neg h1]
    iapply (wp_if_neg 𝒱 (c : Thread nD τ) bd E h1)
    iapply (wp_done 𝒱 (c : Thread nD τ) bd E)
    iapply Hk $$ H1 H2 H3 H4 H5 H6 H7 H8 H9 H10 H11 H12 H13
  simp only [if_pos h1]
  iapply (wp_if_pos 𝒱 (c : Thread nD τ) bd E h1)
  iapply (wp_seq 𝒱 (c : Thread nD τ) bd E)
  iapply (kpart1_spec 𝒱 c bd E i arg1 harg1 arg2 harg2 arg3 harg3 arg4 harg4 arg5 harg5 arg6 harg6 arg7 harg7 arg8 harg8 arg9 harg9 arg10 harg10 arg11 harg11 arg12 harg12 arg13 harg13)
  isplitl [H3]; · iexact H3
  iintro H3
  iapply (wp_seq 𝒱 (c : Thread nD τ) bd E)
  rw [k0_part2_eq_skeleton]
  iapply (wp_done 𝒱 (c : Thread nD τ) bd E)
  iapply (wp_seq 𝒱 (c : Thread nD τ) bd E)
  rw [k0_part3_eq_skeleton]
  iapply (wp_done 𝒱 (c : Thread nD τ) bd E)
  iapply (wp_seq 𝒱 (c : Thread nD τ) bd E)
  rw [k0_part4_eq_skeleton]
  iapply (wp_done 𝒱 (c : Thread nD τ) bd E)
  iapply (wp_seq 𝒱 (c : Thread nD τ) bd E)
  iapply (kpart5_spec 𝒱 c bd E i arg1 harg1 arg2 harg2 arg3 harg3 arg4 harg4 arg5 harg5 arg6 harg6 arg7 harg7 arg8 harg8 arg9 harg9 arg10 harg10 arg11 harg11 arg12 harg12 arg13 harg13 hs)
  isplitl [H13]; · iexact H13
  iintro H13
  iapply (wp_seq 𝒱 (c : Thread nD τ) bd E)
  iapply (kpart6_spec 𝒱 c bd E i arg1 harg1 arg2 harg2 arg3 harg3 arg4 harg4 arg5 harg5 arg6 harg6 arg7 harg7 arg8 harg8 arg9 harg9 arg10 harg10 arg11 harg11 arg12 harg12 arg13 harg13 hs)
  isplitl [H13]; · iexact H13
  iintro H13
  iapply (wp_seq 𝒱 (c : Thread nD τ) bd E)
  iapply (kpart7_spec 𝒱 c bd E i arg1 harg1 arg2 harg2 arg3 harg3 arg4 harg4 arg5 harg5 arg6 harg6 arg7 harg7 arg8 harg8 arg9 harg9 arg10 harg10 arg11 harg11 arg12 harg12 arg13 harg13 hs)
  isplitl [H13]; · iexact H13
  iintro H13
  iapply (wp_seq 𝒱 (c : Thread nD τ) bd E)
  iapply (kpart8_spec 𝒱 c bd E i arg1 harg1 arg2 harg2 arg3 harg3 arg4 harg4 arg5 harg5 arg6 harg6 arg7 harg7 arg8 harg8 arg9 harg9 arg10 harg10 arg11 harg11 arg12 harg12 arg13 harg13 hs)
  isplitl [H10]; · iexact H10
  iintro H10
  iapply (wp_load_all 𝒱 (c : Thread nD τ) bd E arg11 inb_S192x1_S192x1_0_0)
  isplitl [H11]; · iexact H11
  iintro H11
  iapply (wp_store_all 𝒱 (c : Thread nD τ) bd E arg11 inb_S192x1_S192x1_0_0)
  isplitl [H11]; · iexact H11
  iintro H11
  iapply (wp_load_all 𝒱 (c : Thread nD τ) bd E arg12 inb_S192x1_S192x1_0_0)
  isplitl [H12]; · iexact H12
  iintro H12
  iapply (wp_store_all 𝒱 (c : Thread nD τ) bd E arg12 inb_S192x1_S192x1_0_0)
  isplitl [H12]; · iexact H12
  iintro H12
  iapply (wp_done 𝒱 (c : Thread nD τ) bd E)
  rw [show row0T s = k0_pay3 (k0_pay9 (F := F) s) (k0_pay46 i64 k0_pay7 (k0_pay38 (k0_pay6 (F := F) s)) 16#32 (k0_pay39 (k0_pay6 (F := F) s)) (k0_pay40 (k0_pay6 (F := F) s)) sgn16 neg16) (k0_pay47 i64 k0_pay7 (k0_pay38 (k0_pay6 (F := F) s)) 16#32 (k0_pay39 (k0_pay6 (F := F) s)) (k0_pay40 (k0_pay6 (F := F) s)) sgn16 neg16) from col_ext fun k => (row0_word (F := F) hs k).symm,
    show hiT s = k0_pay4 (k0_pay10 (F := F) s) (extractAt ![0, 0, 0] (k0_pay44 (k0_pay38 (k0_pay6 (F := F) s)) 16#32 (k0_pay39 (k0_pay6 (F := F) s)) (k0_pay40 (k0_pay6 (F := F) s)) sgn16 neg16) inpos_S1x1x1_p0_0_0) (iota .tc S192x1 32 [0] iota_S192x1_d0_w32) (k0_pay46 i64 k0_pay7 (k0_pay38 (k0_pay6 (F := F) s)) 16#32 (k0_pay39 (k0_pay6 (F := F) s)) (k0_pay40 (k0_pay6 (F := F) s)) sgn16 neg16) from col_ext fun k => (hi_word (F := F) hs k).symm,
    show permT s = permUpTo s Y13 8 from (permUpTo_all s Y13).symm]
  iapply Hk $$ H1 H2 H3 H4 H5 H6 H7 H8 H9 H10 H11 H12 H13

end Cert.KernelIdeal.Gen
-- ==== Proof.RelRegion.lean ====
/-
  A kernel region whose output windows are held to a predicate, entered from every unscoped buffer at known contents and
  left with every unscoped buffer at known contents: the predicates determine what each array holds at the end, so the
  contents after the region are named although what a staging buffer holds part of the way is not.
-/
module

public import Idealize.ShloMosaic.Lib.Pipeline.RegionArraysTS
public import Idealize.ShloMosaic.Lib.Pipeline.RegionArraysF
public import Idealize.ShloMosaic.Lib.Pipeline.DatRel
public import Idealize.ShloMosaic.Lib.Pipeline.ArrRel

@[expose] public section

noncomputable section

namespace Cert.Proof

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]

local notation "𝕄" => MT nD τ sig Ix Val Name U Lvl

section Arr

variable {Λ₀ : Labels} {cfg : Cfg sig Λ₀} {c : Dev nD} (dat : Dat τ Val Ix Name U Lvl cfg c)
  {fgt : Fin cfg.W → Bool} {Rl : (w : Fin cfg.W) → Fin cfg.N → ((cfg.win w).block.Idx → Val (cfg.win w).elt) → Prop}

/-- The array of a window that is not held to a predicate is at the contents the data name. -/
theorem arrAt_named {w : Fin cfg.W} (h : fgt w = false) {n : ℕ} {G : Buf Val ((cfg.win w).arr.view.loc (c.tc : Thread nD τ))}
    (hG : (dat.toRRel fgt Rl).ArrAt w n G) : G = dat.arrAt w n :=
  ((dat.toR.override_arrAt (by simp only [h]) n G).trans (dat.toR_arrAt_iff w n G)).mp hG

/-- So is the array of a window held to a predicate that determines each block written back. -/
theorem arrAt_determined {w : Fin cfg.W} (h : fgt w = true) (hR : ∀ u X, (cfg.win w).flush u = true → Rl w u X → X = dat.after w u)
    {n : ℕ} {G : Buf Val ((cfg.win w).arr.view.loc (c.tc : Thread nD τ))} (hG : (dat.toRRel fgt Rl).ArrAt w n G) : G = dat.arrAt w n := by
  obtain ⟨X, hX, hA⟩ := hG.exists_exact
  exact hA dat.after fun u hu hf => (hR u (X u) hf (dat.toRRel_leaves h (hX u hu hf))).symm

/-- The arrays at the end of the region, at some contents they may hold. -/
theorem arraysAt_some (n : ℕ) :
    ((dat.toRRel fgt Rl).arraysAt n : sProp 𝕄) ⊢ iprop(∃ A : (w : Fin cfg.W) → Buf Val ((cfg.win w).arr.view.loc (c.tc : Thread nD τ)),
      ⌜∀ w, (dat.toRRel fgt Rl).ArrAt w n (A w)⌝ ∗ dat.arrays A) := by
  unfold RDat.arraysAt Dat.arrays
  refine (BI.bigSep_exists_pi Finset.univ _).trans ?_
  iintro ⟨%A, H⟩
  ihave H' := (BI.bigSep_pure_sep Finset.univ (fun w => (dat.toRRel fgt Rl).ArrAt w n (A w)) _) $$ H
  icases H' with ⟨%hA, H⟩
  iexists A
  isplitr
  · ipureintro; exact fun w => hA w (Finset.mem_univ w)
  iexact H

end Arr

section Record

variable {Λ₀ : Labels} {P : Type} [Fintype P]
variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (fg : (q : P) → Fin (pin pcs a q).W → Bool)
  (Rl : (q : P) → Dev nD → (w : Fin (pin pcs a q).W) → Fin (pin pcs a q).N → (((pin pcs a q).win w).block.Idx → Val ((pin pcs a q).win w).elt) → Prop)

omit [Fintype P] [Preorder Lvl] in
/-- The unscoped buffers are the windows' arrays, the tables, and the rest. -/
theorem bufs_split (p : P) (kit : PLaunchFacts (nD := nD) (τ := τ) pcs p) (c : Dev nD) (Wc : Valuation τ sig Val) :
    (StableHlo.held (c.tc : Thread nD τ) (ucRefs τ sig) Wc : sProp 𝕄) = iprop(StableHlo.held (c.tc : Thread nD τ) (arrRefs (pcs p).spec) Wc
      ∗ StableHlo.held (c.tc : Thread nD τ) (tblRefs (pcs p).pre) Wc
      ∗ StableHlo.held (c.tc : Thread nD τ) ((ucRefs τ sig \ arrRefs (pcs p).spec) \ tblRefs (pcs p).pre) Wc) := by
  rw [StableHlo.held_sub_split (c.tc : Thread nD τ) (arrRefs_sub_ucRefs (pcs p).spec kit.win.arr_unscoped) Wc,
    StableHlo.held_sub_split (c.tc : Thread nD τ) (tblRefs_sub_ucRefs_sdiff (pcs p).spec (pcs p).pre kit.pre.unscoped kit.pre.disj) Wc]

omit [Fintype P] [Preorder Lvl] [∀ e, Nonempty (Val e)] in
/-- A table is no window's array. -/
theorem table_off (p : P) (kit : PLaunchFacts (nD := nD) (τ := τ) pcs p) (k : Fin (pcs p).pre.K) :
    Proc.devRef .tc ((pcs p).pre.ref k) ∉ arrRefs (τ := τ) (pcs p).spec := fun h => by
  obtain ⟨r, hr, e⟩ := Finset.mem_map.mp h
  obtain ⟨w, -, rfl⟩ := Finset.mem_image.mp hr
  exact kit.pre.disj k w (Proc.devRef_injective _ e).symm

/-- The family of proof data, each pipeline's marked windows held to its predicates. -/
abbrev relDats : (q : P) → (c : Dev nD) → RDat τ Val Ix Name U Lvl (pin pcs a q) c := fun q c => (pdats q c).toRRel (fg q) (Rl q c)

/-- What the core holds between items: the unscoped buffers at `W`, and that it owes nothing. -/
abbrev bufsAt (W : Dev nD → Valuation τ sig Val) (c : Dev nD) : sProp 𝕄 :=
  iprop(StableHlo.held (c.tc : Thread nD τ) (ucRefs τ sig) (W c) ∗ ∃ Wd, owes (c : Thread nD τ) (0 : CellTallies nD τ sig Ix) Wd)

/-- The region of pipeline `p` from the unscoped buffers at `W` to the unscoped buffers at `W'`. -/
def relRegion (p : P) (kit : PLaunchFacts (nD := nD) (τ := τ) pcs p)
    (hbody : ∀ c, BodyObligationRel (pdats p c) defs₀ 𝒱₀ ι Set.univ (fg p) (Rl p c))
    (howed : ∀ c t, (pdats p c).owed t = 0) (hrec : ∀ c, (pdats p c).recorded 0 = Set.univ)
    (hshare : ∀ c w, (pdats p c).share w = fullShare)
    (hin : ∀ c, iprop(scopedRest (pin pcs a p).spec c ∗ tablesAt pcs a p c) ⊢ (pdats p c).Φ 0)
    (hout : ∀ c, (pdats p c).Φ (Fin.last (pin pcs a p).N) ⊢ iprop(scopedRest (pin pcs a p).spec c ∗ tablesAt pcs a p c))
    (W W' : Dev nD → Valuation τ sig Val)
    (hW : ∀ c w, (pdats p c).arrAt w 0 = W c (Proc.devRef .tc (arrRef (pin pcs a p).spec w)))
    (hT : ∀ c k, (a p).1 k = W c (Proc.devRef .tc ((pcs p).pre.ref k)))
    (hW' : ∀ (c : Dev nD) (A : (w : Fin (pin pcs a p).W) → Buf Val (((pin pcs a p).win w).arr.view.loc (c.tc : Thread nD τ))), (∀ w, (relDats pcs a pdats fg Rl p c).ArrAt w (pin pcs a p).N (A w)) →
      ∀ w, A w = W' c (Proc.devRef .tc (arrRef (pin pcs a p).spec w)))
    (hO : ∀ c, ∀ b ∉ arrRefs (τ := τ) (pcs p).spec, W' c b = W c b) :
    RDat.RegionSeg pcs a (relDats pcs a pdats fg Rl) ι defs₀ 𝒱₀ L lv p where
  win := kit.to₀.win
  block_pos := kit.to₀.block_pos
  stage_whole := kit.to₀.stage_whole
  K := PEmpty
  osem k := k.elim
  ho := OwnSemFacts.none _
  hbody c := (hbody c).toRRel
  hwaits := RDat.hwaits_of_owed_zero pcs a (relDats pcs a pdats fg Rl) ι L lv p howed
  pre := bufsAt W
  post := bufsAt W'
  X _ := iprop(emp)
  Y c := tablesAt pcs a p c
  Z c := StableHlo.held (c.tc : Thread nD τ) ((ucRefs τ sig \ arrRefs (pcs p).spec) \ tblRefs (pcs p).pre) (W c)
  hentry c := by
    show iprop(iprop(StableHlo.held (c.tc : Thread nD τ) (ucRefs τ sig) (W c) ∗ ∃ Wd, owes (c : Thread nD τ) (0 : CellTallies nD τ sig Ix) Wd) ∗ ownSems0 _ c ∗ levAts L lv) ⊢ |={Set.univ}=> iprop((pdats p c).arrays ((pdats p c).arrAt · 0) ∗ tablesAt pcs a p c
        ∗ (pdats p c).owesAt ι 0 ∗ emp ∗ _)
    rw [ownSems0_none, arrays_held pcs a pdats p kit c (hshare c) ((pdats p c).arrAt · 0) (W c) (hW c), bufs_split pcs p kit c (W c),
      show tablesAt pcs a p c = _ from prefHeld_held (pcs p).pre kit.pre.inj c (a p).1 (W c) (hT c)]
    iintro ⟨⟨⟨Ha, Ht, Hr⟩, HO⟩, -, -⟩
    imodintro
    isplitl [Ha]; · iexact Ha
    isplitl [Ht]; · iexact Ht
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hr
  hin c := (show _ ⊢ iprop(scopedRest (pin pcs a p).spec c ∗ tablesAt pcs a p c) from by
    iintro ⟨-, Ht, Hr⟩
    isplitl [Hr]; · iexact Hr
    iexact Ht).trans (hin c)
  hout c := (hout c).trans (by
    rw [ownSems0_none]
    iintro ⟨Hr, Ht⟩
    isplitl [Ht]; · iexact Ht
    isplitr; · iempintro
    iexact Hr)
  hexit c := by
    show iprop(((pdats p c).toRRel (fg p) (Rl p c)).arraysAt (pin pcs a p).N ∗ (pdats p c).owesAt ι (Fin.last (pin pcs a p).N) ∗ _ ∗ _) ⊢ _
    iintro ⟨Ha, HO, Ht, Hr⟩
    ihave Ha := (arraysAt_some (pdats p c) (pin pcs a p).N) $$ Ha
    icases Ha with ⟨%A, %hA, Ha⟩
    ihave Ha := (Entails.of_eq (arrays_held pcs a pdats p kit c (hshare c) A (W' c) (hW' c A hA))) $$ Ha
    ihave Ht := (Entails.of_eq (prefHeld_held (pcs p).pre kit.pre.inj c (a p).1 (W' c)
      fun k => (hT c k).trans (hO c _ (table_off pcs p kit k)).symm)) $$ Ht
    ihave Hr := (Entails.of_eq (StableHlo.held_congr (c.tc : Thread nD τ) (V := W c) (V' := W' c)
      fun b hb => (hO c b (Finset.mem_sdiff.mp (Finset.mem_sdiff.mp hb).1).2).symm)) $$ Hr
    imodintro
    unfold bufsAt
    isplitr [HO]
    · iapply (Entails.of_eq (bufs_split pcs p kit c (W' c)).symm)
      isplitl [Ha]; · iexact Ha
      isplitl [Ht]; · iexact Ht
      iexact Hr
    unfold Dat.owesAt owesWithin
    rw [howed c (Fin.last _)]
    icases HO with ⟨%Wd, -, HO⟩; iexists Wd; iexact HO

end Record

end Cert.Proof
-- ==== Proof.Region0.lean ====
/-
  The first call's region: what its windows hold at each grid point, and that the body keeps it. The two per-scene windows
  are named at every point; the four routing tables, written at the first point only, are held to being the tables.
-/
module

public import proofs.«01_k».proof.Proof.PreBody
public import proofs.«01_k».proof.Proof.RelRegion
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

variable {U : Type} [URA U]

local notation "𝕄" => MT nD τ sig Unit (Elt F) ℕ U ℕ

/-- The block of a window at a grid point, of the contents at entry. -/
abbrev blk0 (V : Valuation τ sig (Elt F)) (w : Fin 13) (t : Fin cfg0.N) : ((cfg0.win w).xblock (cfg0.grid.coords t)).Idx → Elt F (cfg0.win w).elt :=
  ((cfg0.win w).blk t).view.read (Elt F) (V (Proc.devRef .tc (arrRef spec0 w)))

/-- The scene numbers. -/
abbrev sidOf (V : Valuation τ sig (Elt F)) : S1x2048.Idx → BitVec 32 := V main_v1

/-- What each window's buffer holds after the body. -/
def after0 (V : Valuation τ sig (Elt F)) : (w : Fin 13) → (t : Fin cfg0.N) → (cfg0.win w).block.Idx → Elt F (cfg0.win w).elt
  | ⟨0, _⟩, t => blk0 V 0 t
  | ⟨1, _⟩, t => blk0 V 1 t
  | ⟨2, _⟩, t => blk0 V 2 t
  | ⟨3, _⟩, t => blk0 V 3 t
  | ⟨4, _⟩, t => blk0 V 4 t
  | ⟨5, _⟩, t => blk0 V 5 t
  | ⟨6, _⟩, t => blk0 V 6 t
  | ⟨7, _⟩, t => k0_pay1 (blk0 V 3 t) (blk0 V 0 t) (blk0 V 4 t)
  | ⟨8, _⟩, t => k0_pay2 (blk0 V 1 t) (blk0 V 5 t) (blk0 V 6 t)
  | ⟨9, _⟩, _ => sforT (sidOf V)
  | ⟨10, _⟩, _ => row0T (sidOf V)
  | ⟨11, _⟩, _ => hiT (sidOf V)
  | ⟨12, _⟩, _ => permT (sidOf V)
  | ⟨n + 13, h⟩, _ => absurd h (by omega)

/-- The windows held to a predicate: the four tables. -/
abbrev fg0 : Fin 13 → Bool
  | ⟨0, _⟩ => false | ⟨1, _⟩ => false | ⟨2, _⟩ => false | ⟨3, _⟩ => false | ⟨4, _⟩ => false | ⟨5, _⟩ => false | ⟨6, _⟩ => false
  | ⟨7, _⟩ => false | ⟨8, _⟩ => false | _ => true

/-- The predicate: the buffer holds the table. -/
abbrev Rl0 (V : Valuation τ sig (Elt F)) (w : Fin 13) (t : Fin cfg0.N) (X : (cfg0.win w).block.Idx → Elt F (cfg0.win w).elt) : Prop := X = after0 V w t

variable (V : Valuation τ sig (Elt F)) (c : Dev nD)

/-- The region's proof data, entered at contents `V`. -/
def dat0 (Φ : sProp 𝕄) : Dat τ (Elt F) Unit ℕ U ℕ cfg0 c where
  A w := V (Proc.devRef .tc (arrRef spec0 w))
  after := after0 V
  Φ _ := Φ
  owed _ := 0
  q _ := fullShare

/-- The whole block of the scene numbers. -/
theorem blk0_sid (t : Fin cfg0.N) : blk0 V 2 t = sidOf V := by
  funext j
  refine congrArg (sidOf V) (funext fun i => Fin.ext ?_)
  fin_cases i <;> simp <;> rfl

/-- The tables are written at the first point. -/
theorem cond1_zero : ∀ t : Fin cfg0.N, t.val = 0 → k0_cond1 (cfg0.grid.coords t) = 1#1 :=
  (by decide +kernel : ∀ t : Fin grid0.N, t.val = 0 → k0_cond1 (grid0.coords t) = 1#1)

/-- A table's buffer holds the table after the body: written at the first point, kept at a later one. -/
theorem table_kept (Φ : sProp 𝕄) (w : Fin cfg0.W) (h : fg0 w = true) (hfe : ∀ t, (cfg0.win w).fetch t = false)
    (hfl : ∀ t : Fin cfg0.N, (cfg0.win w).flush t = true ↔ t.val % 64 = 63) (t : Fin cfg0.N)
    (Y : (cfg0.win w).block.Idx → Elt F (cfg0.win w).elt) (hY : ((dat0 V c Φ).toRRel fg0 (Rl0 V)).Finds w t Y) (hne : k0_cond1 (cfg0.grid.coords t) ≠ 1#1) :
    Rl0 V w t Y := by
  have ht : t.val ≠ 0 := fun h0 => hne (cond1_zero t h0)
  rcases (RDat.finds_of_pos _ (hfe t) ht Y).mp hY with hf | hL
  · have h1 := (hfl _).mp hf
    have h2 : t.val < 64 := t.isLt
    have h3 : (t.val - 1) % 64 = 63 := h1
    omega
  · have hR : Rl0 V w _ Y := (dat0 V c Φ).toRRel_leaves h hL
    unfold Rl0 at hR ⊢
    rw [hR]
    obtain ⟨w, hw⟩ := w
    rcases w with _ | _ | _ | _ | _ | _ | _ | _ | _ | _ | _ | _ | _ | w
    all_goals first | rfl | exact absurd h Bool.false_ne_true | exact absurd (show _ < 13 from hw) (by omega)

/-- What the body leaves in a table's buffer is the table. -/
theorem table_step (Φ : sProp 𝕄) (w : Fin cfg0.W) (h : fg0 w = true) (hfe : ∀ t, (cfg0.win w).fetch t = false)
    (hfl : ∀ t : Fin cfg0.N, (cfg0.win w).flush t = true ↔ t.val % 64 = 63) (t : Fin cfg0.N)
    (Y : (cfg0.win w).block.Idx → Elt F (cfg0.win w).elt) (hY : ((dat0 V c Φ).toRRel fg0 (Rl0 V)).Finds w t Y) :
    Rl0 V w t (if k0_cond1 (grid0.coords t) = 1#1 then after0 V w t else Y) := by
  by_cases hc : k0_cond1 (grid0.coords t) = 1#1
  · rw [if_pos hc]
  · rw [if_neg hc]; exact table_kept V c Φ w h hfe hfl t Y hY hc

set_option maxHeartbeats 4000000 in
/-- The body's triple at every grid point. -/
theorem body0 (hs : ∀ a, sceneOf (sidOf V) a < 64) (Φ : sProp 𝕄) (𝒱 : Variants) (E : Set ℕ) :
    BodyObligationRel (dat0 V c Φ) (defs₀ (F := F)) 𝒱 () E fg0 (Rl0 V) := by
  intro t
  have e0 : ∀ d, (dat0 V c Φ).before 0 t d = blk0 V 0 t := fun d => ((dat0 V c Φ).before_in_eq_fetched 0 rfl (fun _ => rfl) (fun _ _ _ => rfl) (fun _ => rfl) t d).trans rfl
  have e1 : ∀ d, (dat0 V c Φ).before 1 t d = blk0 V 1 t := fun d => ((dat0 V c Φ).before_in_eq_fetched 1 rfl (fun _ => rfl) (fun _ _ _ => rfl) (fun _ => rfl) t d).trans rfl
  have e2 : ∀ d, (dat0 V c Φ).before 2 t d = blk0 V 2 t := fun d => ((dat0 V c Φ).before_in_eq_fetched 2 rfl (fun _ => rfl) (fun _ _ _ => rfl) (fun _ => rfl) t d).trans rfl
  have e3 : ∀ d, (dat0 V c Φ).before 3 t d = blk0 V 3 t := fun d => ((dat0 V c Φ).before_in_eq_fetched 3 rfl (fun _ => rfl) (fun _ _ _ => rfl) (fun _ => rfl) t d).trans rfl
  have e4 : ∀ d, (dat0 V c Φ).before 4 t d = blk0 V 4 t := fun d => ((dat0 V c Φ).before_in_eq_fetched 4 rfl (fun _ => rfl) (fun _ _ _ => rfl) (fun _ => rfl) t d).trans rfl
  have e5 : ∀ d, (dat0 V c Φ).before 5 t d = blk0 V 5 t := fun d => ((dat0 V c Φ).before_in_eq_fetched 5 rfl (fun _ => rfl) (fun _ _ _ => rfl) (fun _ => rfl) t d).trans rfl
  have e6 : ∀ d, (dat0 V c Φ).before 6 t d = blk0 V 6 t := fun d => ((dat0 V c Φ).before_in_eq_fetched 6 rfl (fun _ => rfl) (fun _ _ _ => rfl) (fun _ => rfl) t d).trans rfl
  have es : blk0 V 2 t = sidOf V := blk0_sid V t
  rw [bigSep_W0, bigSep_W0]
  have a0 : (dat0 V c Φ).after 0 t = blk0 V 0 t := rfl
  have a1 : (dat0 V c Φ).after 1 t = blk0 V 1 t := rfl
  have a2 : (dat0 V c Φ).after 2 t = blk0 V 2 t := rfl
  have a3 : (dat0 V c Φ).after 3 t = blk0 V 3 t := rfl
  have a4 : (dat0 V c Φ).after 4 t = blk0 V 4 t := rfl
  have a5 : (dat0 V c Φ).after 5 t = blk0 V 5 t := rfl
  have a6 : (dat0 V c Φ).after 6 t = blk0 V 6 t := rfl
  have a7 : (dat0 V c Φ).after 7 t = k0_pay1 (blk0 V 3 t) (blk0 V 0 t) (blk0 V 4 t) := rfl
  have a8 : (dat0 V c Φ).after 8 t = k0_pay2 (blk0 V 1 t) (blk0 V 5 t) (blk0 V 6 t) := rfl
  have hΦ : ∀ u, (dat0 V c Φ).Φ u = Φ := fun _ => rfl
  have f0 : fg0 0 = false := rfl
  have f1 : fg0 1 = false := rfl
  have f2 : fg0 2 = false := rfl
  have f3 : fg0 3 = false := rfl
  have f4 : fg0 4 = false := rfl
  have f5 : fg0 5 = false := rfl
  have f6 : fg0 6 = false := rfl
  have f7 : fg0 7 = false := rfl
  have f8 : fg0 8 = false := rfl
  have f9 : fg0 9 = true := rfl
  have f10 : fg0 10 = true := rfl
  have f11 : fg0 11 = true := rfl
  have f12 : fg0 12 = true := rfl
  simp only [e0, e1, e2, e3, e4, e5, e6, f0, f1, f2, f3, f4, f5, f6, f7, f8, f9, f10, f11, f12, a0, a1, a2, a3, a4, a5, a6, a7, a8, hΦ]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %h9, H9⟩, ⟨%Y10, %h10, H10⟩, ⟨%Y11, %h11, H11⟩, ⟨%Y12, %h12, H12⟩⟩
  iapply (precompute_spec 𝒱 c none E (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
    (win0_11.stage (cfg0.slots t 11)) (hstage0_11 ((cfg0.slots t 11).cast nbuf0_11)) (win0_12.stage (cfg0.slots t 12)) (hstage0_12 ((cfg0.slots t 12).cast nbuf0_12)) hs)
  isplitl [H0]; · iexact H0
  isplitl [H1]; · iexact H1
  isplitl [H2]; · iapply (Entails.of_eq (congrArg (owns _ _ _) es)) $$ H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro H0 H1 H2 H3 H4 H5 H6 H7 H8 H9 H10 H11 H12
  isplitl [HΦ]; · iexact HΦ
  isplitl [HO]; · iexact HO
  isplitl [H0]; · iexact H0
  isplitl [H1]; · iexact H1
  isplitl [H2]; · iapply (Entails.of_eq (congrArg (owns _ _ _) es.symm)) $$ H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; · ipureintro; exact table_step V c Φ 9 rfl (fun _ => rfl) flush0_9 t Y9 h9
    iexact H9
  isplitl [H10]
  · iexists _; isplitr; · ipureintro; exact table_step V c Φ 10 rfl (fun _ => rfl) flush0_10 t Y10 h10
    iexact H10
  isplitl [H11]
  · iexists _; isplitr; · ipureintro; exact table_step V c Φ 11 rfl (fun _ => rfl) flush0_11 t Y11 h11
    iexact H11
  iexists _; isplitr; · ipureintro; exact table_step V c Φ 12 rfl (fun _ => rfl) flush0_12 t Y12 h12
  iexact H12

end Cert.KernelIdeal.Gen

end
-- ==== Proof.AttendStep.lean ====
/-
  What one step of the attention call does to its result, as plain functions of vectors: sixteen rows named by the
  routing table are fetched, their attention results computed, and each row that lies inside its scene's segment is put
  at the place the table names. Beside them, the conditions the kernel checks of the words it reads.
-/
module

public import proofs.«01_k».proof.Proof.Steps
public import proofs.«01_k».proof.Proof.Gen.KernelIdeal.Skeleton
public import Idealize.ShloMosaic.Lib.WordArith
public import Idealize.ShloMosaic.Lib.Pipeline.Value

@[expose] public section

noncomputable section

namespace Cert.KernelIdeal.Gen

open Idealize.ShloMosaic Idealize.ShloMosaic.TcCoe

variable {F : FTy → Type} [FloatOps F]

/-- Row `n` of a chunk that starts at row `v`: `min (v + n) 2047`, as the kernel computes it. -/
def rowWord (v : BitVec 32) (n : ℕ) : BitVec 32 := Scalar.minsi (Scalar.addi v (BitVec.ofNat 32 n)) 2047#32

/-- Whether row `n` of the chunk lies before the segment's end `e`, as the kernel computes it. -/
def rowCond (v e : BitVec 32) (n : ℕ) : BitVec 1 :=
  Scalar.cmpi .ne (Scalar.extui (Scalar.cmpi .slt (Scalar.addi v (BitVec.ofNat 32 n)) e)) 0#32

/-- The entry of a table of 2048 words at a position. -/
def tabAt (T : S2048.Idx → BitVec 32) (n : ℕ) : BitVec 32 := T fun a => ⟨n % S2048.size a, Nat.mod_lt _ (by fin_cases a; decide)⟩

/-- The entry of a table of 192 words at a position. -/
def tabAt192 (T : S192.Idx → BitVec 32) (n : ℕ) : BitVec 32 := T fun a => ⟨n % S192.size a, Nat.mod_lt _ (by fin_cases a; decide)⟩

/-- The table word row `n` of the chunk at `v` names. -/
def permWord (T : S2048.Idx → BitVec 32) (v : BitVec 32) (n : ℕ) : BitVec 32 := tabAt T (rowWord v n).toNat

/-- The row of a 2048-row matrix that a word names. -/
def matRow (Z : S2048x64.Idx → F .f32) (w : BitVec 32) : S1x64.Idx → F .f32 := fun y => Z fun
  | 0 => ⟨w.toNat % 2048, Nat.mod_lt _ (by decide)⟩
  | 1 => ⟨(y 1).val, (y 1).isLt⟩

/-- The scratch buffer after `n` rows of the chunk are fetched. -/
def fetched (T : S2048.Idx → BitVec 32) (Z : S2048x64.Idx → F .f32) (v : BitVec 32) (S : S16x64.Idx → F .f32) : ℕ → S16x64.Idx → F .f32
  | 0 => S
  | n + 1 => VecWindow.put (fetched T Z v S n) ![n, 0] S1x64.size (matRow Z (permWord T v n))

/-- Row `n` of a block of sixteen. -/
def blkRow (R : S16x32.Idx → F .f32) (n : ℕ) : S1x32.Idx → F .f32 := fun y => R fun
  | 0 => ⟨n % 16, Nat.mod_lt _ (by decide)⟩
  | 1 => ⟨(y 1).val, (y 1).isLt⟩

/-- The result after `n` rows of the chunk are stored. -/
def stored (T : S2048.Idx → BitVec 32) (v e : BitVec 32) (R : S16x32.Idx → F .f32) (Y : S2048x32.Idx → F .f32) : ℕ → S2048x32.Idx → F .f32
  | 0 => Y
  | n + 1 => if rowCond v e n = 1#1 then VecWindow.put (stored T v e R Y n) ![(permWord T v n).toNat, 0] S1x32.size (blkRow R n)
      else stored T v e R Y n

/-- The sixteen attention results of a chunk: from the fetched rows, the weight row, the scene's first-layer block and
    the scene's features. -/
def chunkRes (G : S16x64.Idx → F .f32) (W : S1x64.Idx → F .bf16) (B : S1x64x2048.Idx → F .bf16) (X : S1x2048x32.Idx → F .f32) : S16x32.Idx → F .f32 :=
  k1_pay33 (k1_pay32 (k1_pay18 G) (k1_pay19 W) (k1_pay20 B) (k1_pay21 G W B) (k1_pay23 (k1_pay19 W) (k1_pay22 G B))
    (k1_pay24 (k1_pay18 G) (k1_pay19 W) (k1_pay20 B)) (k1_pay25 (k1_pay18 G) (k1_pay19 W) (k1_pay20 B))
    (k1_pay26 (k1_pay18 G) (k1_pay19 W) (k1_pay20 B)) (k1_pay27 (k1_pay18 G) (k1_pay19 W) (k1_pay20 B))
    (k1_pay28 (k1_pay18 G) (k1_pay19 W) (k1_pay20 B)) (k1_pay29 (k1_pay18 G) (k1_pay19 W) (k1_pay20 B))
    (k1_pay30 (k1_pay18 G) (k1_pay19 W) (k1_pay20 B)) (k1_pay31 (k1_pay18 G))) X

/-- What a step leaves of the result: nothing changes when the segment's end is not positive, and otherwise the chunk's
    rows are stored. -/
def attendStep (T : S2048.Idx → BitVec 32) (v e : BitVec 32) (Z : S2048x64.Idx → F .f32) (S : S16x64.Idx → F .f32)
    (W : S1x64.Idx → F .bf16) (B : S1x64x2048.Idx → F .bf16) (X : S1x2048x32.Idx → F .f32) (Y : S2048x32.Idx → F .f32) : S2048x32.Idx → F .f32 :=
  if k1_cond1 e = 1#1 then stored T v e (chunkRes (fetched T Z v S 16) W B X) Y 16 else Y

/-! ### Bounds -/

theorem rowWord_eq (v : BitVec 32) (n : ℕ) (hv : v.toNat < 2 ^ 20) (hn : n < 16) : (rowWord v n).toNat = min (v.toNat + n) 2047 := by
  have h1 : (v + BitVec.ofNat 32 n).toNat = v.toNat + n := by
    rw [BitVec.toNat_add, BitVec.toNat_ofNat]; omega
  have h := WordArith.toNat_minsi_of_lt (v + BitVec.ofNat 32 n) 2047#32 (by omega) (by decide)
  rw [h1] at h
  exact h

/-- The row word stays inside the table. -/
theorem rowWord_inb {v : BitVec 32} {n : ℕ} (hv : v.toNat < 2 ^ 20) (hn : n < 16) (a : Fin 1) :
    (![(rowWord v n).toNat] : Fin 1 → ℕ) a + S1.size a ≤ S2048.size a := by
  have := rowWord_eq v n hv hn
  fin_cases a
  show (rowWord v n).toNat + 1 ≤ 2048
  omega

/-- What the kernel checks of a chunk's start. -/
theorem chk1_of {v e : BitVec 32} (hv : v.toNat < 2 ^ 20) : k1_chk1 v e := by
  unfold k1_chk1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intros <;>
    exact rowWord_inb hv (by decide) _

/-- A word below 2048 names a row of the second-layer matrix, -/
theorem row64_inb {w : BitVec 32} (hw : w.toNat < 2048) (a : Fin 2) : (![w.toNat, 0] : Fin 2 → ℕ) a + S1x64.size a ≤ S2048x64.size a := by
  fin_cases a
  · show w.toNat + 1 ≤ 2048; omega
  · show 0 + 64 ≤ 64; omega

/-- and a row of the result. -/
theorem row32_inb {w : BitVec 32} (hw : w.toNat < 2048) (a : Fin 2) : (![w.toNat, 0] : Fin 2 → ℕ) a + S1x32.size a ≤ S2048x32.size a := by
  fin_cases a
  · show w.toNat + 1 ≤ 2048; omega
  · show 0 + 32 ≤ 32; omega

/-- The word of a table at the offset a row word gives. -/
theorem window_word (T : S2048.Idx → BitVec 32) {v : BitVec 32} {n : ℕ}
    (inb : ∀ a : Fin 1, (![(rowWord v n).toNat] : Fin 1 → ℕ) a + S1.size a ≤ S2048.size a) (x : S1.Idx) :
    VecWindow.window T ![(rowWord v n).toNat] S1.size inb x = permWord T v n := by
  refine congrArg T (funext fun a => Fin.ext ?_)
  have h0 := inb 0
  have hx := (x a).isLt
  fin_cases a
  have hs : S1.size (0 : Fin 1) = 1 := rfl
  show (rowWord v n).toNat + 1 * (x 0).val = (rowWord v n).toNat % 2048
  have : (rowWord v n).toNat + 1 ≤ 2048 := h0
  have : (x (0 : Fin 1)).val < 1 := hx
  omega

/-- The casts a fetched row goes through change nothing. -/
theorem pay_cast (v : S1x64.Idx → F .f32) : k1_pay2 v = v := by
  unfold k1_pay2
  exact shapeCast_shapeCast v _ _

/-- The fetched row, through the casts the kernel puts it through. -/
theorem pay_row (Z : S2048x64.Idx → F .f32) {w : BitVec 32} (hw : w.toNat < 2048)
    (inb : ∀ a : Fin 2, (![w.toNat, 0] : Fin 2 → ℕ) a + S1x64.size a ≤ S2048x64.size a) :
    k1_pay2 (VecWindow.window Z ![w.toNat, 0] S1x64.size inb) = matRow Z w := by
  rw [pay_cast]
  funext y
  refine congrArg Z (funext fun a => Fin.ext ?_)
  have h0 : (y (0 : Fin 2)).val < 1 := (y 0).isLt
  fin_cases a
  · show w.toNat + 1 * (y 0).val = w.toNat % 2048
    omega
  · show 0 + 1 * (y 1).val = (y 1).val
    omega

/-- The stored row of the results. -/
theorem slice_row (R : S16x32.Idx → F .f32) (n : ℕ) (hn : n < 16) (h : Shape.Slices S16x32 ![n, 0] S1x32) :
    extractStridedSlice S1x32 ![n, 0] R h = blkRow R n := by
  funext y
  refine congrArg R (funext fun a => Fin.ext ?_)
  have h0 : (y (0 : Fin 2)).val < 1 := (y 0).isLt
  fin_cases a
  · show n + (y 0).val = n % 16
    omega
  · show 0 + (y 1).val = (y 1).val
    omega

end Cert.KernelIdeal.Gen
-- ==== Proof.AttendBody.lean ====
/-
  The body of the attention call at one grid point: from its tables, blocks, result and scratch buffer, each owned at a
  vector, it runs to its end and leaves the result at `attendStep` of what it found, every block and table as it was and
  the scratch buffer at something.
-/
module

public import proofs.«01_k».proof.Proof.AttendStep

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Proof (wp_fetch wp_row wp_load_window wp_store_window wp_word wp_word_eq wp_ret_bind wp_if_pos wp_if_neg wp_seq wp_done window_whole)

variable {F : FTy → Type} [FloatOps F]
variable {Ix : Type} [DecidableEq Ix] {Name : Type} [DecidableEq Name] {U : Type} [URA U] {Lvl : Type} [Preorder Lvl]
variable (𝒱 : Variants) (c : Dev nD) (bd : Option 𝒱.V) (E : Set Name)

local notation "𝕄" => MT nD τ sig Ix (Elt F) Name U Lvl

variable (i : grid1.Coords)
  (arg1 : Memref sig .tc .smem S192 .i32) (harg1 : arg1.IsWhole) (arg2 : Memref sig .tc .smem S192 .i32) (harg2 : arg2.IsWhole)
  (arg3 : Memref sig .tc .smem S192 .i32) (harg3 : arg3.IsWhole) (arg4 : Memref sig .tc .smem S2048 .i32) (harg4 : arg4.IsWhole)
  (arg5 : Memref sig .tc .vmem S1x64x2048 .bf16) (harg5 : arg5.IsWhole) (arg6 : Memref sig .tc .vmem S1x2048x32 .f32) (harg6 : arg6.IsWhole)
  (arg7 : Memref sig .tc .vmem S2048x64 .f32) (harg7 : arg7.IsWhole) (arg8 : Memref sig .tc .vmem S1x64 .bf16) (harg8 : arg8.IsWhole)
  (arg9 : Memref sig .tc .vmem S2048x32 .f32) (harg9 : arg9.IsWhole) (arg10 : Memref sig .tc .vmem S16x64 .f32) (harg10 : arg10.IsWhole)

/-- What a part that fetches rows holds after `n` of them: the table, the second-layer matrix, the scratch buffer. -/
def FetchSt (q4 q7 : PosShare TreeShare) (T : S2048.Idx → BitVec 32) (Z : S2048x64.Idx → F .f32) (v : BitVec 32) (S : S16x64.Idx → F .f32) (n : ℕ) : sProp 𝕄 :=
  iprop(owns (Val := Elt F) (c : Thread nD τ) arg4 q4 T ∗ owns (c : Thread nD τ) arg7 q7 Z ∗ owns (c : Thread nD τ) arg10 fullShare (fetched T Z v S n))

variable {q4 q7 : PosShare TreeShare} {T : S2048.Idx → BitVec 32} {Z : S2048x64.Idx → F .f32} {S : S16x64.Idx → F .f32} {v1 v3 : BitVec 32}

set_option maxHeartbeats 1000000 in
/-- Fetching row `n` of the chunk. -/
theorem fetch_step (n : ℕ) (hT : ∀ j, (T j).toNat < 2048) {off4 : Fin 1 → ℕ} (inb4 : ∀ a, off4 a + S1.size a ≤ S2048.size a) (C : BitVec 32 → Prop) {dec : ∀ v, Decidable (C v)}
    {off7 : BitVec 32 → Fin 2 → ℕ} (inb7 : ∀ v, C v → ∀ a, off7 v a + S1x64.size a ≤ S2048x64.size a) (inb10 : ∀ a, (![n, 0] : Fin 2 → ℕ) a + S1x64.size a ≤ S16x64.size a)
    {hp : EltTy.packing .i32 = 1} {hl7 : ∀ v h, arg7.view.LoadsAt (Rect.unit (s := S2048x64) (off7 v) S1x64.size (inb7 v h)).toLoadRect}
    {hl10 : arg10.view.LoadsAt (Rect.unit (s := S16x64) ![n, 0] S1x64.size inb10).toLoadRect}
    {pay : Vec F S1x64 .f32 → FVec F S1x64 .f32}
    {hx : (arg10.access (Rect.unit (s := S16x64) ![n, 0] S1x64.size inb10)).Stores Finset.univ} {hm : _} {α : Type} {k : PUnit → Prog (TpuEff nD τ sig (Elt F) Λ₀ .tc) α} {Q : α → sProp 𝕄}
    (hC : C (permWord T v1 n)) (h4 : off4 = ![(rowWord v1 n).toNat]) (h7 : off7 = fun w => ![w.toNat, 0]) (hpay : pay = k1_pay2 (F := F)) :
    iprop(FetchSt c arg4 arg7 arg10 q4 q7 T Z v1 S n ∗ (FetchSt c arg4 arg7 arg10 q4 q7 T Z v1 S (n + 1) -∗ wp frame (wpE (defs₀ (F := F)) 𝒱 (c : Thread nD τ) bd) E (k ⟨⟩) Q))
      ⊢ wp frame (wpE (defs₀ (F := F)) 𝒱 (c : Thread nD τ) bd) E (smemLoad arg4 (Rect.unit (s := S2048) off4 S1.size inb4) numel1_S1 hp >>= fun v : BitVec 32 =>
          Prog.lift (TpuEff.assume (C v) (dec v)) >>= fun h =>
          Prog.lift (.load arg7 (Rect.unit (s := S2048x64) (off7 v) S1x64.size (inb7 v h.down)).toLoadRect (hl7 v h.down)) >>= fun x : Vec F S1x64 .f32 =>
          Prog.lift (.load arg10 (Rect.unit (s := S16x64) ![n, 0] S1x64.size inb10).toLoadRect hl10) >>= fun _ =>
          Prog.lift (.store arg10 (Rect.unit (s := S16x64) ![n, 0] S1x64.size inb10) (pay x) Finset.univ hx hm) >>= k) Q := by
  subst h4 h7 hpay
  unfold FetchSt
  iintro ⟨⟨H4, H7, H10⟩, Hk⟩
  iapply (wp_fetch 𝒱 (c : Thread nD τ) bd E arg4 arg7 arg10 inb4 C inb7 inb10 (window_word T (n := n) _ _) hC (pay_row Z (hT _) _))
  isplitl [H4]; · iexact H4
  isplitl [H7]; · iexact H7
  isplitl [H10]; · iexact H10
  iintro H4 H7 H10
  iapply Hk
  isplitl [H4]; · iexact H4
  isplitl [H7]; · iexact H7
  iexact H10

/-- A word the table names is a row of the second-layer matrix: what the kernel checks before each fetch. -/
theorem row_ok (hT : ∀ j, (T j).toNat < 2048) (n : ℕ) (_ : k1_cond1 v3 = 1#1) (a : Fin 2) :
    (![(permWord T v1 n).toNat, 0] : Fin 2 → ℕ) a + S1x64.size a ≤ S2048x64.size a := row64_inb (hT _) a

set_option maxHeartbeats 2000000 in
/-- The first three rows, and the word of the fourth. -/
theorem part1_spec (hw1 : k1_chk1 v1 v3) (h1 : k1_cond1 v3 = 1#1) (hT : ∀ j, (T j).toNat < 2048) {Q : _ → sProp 𝕄} :
    iprop(FetchSt c arg4 arg7 arg10 q4 q7 T Z v1 S 0 ∗ (∀ r : (Σ' (v40 : Elt F .i32), k1_chk5 v3 v40), ⌜r.1 = permWord T v1 3⌝ -∗ FetchSt c arg4 arg7 arg10 q4 q7 T Z v1 S 3 -∗ Q r))
      ⊢ wp frame (wpE (defs₀ (F := F)) 𝒱 (c : Thread nD τ) bd) E (k1_part1 i arg1 harg1 arg2 harg2 arg3 harg3 arg4 harg4 arg5 harg5 arg6 harg6 arg7 harg7
          arg8 harg8 arg9 harg9 arg10 harg10 v1 v3 hw1 h1) Q := by
  rw [k1_part1_eq_skeleton]
  unfold k1_part1_skel
  iintro ⟨H, Hk⟩
  iapply (fetch_step (hp := rfl) 𝒱 c bd E arg4 arg7 arg10 0 hT (k1_off2_inb v1 v3 hw1 h1) (k1_chk2 v3) (fun v h => k1_off3_inb v3 v h h1) inb_S16x64_S1x64_0_0 (row_ok hT 0) rfl rfl rfl)
  isplitl [H]; · iexact H
  iintro H
  iapply (fetch_step (hp := rfl) 𝒱 c bd E arg4 arg7 arg10 1 hT (k1_off4_inb v1 v3 hw1 h1) (k1_chk3 v3) (fun v h => k1_off5_inb v3 v h h1) inb_S16x64_S1x64_1_0 (row_ok hT 1) rfl rfl rfl)
  isplitl [H]; · iexact H
  iintro H
  iapply (fetch_step (hp := rfl) 𝒱 c bd E arg4 arg7 arg10 2 hT (k1_off6_inb v1 v3 hw1 h1) (k1_chk4 v3) (fun v h => k1_off7_inb v3 v h h1) inb_S16x64_S1x64_2_0 (row_ok hT 2) rfl rfl rfl)
  isplitl [H]; · iexact H
  iintro H
  unfold FetchSt
  icases H with ⟨H4, H7, H10⟩
  iapply (wp_word 𝒱 (c : Thread nD τ) bd E arg4 (k1_off8_inb v1 v3 hw1 h1))
  isplitl [H4]; · iexact H4
  iintro H4
  rw [show VecWindow.window T (k1_off8 v1) S1.size (k1_off8_inb v1 v3 hw1 h1) _ = permWord T v1 3 from window_word T (n := 3) _ _]
  iapply (wp_assume 𝒱 (c : Thread nD τ) bd E (row_ok hT 3))
  iapply (wp_done 𝒱 (c : Thread nD τ) bd E (⟨permWord T v1 3, row_ok hT 3⟩ : Σ' (v40 : Elt F .i32), k1_chk5 v3 v40))
  iapply Hk
  · ipureintro; rfl
  isplitl [H4]; · iexact H4
  isplitl [H7]; · iexact H7
  iexact H10

set_option maxHeartbeats 2000000 in
/-- The fourth to the seventh row. -/
theorem part2_spec (hw1 : k1_chk1 v1 v3) (h1 : k1_cond1 v3 = 1#1) (hT : ∀ j, (T j).toNat < 2048) {v40 : Elt F .i32} (hw5 : k1_chk5 v3 v40) (hv40 : v40 = permWord T v1 3) {Q : _ → sProp 𝕄} :
    iprop(FetchSt c arg4 arg7 arg10 q4 q7 T Z v1 S 3 ∗ (∀ r, FetchSt c arg4 arg7 arg10 q4 q7 T Z v1 S 7 -∗ Q r))
      ⊢ wp frame (wpE (defs₀ (F := F)) 𝒱 (c : Thread nD τ) bd) E (k1_part2 i arg1 harg1 arg2 harg2 arg3 harg3 arg4 harg4 arg5 harg5 arg6 harg6 arg7 harg7
          arg8 harg8 arg9 harg9 arg10 harg10 v1 v3 hw1 h1 v40 hw5) Q := by
  rw [k1_part2_eq_skeleton]
  unfold k1_part2_skel
  subst hv40
  iintro ⟨H, Hk⟩
  unfold FetchSt
  icases H with ⟨H4, H7, H10⟩
  iapply (wp_load_window 𝒱 (c : Thread nD τ) bd E arg7 (k1_off9_inb v3 _ hw5 h1))
  isplitl [H7]; · iexact H7
  iintro H7
  rw [show VecWindow.window Z (k1_off9 (permWord T v1 3)) S1x64.size _ = VecWindow.window Z ![(permWord T v1 3).toNat, 0] S1x64.size (row_ok hT 3 h1) from rfl]
  iapply (wp_load_window 𝒱 (c : Thread nD τ) bd E arg10 inb_S16x64_S1x64_3_0)
  isplitl [H10]; · iexact H10
  iintro H10
  iapply (wp_store_window 𝒱 (c : Thread nD τ) bd E arg10 inb_S16x64_S1x64_3_0)
  isplitl [H10]; · iexact H10
  rw [show k1_pay5 (VecWindow.window Z ![(permWord T v1 3).toNat, 0] S1x64.size (row_ok hT 3 h1)) = matRow Z (permWord T v1 3) from pay_row Z (hT _) _]
  iintro H10
  ihave H : (FetchSt c arg4 arg7 arg10 q4 q7 T Z v1 S 4) $$ [H4 H7 H10]
  · unfold FetchSt
    isplitl [H4]; · iexact H4
    isplitl [H7]; · iexact H7
    iexact H10
  iapply (fetch_step (hp := rfl) 𝒱 c bd E arg4 arg7 arg10 4 hT (k1_off10_inb v1 v3 hw1 h1) (k1_chk6 v3) (fun v h => k1_off11_inb v3 v h h1) inb_S16x64_S1x64_4_0 (row_ok hT 4) rfl rfl rfl)
  isplitl [H]; · iexact H
  iintro H
  iapply (fetch_step (hp := rfl) 𝒱 c bd E arg4 arg7 arg10 5 hT (k1_off12_inb v1 v3 hw1 h1) (k1_chk7 v3) (fun v h => k1_off13_inb v3 v h h1) inb_S16x64_S1x64_5_0 (row_ok hT 5) rfl rfl rfl)
  isplitl [H]; · iexact H
  iintro H
  iapply (fetch_step (hp := rfl) 𝒱 c bd E arg4 arg7 arg10 6 hT (k1_off14_inb v1 v3 hw1 h1) (k1_chk8 v3) (fun v h => k1_off15_inb v3 v h h1) inb_S16x64_S1x64_6_0 (row_ok hT 6) rfl rfl rfl)
  isplitl [H]; · iexact H
  iintro H
  iapply (wp_done 𝒱 (c : Thread nD τ) bd E)
  iapply Hk
  unfold FetchSt
  iexact H

set_option maxHeartbeats 2000000 in
/-- The eighth to the tenth row, and the load of the eleventh. -/
theorem part3_spec (hw1 : k1_chk1 v1 v3) (h1 : k1_cond1 v3 = 1#1) (hT : ∀ j, (T j).toNat < 2048) (c7 : BitVec 32) {Q : _ → sProp 𝕄} :
    iprop(FetchSt c arg4 arg7 arg10 q4 q7 T Z v1 S 7 ∗ (FetchSt c arg4 arg7 arg10 q4 q7 T Z v1 S 10 -∗ Q (VecWindow.window Z ![(permWord T v1 10).toNat, 0] S1x64.size (row_ok hT 10 h1))))
      ⊢ wp frame (wpE (defs₀ (F := F)) 𝒱 (c : Thread nD τ) bd) E (k1_part3 i arg1 harg1 arg2 harg2 arg3 harg3 arg4 harg4 arg5 harg5 arg6 harg6 arg7 harg7
          arg8 harg8 arg9 harg9 arg10 harg10 v1 v3 hw1 h1 c7) Q := by
  rw [k1_part3_eq_skeleton]
  unfold k1_part3_skel
  iintro ⟨H, Hk⟩
  iapply (fetch_step (hp := rfl) 𝒱 c bd E arg4 arg7 arg10 7 hT (k1_off16_inb v1 v3 hw1 h1) (k1_chk9 v3) (fun v h => k1_off17_inb v3 v h h1) inb_S16x64_S1x64_7_0 (row_ok hT 7) rfl rfl rfl)
  isplitl [H]; · iexact H
  iintro H
  iapply (fetch_step (hp := rfl) 𝒱 c bd E arg4 arg7 arg10 8 hT (k1_off18_inb v1 v3 hw1 h1) (k1_chk10 v3) (fun v h => k1_off19_inb v3 v h h1) inb_S16x64_S1x64_8_0 (row_ok hT 8) rfl rfl rfl)
  isplitl [H]; · iexact H
  iintro H
  iapply (fetch_step (hp := rfl) 𝒱 c bd E arg4 arg7 arg10 9 hT (k1_off20_inb v1 v3 hw1 h1) (k1_chk11 v3) (fun v h => k1_off21_inb v3 v h h1) inb_S16x64_S1x64_9_0 (row_ok hT 9) rfl rfl rfl)
  isplitl [H]; · iexact H
  iintro H
  unfold FetchSt
  icases H with ⟨H4, H7, H10⟩
  iapply (wp_word 𝒱 (c : Thread nD τ) bd E arg4 (k1_off22_inb v1 v3 hw1 h1))
  isplitl [H4]; · iexact H4
  iintro H4
  rw [show VecWindow.window T (k1_off22 v1) S1.size (k1_off22_inb v1 v3 hw1 h1) _ = permWord T v1 10 from window_word T (n := 10) _ _]
  iapply (wp_assume 𝒱 (c : Thread nD τ) bd E (row_ok hT 10))
  iapply (wp_load_window 𝒱 (c : Thread nD τ) bd E arg7 (k1_off23_inb v3 _ (row_ok hT 10) h1))
  isplitl [H7]; · iexact H7
  iintro H7
  iapply (wp_done 𝒱 (c : Thread nD τ) bd E (VecWindow.window Z ![(permWord T v1 10).toNat, 0] S1x64.size (row_ok hT 10 h1)))
  iapply Hk
  isplitl [H4]; · iexact H4
  isplitl [H7]; · iexact H7
  iexact H10

set_option maxHeartbeats 2000000 in
/-- The eleventh to the fourteenth row. -/
theorem part4_spec (hw1 : k1_chk1 v1 v3) (h1 : k1_cond1 v3 = 1#1) (hT : ∀ j, (T j).toNat < 2048) {Q : _ → sProp 𝕄} :
    iprop(FetchSt c arg4 arg7 arg10 q4 q7 T Z v1 S 10 ∗ (∀ r, FetchSt c arg4 arg7 arg10 q4 q7 T Z v1 S 14 -∗ Q r))
      ⊢ wp frame (wpE (defs₀ (F := F)) 𝒱 (c : Thread nD τ) bd) E (k1_part4 i arg1 harg1 arg2 harg2 arg3 harg3 arg4 harg4 arg5 harg5 arg6 harg6 arg7 harg7
          arg8 harg8 arg9 harg9 arg10 harg10 v1 v3 hw1 h1 (VecWindow.window Z ![(permWord T v1 10).toNat, 0] S1x64.size (row_ok hT 10 h1))) Q := by
  rw [k1_part4_eq_skeleton]
  unfold k1_part4_skel
  iintro ⟨H, Hk⟩
  unfold FetchSt
  icases H with ⟨H4, H7, H10⟩
  iapply (wp_load_window 𝒱 (c : Thread nD τ) bd E arg10 inb_S16x64_S1x64_10_0)
  isplitl [H10]; · iexact H10
  iintro H10
  iapply (wp_store_window 𝒱 (c : Thread nD τ) bd E arg10 inb_S16x64_S1x64_10_0)
  isplitl [H10]; · iexact H10
  rw [show k1_pay12 (VecWindow.window Z ![(permWord T v1 10).toNat, 0] S1x64.size (row_ok hT 10 h1)) = matRow Z (permWord T v1 10) from pay_row Z (hT _) _]
  iintro H10
  ihave H : (FetchSt c arg4 arg7 arg10 q4 q7 T Z v1 S 11) $$ [H4 H7 H10]
  · unfold FetchSt
    isplitl [H4]; · iexact H4
    isplitl [H7]; · iexact H7
    iexact H10
  iapply (fetch_step (hp := rfl) 𝒱 c bd E arg4 arg7 arg10 11 hT (k1_off24_inb v1 v3 hw1 h1) (k1_chk13 v3) (fun v h => k1_off25_inb v3 v h h1) inb_S16x64_S1x64_11_0 (row_ok hT 11) rfl rfl rfl)
  isplitl [H]; · iexact H
  iintro H
  iapply (fetch_step (hp := rfl) 𝒱 c bd E arg4 arg7 arg10 12 hT (k1_off26_inb v1 v3 hw1 h1) (k1_chk14 v3) (fun v h => k1_off27_inb v3 v h h1) inb_S16x64_S1x64_12_0 (row_ok hT 12) rfl rfl rfl)
  isplitl [H]; · iexact H
  iintro H
  iapply (fetch_step (hp := rfl) 𝒱 c bd E arg4 arg7 arg10 13 hT (k1_off28_inb v1 v3 hw1 h1) (k1_chk15 v3) (fun v h => k1_off29_inb v3 v h h1) inb_S16x64_S1x64_13_0 (row_ok hT 13) rfl rfl rfl)
  isplitl [H]; · iexact H
  iintro H
  iapply (wp_done 𝒱 (c : Thread nD τ) bd E)
  iapply Hk
  unfold FetchSt
  iexact H

set_option maxHeartbeats 2000000 in
/-- The last two rows, and the loads of the scratch buffer, the weight row and the scene's block. -/
theorem part5_spec (hw1 : k1_chk1 v1 v3) (h1 : k1_cond1 v3 = 1#1) (hT : ∀ j, (T j).toNat < 2048) (v147 : BitVec 32) {q5 q8 : PosShare TreeShare} {B : S1x64x2048.Idx → F .bf16} {W : S1x64.Idx → F .bf16} {Q : _ → sProp 𝕄} :
    iprop(FetchSt c arg4 arg7 arg10 q4 q7 T Z v1 S 14 ∗ owns (c : Thread nD τ) arg8 q8 W ∗ owns (c : Thread nD τ) arg5 q5 B ∗ (FetchSt c arg4 arg7 arg10 q4 q7 T Z v1 S 16 -∗ owns (c : Thread nD τ) arg8 q8 W -∗ owns (c : Thread nD τ) arg5 q5 B -∗ Q ⟨k1_pay18 (fetched T Z v1 S 16), k1_pay19 W, k1_pay20 B, k1_pay21 (fetched T Z v1 S 16) W B, k1_pay22 (fetched T Z v1 S 16) B⟩))
      ⊢ wp frame (wpE (defs₀ (F := F)) 𝒱 (c : Thread nD τ) bd) E (k1_part5 i arg1 harg1 arg2 harg2 arg3 harg3 arg4 harg4 arg5 harg5 arg6 harg6 arg7 harg7
          arg8 harg8 arg9 harg9 arg10 harg10 v1 v3 hw1 h1 v147) Q := by
  rw [k1_part5_eq_skeleton]
  unfold k1_part5_skel
  iintro ⟨H, H8, H5, Hk⟩
  iapply (fetch_step (hp := rfl) 𝒱 c bd E arg4 arg7 arg10 14 hT (k1_off30_inb v1 v3 hw1 h1) (k1_chk16 v3) (fun v h => k1_off31_inb v3 v h h1) inb_S16x64_S1x64_14_0 (row_ok hT 14) rfl rfl rfl)
  isplitl [H]; · iexact H
  iintro H
  iapply (fetch_step (hp := rfl) 𝒱 c bd E arg4 arg7 arg10 15 hT (k1_off32_inb v1 v3 hw1 h1) (k1_chk17 v3) (fun v h => k1_off33_inb v3 v h h1) inb_S16x64_S1x64_15_0 (row_ok hT 15) rfl rfl rfl)
  isplitl [H]; · iexact H
  iintro H
  unfold FetchSt
  icases H with ⟨H4, H7, H10⟩
  iapply (wp_load_window 𝒱 (c : Thread nD τ) bd E arg10 inb_S16x64_S16x64_0_0)
  isplitl [H10]; · iexact H10
  iintro H10
  rw [show VecWindow.window (fetched T Z v1 S 16) ![0, 0] S16x64.size _ = _ from window_whole _ _]
  iapply (wp_load_window 𝒱 (c : Thread nD τ) bd E arg8 inb_S1x64_S1x64_0_0)
  isplitl [H8]; · iexact H8
  iintro H8
  rw [show VecWindow.window W ![0, 0] S1x64.size _ = _ from window_whole _ _]
  iapply (wp_load_window 𝒱 (c : Thread nD τ) bd E arg5 inb_S1x64x2048_S1x64x2048_0_0_0)
  isplitl [H5]; · iexact H5
  iintro H5
  rw [show VecWindow.window B ![0, 0, 0] S1x64x2048.size _ = _ from window_whole _ _]
  iapply (wp_done 𝒱 (c : Thread nD τ) bd E)
  iapply Hk $$ [H4 H7 H10] H8 H5
  isplitl [H4]; · iexact H4
  isplitl [H7]; · iexact H7
  iexact H10

/-- What a part that stores rows holds after `n` of them: the table and the result. -/
def StoreSt (q4 : PosShare TreeShare) (T : S2048.Idx → BitVec 32) (v e : BitVec 32) (R : S16x32.Idx → F .f32) (Y : S2048x32.Idx → F .f32) (n : ℕ) : sProp 𝕄 :=
  iprop(owns (Val := Elt F) (c : Thread nD τ) arg4 q4 T ∗ owns (c : Thread nD τ) arg9 fullShare (stored T v e R Y n))

variable {R : S16x32.Idx → F .f32} {Y : S2048x32.Idx → F .f32}

set_option maxHeartbeats 1000000 in
/-- Storing row `n` of the chunk, if it lies inside the segment. -/
theorem store_step (n : ℕ) (hT : ∀ j, (T j).toNat < 2048) (P : Prop) [dP : Decidable P] (hP : P ↔ rowCond v1 v3 n = 1#1)
    {off4 : Fin 1 → ℕ} (inb4 : P → ∀ a, off4 a + S1.size a ≤ S2048.size a) (C : BitVec 32 → Prop) {dec : ∀ v, Decidable (C v)}
    {off9 : BitVec 32 → Fin 2 → ℕ} (inb9 : P → ∀ v, C v → ∀ a, off9 v a + S1x32.size a ≤ S2048x32.size a)
    {hp : EltTy.packing .i32 = 1} {hl9 : ∀ hP v h, arg9.view.LoadsAt (Rect.unit (s := S2048x32) (off9 v) S1x32.size (inb9 hP v h)).toLoadRect}
    {pay : FVec F S1x32 .f32}
    {hx : ∀ hP v h, (arg9.access (Rect.unit (s := S2048x32) (off9 v) S1x32.size (inb9 hP v h))).Stores Finset.univ}
    {hm : ∀ hP v h, (Finset.univ : Finset (Rect.unit (s := S2048x32) (off9 v) S1x32.size (inb9 hP v h)).shape.Idx) = Finset.univ ∨ ∀ a, (Rect.unit (s := S2048x32) (off9 v) S1x32.size (inb9 hP v h)).stride a = 1}
    {α : Type} {k : Prog (TpuEff nD τ sig (Elt F) Λ₀ .tc) α} {Q : α → sProp 𝕄}
    (hC : C (permWord T v1 n)) (h4 : off4 = ![(rowWord v1 n).toNat]) (h9 : off9 = fun w => ![w.toNat, 0]) (hpay : pay = blkRow R n) :
    iprop(StoreSt c arg4 arg9 q4 T v1 v3 R Y n ∗ (StoreSt c arg4 arg9 q4 T v1 v3 R Y (n + 1) -∗ wp frame (wpE (defs₀ (F := F)) 𝒱 (c : Thread nD τ) bd) E k Q))
      ⊢ wp frame (wpE (defs₀ (F := F)) 𝒱 (c : Thread nD τ) bd) E (if hP : P then
            smemLoad arg4 (Rect.unit (s := S2048) off4 S1.size (inb4 hP)) numel1_S1 hp >>= fun v : BitVec 32 =>
            Prog.lift (TpuEff.assume (C v) (dec v)) >>= fun h =>
            Prog.lift (.load arg9 (Rect.unit (s := S2048x32) (off9 v) S1x32.size (inb9 hP v h.down)).toLoadRect (hl9 hP v h.down)) >>= fun _ =>
            Prog.lift (.store arg9 (Rect.unit (s := S2048x32) (off9 v) S1x32.size (inb9 hP v h.down)) pay Finset.univ (hx hP v h.down) (hm hP v h.down)) >>= fun _ => k
          else k) Q := by
  subst h4 h9 hpay
  unfold StoreSt
  iintro ⟨⟨H4, H9⟩, Hk⟩
  iapply (wp_row 𝒱 (c : Thread nD τ) bd E arg4 arg9 P inb4 C inb9 (fun _ => window_word T (n := n) _ _) (fun _ => hC) rfl)
  isplitl [H4]; · iexact H4
  isplitl [H9]; · iexact H9
  iintro H4 H9
  rw [show (if P then VecWindow.put (stored T v1 v3 R Y n) ![(permWord T v1 n).toNat, 0] S1x32.size (blkRow R n) else stored T v1 v3 R Y n)
    = stored T v1 v3 R Y (n + 1) by rw [stored]; simp only [hP]]
  iapply Hk
  isplitl [H4]; · iexact H4
  iexact H9

/-- A word the table names is a row of the result: what the kernel checks before each store. -/
theorem out_ok (hT : ∀ j, (T j).toNat < 2048) (n : ℕ) {P : Prop} (_ : k1_cond1 v3 = 1#1) (_ : P) (a : Fin 2) :
    (![(permWord T v1 n).toNat, 0] : Fin 2 → ℕ) a + S1x32.size a ≤ S2048x32.size a := row32_inb (hT _) a

set_option maxHeartbeats 2000000 in
/-- The load of the scene's features and the first six rows stored. -/
theorem part8_spec (hw1 : k1_chk1 v1 v3) (h1 : k1_cond1 v3 = 1#1) (hT : ∀ j, (T j).toNat < 2048) (v274 : FVec F S16x2048 .f32) {q6 : PosShare TreeShare} {X : S1x2048x32.Idx → F .f32} {Q : _ → sProp 𝕄} :
    iprop(owns (c : Thread nD τ) arg6 q6 X ∗ StoreSt c arg4 arg9 q4 T v1 v3 (k1_pay33 v274 X) Y 0 ∗ (∀ r : (Σ' (v282 : FVec F S16x32 .f32) (v307 : BitVec 32) (v309 : BitVec 32), BitVec 32), ⌜r.1 = k1_pay33 v274 X⌝ -∗ owns (c : Thread nD τ) arg6 q6 X -∗ StoreSt c arg4 arg9 q4 T v1 v3 (k1_pay33 v274 X) Y 6 -∗ Q r))
      ⊢ wp frame (wpE (defs₀ (F := F)) 𝒱 (c : Thread nD τ) bd) E (k1_part8 i arg1 harg1 arg2 harg2 arg3 harg3 arg4 harg4 arg5 harg5 arg6 harg6 arg7 harg7
          arg8 harg8 arg9 harg9 arg10 harg10 v1 v3 hw1 h1 v274) Q := by
  rw [k1_part8_eq_skeleton]
  unfold k1_part8_skel
  iintro ⟨H6, H, Hk⟩
  iapply (wp_load_window 𝒱 (c : Thread nD τ) bd E arg6 inb_S1x2048x32_S1x2048x32_0_0_0)
  isplitl [H6]; · iexact H6
  iintro H6
  rw [show VecWindow.window X ![0, 0, 0] S1x2048x32.size _ = _ from window_whole _ _]
  iapply (wp_ret_bind 𝒱 (c : Thread nD τ) bd E)
  iapply (store_step (hp := rfl) (pay := k1_pay34 v274 X) (R := k1_pay33 v274 X) 𝒱 c bd E arg4 arg9 0 hT (k1_cond2 v1 v3 = 1#1) Iff.rfl (k1_off34_inb v1 v3 hw1 h1) (k1_chk18 v1 v3) (fun h2 v h => k1_off35_inb v1 v3 v h h1 h2) (out_ok hT 0) rfl rfl (show k1_pay34 v274 X = blkRow _ 0 from slice_row _ 0 (by decide) slices_S16x32_o0_0_S1x32))
  isplitl [H]; · iexact H
  iintro H
  iapply (store_step (hp := rfl) (pay := k1_pay35 v274 X) (R := k1_pay33 v274 X) 𝒱 c bd E arg4 arg9 1 hT (k1_cond3 v1 v3 = 1#1) Iff.rfl (k1_off36_inb v1 v3 hw1 h1) (k1_chk19 v1 v3) (fun h2 v h => k1_off37_inb v1 v3 v h h1 h2) (out_ok hT 1) rfl rfl (show k1_pay35 v274 X = blkRow _ 1 from slice_row _ 1 (by decide) slices_S16x32_o1_0_S1x32))
  isplitl [H]; · iexact H
  iintro H
  iapply (store_step (hp := rfl) (pay := k1_pay36 v274 X) (R := k1_pay33 v274 X) 𝒱 c bd E arg4 arg9 2 hT (k1_cond4 v1 v3 = 1#1) Iff.rfl (k1_off38_inb v1 v3 hw1 h1) (k1_chk20 v1 v3) (fun h2 v h => k1_off39_inb v1 v3 v h h1 h2) (out_ok hT 2) rfl rfl (show k1_pay36 v274 X = blkRow _ 2 from slice_row _ 2 (by decide) slices_S16x32_o2_0_S1x32))
  isplitl [H]; · iexact H
  iintro H
  iapply (store_step (hp := rfl) (pay := k1_pay37 v274 X) (R := k1_pay33 v274 X) 𝒱 c bd E arg4 arg9 3 hT (k1_cond5 v1 v3 = 1#1) Iff.rfl (k1_off40_inb v1 v3 hw1 h1) (k1_chk21 v1 v3) (fun h2 v h => k1_off41_inb v1 v3 v h h1 h2) (out_ok hT 3) rfl rfl (show k1_pay37 v274 X = blkRow _ 3 from slice_row _ 3 (by decide) slices_S16x32_o3_0_S1x32))
  isplitl [H]; · iexact H
  iintro H
  iapply (store_step (hp := rfl) (pay := k1_pay38 v274 X) (R := k1_pay33 v274 X) 𝒱 c bd E arg4 arg9 4 hT (k1_cond6 v1 v3 = 1#1) Iff.rfl (k1_off42_inb v1 v3 hw1 h1) (k1_chk22 v1 v3) (fun h2 v h => k1_off43_inb v1 v3 v h h1 h2) (out_ok hT 4) rfl rfl (show k1_pay38 v274 X = blkRow _ 4 from slice_row _ 4 (by decide) slices_S16x32_o4_0_S1x32))
  isplitl [H]; · iexact H
  iintro H
  iapply (store_step (hp := rfl) (pay := k1_pay39 v274 X) (R := k1_pay33 v274 X) 𝒱 c bd E arg4 arg9 5 hT (k1_cond7 v1 v3 = 1#1) Iff.rfl (k1_off44_inb v1 v3 hw1 h1) (k1_chk23 v1 v3) (fun h2 v h => k1_off45_inb v1 v3 v h h1 h2) (out_ok hT 5) rfl rfl (show k1_pay39 v274 X = blkRow _ 5 from slice_row _ 5 (by decide) slices_S16x32_o5_0_S1x32))
  isplitl [H]; · iexact H
  iintro H
  iapply (wp_done 𝒱 (c : Thread nD τ) bd E)
  iapply Hk $$ [] H6 H
  ipureintro; rfl

set_option maxHeartbeats 2000000 in
/-- The next nine rows stored. -/
theorem part9_spec (hw1 : k1_chk1 v1 v3) (h1 : k1_cond1 v3 = 1#1) (hT : ∀ j, (T j).toNat < 2048) (v282 : FVec F S16x32 .f32) (v307 v309 c0 : BitVec 32) {Q : _ → sProp 𝕄} :
    iprop(StoreSt c arg4 arg9 q4 T v1 v3 v282 Y 6 ∗ (∀ r, StoreSt c arg4 arg9 q4 T v1 v3 v282 Y 15 -∗ Q r))
      ⊢ wp frame (wpE (defs₀ (F := F)) 𝒱 (c : Thread nD τ) bd) E (k1_part9 i arg1 harg1 arg2 harg2 arg3 harg3 arg4 harg4 arg5 harg5 arg6 harg6 arg7 harg7
          arg8 harg8 arg9 harg9 arg10 harg10 v1 v3 hw1 h1 v282 v307 v309 c0) Q := by
  rw [k1_part9_eq_skeleton]
  unfold k1_part9_skel
  iintro ⟨H, Hk⟩
  iapply (store_step (hp := rfl) (pay := k1_pay40 v282) (R := v282) 𝒱 c bd E arg4 arg9 6 hT (k1_cond8 v1 v3 = 1#1) Iff.rfl (k1_off46_inb v1 v3 hw1 h1) (k1_chk24 v1 v3) (fun h2 v h => k1_off47_inb v1 v3 v h h1 h2) (out_ok hT 6) rfl rfl (show k1_pay40 v282 = blkRow _ 6 from slice_row _ 6 (by decide) slices_S16x32_o6_0_S1x32))
  isplitl [H]; · iexact H
  iintro H
  iapply (store_step (hp := rfl) (pay := k1_pay41 v282) (R := v282) 𝒱 c bd E arg4 arg9 7 hT (k1_cond9 v1 v3 = 1#1) Iff.rfl (k1_off48_inb v1 v3 hw1 h1) (k1_chk25 v1 v3) (fun h2 v h => k1_off49_inb v1 v3 v h h1 h2) (out_ok hT 7) rfl rfl (show k1_pay41 v282 = blkRow _ 7 from slice_row _ 7 (by decide) slices_S16x32_o7_0_S1x32))
  isplitl [H]; · iexact H
  iintro H
  iapply (store_step (hp := rfl) (pay := k1_pay42 v282) (R := v282) 𝒱 c bd E arg4 arg9 8 hT (k1_cond10 v1 v3 = 1#1) Iff.rfl (k1_off50_inb v1 v3 hw1 h1) (k1_chk26 v1 v3) (fun h2 v h => k1_off51_inb v1 v3 v h h1 h2) (out_ok hT 8) rfl rfl (show k1_pay42 v282 = blkRow _ 8 from slice_row _ 8 (by decide) slices_S16x32_o8_0_S1x32))
  isplitl [H]; · iexact H
  iintro H
  iapply (store_step (hp := rfl) (pay := k1_pay43 v282) (R := v282) 𝒱 c bd E arg4 arg9 9 hT (k1_cond11 v1 v3 = 1#1) Iff.rfl (k1_off52_inb v1 v3 hw1 h1) (k1_chk27 v1 v3) (fun h2 v h => k1_off53_inb v1 v3 v h h1 h2) (out_ok hT 9) rfl rfl (show k1_pay43 v282 = blkRow _ 9 from slice_row _ 9 (by decide) slices_S16x32_o9_0_S1x32))
  isplitl [H]; · iexact H
  iintro H
  iapply (store_step (hp := rfl) (pay := k1_pay44 v282) (R := v282) 𝒱 c bd E arg4 arg9 10 hT (k1_cond12 v1 v3 = 1#1) Iff.rfl (k1_off54_inb v1 v3 hw1 h1) (k1_chk28 v1 v3) (fun h2 v h => k1_off55_inb v1 v3 v h h1 h2) (out_ok hT 10) rfl rfl (show k1_pay44 v282 = blkRow _ 10 from slice_row _ 10 (by decide) slices_S16x32_o10_0_S1x32))
  isplitl [H]; · iexact H
  iintro H
  iapply (store_step (hp := rfl) (pay := k1_pay45 v282) (R := v282) 𝒱 c bd E arg4 arg9 11 hT (k1_cond13 v1 v3 = 1#1) Iff.rfl (k1_off56_inb v1 v3 hw1 h1) (k1_chk29 v1 v3) (fun h2 v h => k1_off57_inb v1 v3 v h h1 h2) (out_ok hT 11) rfl rfl (show k1_pay45 v282 = blkRow _ 11 from slice_row _ 11 (by decide) slices_S16x32_o11_0_S1x32))
  isplitl [H]; · iexact H
  iintro H
  iapply (store_step (hp := rfl) (pay := k1_pay46 v282) (R := v282) 𝒱 c bd E arg4 arg9 12 hT (k1_cond14 v1 v3 = 1#1) Iff.rfl (k1_off58_inb v1 v3 hw1 h1) (k1_chk30 v1 v3) (fun h2 v h => k1_off59_inb v1 v3 v h h1 h2) (out_ok hT 12) rfl rfl (show k1_pay46 v282 = blkRow _ 12 from slice_row _ 12 (by decide) slices_S16x32_o12_0_S1x32))
  isplitl [H]; · iexact H
  iintro H
  iapply (store_step (hp := rfl) (pay := k1_pay47 v282) (R := v282) 𝒱 c bd E arg4 arg9 13 hT (k1_cond15 v1 v3 = 1#1) Iff.rfl (k1_off60_inb v1 v3 hw1 h1) (k1_chk31 v1 v3) (fun h2 v h => k1_off61_inb v1 v3 v h h1 h2) (out_ok hT 13) rfl rfl (show k1_pay47 v282 = blkRow _ 13 from slice_row _ 13 (by decide) slices_S16x32_o13_0_S1x32))
  isplitl [H]; · iexact H
  iintro H
  iapply (store_step (hp := rfl) (pay := k1_pay48 v282) (R := v282) 𝒱 c bd E arg4 arg9 14 hT (k1_cond16 v1 v3 = 1#1) Iff.rfl (k1_off62_inb v1 v3 hw1 h1) (k1_chk32 v1 v3) (fun h2 v h => k1_off63_inb v1 v3 v h h1 h2) (out_ok hT 14) rfl rfl (show k1_pay48 v282 = blkRow _ 14 from slice_row _ 14 (by decide) slices_S16x32_o14_0_S1x32))
  isplitl [H]; · iexact H
  iintro H
  iapply (wp_done 𝒱 (c : Thread nD τ) bd E)
  iapply Hk $$ H

/-- The word of a table at the grid point. -/
theorem window_point (T : S192.Idx → BitVec 32) (i : grid1.Coords) (inb : ∀ a, k1_off1 i a + S1.size a ≤ S192.size a) (x : S1.Idx) :
    VecWindow.window T (k1_off1 i) S1.size inb x = tabAt192 T (i 0).val := by
  refine congrArg T (funext fun a => Fin.ext ?_)
  have hx := (x a).isLt
  fin_cases a
  have hx : (x (0 : Fin 1)).val < 1 := hx
  have hi : (i 0).val < 192 := (i 0).isLt
  show (BitVec.ofNat 32 (i 0).val).toNat + 1 * (x (0 : Fin 1)).val = (i 0).val % 192
  rw [BitVec.toNat_ofNat]
  omega

set_option maxHeartbeats 4000000 in
/-- The step, from the first-layer block `B` and the features `X` of the chunk's scene, the second-layer matrix `Z`, the
    weight row `W`, the result so far `Y` and the tables: it leaves the result at `attendStep`. -/
theorem attend_spec {T2 T3 : S192.Idx → BitVec 32} (hv : tabAt192 T2 (i 0).val = v1) (he : tabAt192 T3 (i 0).val = v3)
    (hv1 : v1.toNat < 2 ^ 20) (hT : ∀ j, (T j).toNat < 2048)
    {q2 q3 q5 q6 q8 : PosShare TreeShare} {B : S1x64x2048.Idx → F .bf16} {W : S1x64.Idx → F .bf16} {X : S1x2048x32.Idx → F .f32} {Q : PUnit → sProp 𝕄} :
    iprop(owns (Val := Elt F) (c : Thread nD τ) arg2 q2 T2 ∗ owns (Val := Elt F) (c : Thread nD τ) arg3 q3 T3 ∗ owns (Val := Elt F) (c : Thread nD τ) arg4 q4 T
        ∗ owns (c : Thread nD τ) arg5 q5 B ∗ owns (c : Thread nD τ) arg6 q6 X ∗ owns (c : Thread nD τ) arg7 q7 Z ∗ owns (c : Thread nD τ) arg8 q8 W
        ∗ owns (c : Thread nD τ) arg9 fullShare Y ∗ owns (c : Thread nD τ) arg10 fullShare S
        ∗ (owns (Val := Elt F) (c : Thread nD τ) arg2 q2 T2 -∗ owns (Val := Elt F) (c : Thread nD τ) arg3 q3 T3 -∗ owns (Val := Elt F) (c : Thread nD τ) arg4 q4 T
          -∗ owns (c : Thread nD τ) arg5 q5 B -∗ owns (c : Thread nD τ) arg6 q6 X -∗ owns (c : Thread nD τ) arg7 q7 Z -∗ owns (c : Thread nD τ) arg8 q8 W
          -∗ owns (c : Thread nD τ) arg9 fullShare (attendStep T v1 v3 Z S W B X Y) -∗ (∃ S', owns (c : Thread nD τ) arg10 fullShare S') -∗ Q ⟨⟩))
      ⊢ wp frame (wpE (defs₀ (F := F)) 𝒱 (c : Thread nD τ) bd) E (cc1_cma_attend i arg1 harg1 arg2 harg2 arg3 harg3 arg4 harg4 arg5 harg5 arg6 harg6 arg7 harg7
          arg8 harg8 arg9 harg9 arg10 harg10) Q := by
  have hw1 : k1_chk1 v1 v3 := chk1_of hv1
  rw [cc1_cma_attend_eq_skeleton]
  unfold cc1_cma_attend_skel
  iintro ⟨H2, H3, H4, H5, H6, H7, H8, H9, H10, Hk⟩
  iapply (wp_word_eq 𝒱 (c : Thread nD τ) bd E arg2 (k1_off1_inb i) ((window_point T2 i _ _).trans hv))
  isplitl [H2]; · iexact H2
  iintro H2
  iapply (wp_word_eq 𝒱 (c : Thread nD τ) bd E arg3 (k1_off1_inb i) ((window_point T3 i _ _).trans he))
  isplitl [H3]; · iexact H3
  iintro H3
  iapply (wp_assume 𝒱 (c : Thread nD τ) bd E hw1)
  by_cases h1 : k1_cond1 v3 = 1#1
  swap
  · iapply (wp_if_neg 𝒱 (c : Thread nD τ) bd E h1)
    iapply (wp_done 𝒱 (c : Thread nD τ) bd E)
    rw [show attendStep T v1 v3 Z S W B X Y = Y from if_neg h1]
    iapply Hk $$ H2 H3 H4 H5 H6 H7 H8 H9 [H10]
    iexists S
    iexact H10
  rw [show attendStep T v1 v3 Z S W B X Y = stored T v1 v3 (chunkRes (fetched T Z v1 S 16) W B X) Y 16 from if_pos h1]
  iapply (wp_if_pos 𝒱 (c : Thread nD τ) bd E h1)
  ihave H : (FetchSt c arg4 arg7 arg10 q4 q7 T Z v1 S 0) $$ [H4 H7 H10]
  · unfold FetchSt
    isplitl [H4]; · iexact H4
    isplitl [H7]; · iexact H7
    iexact H10
  iapply (wp_seq 𝒱 (c : Thread nD τ) bd E)
  iapply (part1_spec 𝒱 c bd E i arg1 harg1 arg2 harg2 arg3 harg3 arg4 harg4 arg5 harg5 arg6 harg6 arg7 harg7
    arg8 harg8 arg9 harg9 arg10 harg10 hw1 h1 hT)
  isplitl [H]; · iexact H
  iintro %r %hr H
  obtain ⟨v40, hw5⟩ := r
  iapply (wp_seq 𝒱 (c : Thread nD τ) bd E)
  iapply (part2_spec 𝒱 c bd E i arg1 harg1 arg2 harg2 arg3 harg3 arg4 harg4 arg5 harg5 arg6 harg6 arg7 harg7
    arg8 harg8 arg9 harg9 arg10 harg10 hw1 h1 hT hw5 hr)
  isplitl [H]; · iexact H
  iintro %r2 H
  iapply (wp_seq 𝒱 (c : Thread nD τ) bd E)
  iapply (part3_spec 𝒱 c bd E i arg1 harg1 arg2 harg2 arg3 harg3 arg4 harg4 arg5 harg5 arg6 harg6 arg7 harg7
    arg8 harg8 arg9 harg9 arg10 harg10 hw1 h1 hT r2)
  isplitl [H]; · iexact H
  iintro H
  iapply (wp_seq 𝒱 (c : Thread nD τ) bd E)
  iapply (part4_spec 𝒱 c bd E i arg1 harg1 arg2 harg2 arg3 harg3 arg4 harg4 arg5 harg5 arg6 harg6 arg7 harg7
    arg8 harg8 arg9 harg9 arg10 harg10 hw1 h1 hT)
  isplitl [H]; · iexact H
  iintro %r4 H
  iapply (wp_seq 𝒱 (c : Thread nD τ) bd E)
  iapply (part5_spec 𝒱 c bd E i arg1 harg1 arg2 harg2 arg3 harg3 arg4 harg4 arg5 harg5 arg6 harg6 arg7 harg7
    arg8 harg8 arg9 harg9 arg10 harg10 hw1 h1 hT r4)
  isplitl [H]; · iexact H
  isplitl [H8]; · iexact H8
  isplitl [H5]; · iexact H5
  iintro H H8 H5
  iapply (wp_seq 𝒱 (c : Thread nD τ) bd E)
  rw [k1_part6_eq_skeleton]
  iapply (wp_done 𝒱 (c : Thread nD τ) bd E)
  iapply (wp_seq 𝒱 (c : Thread nD τ) bd E)
  rw [k1_part7_eq_skeleton]
  iapply (wp_done 𝒱 (c : Thread nD τ) bd E)
  unfold FetchSt
  icases H with ⟨H4, H7, H10⟩
  ihave H : (StoreSt c arg4 arg9 q4 T v1 v3 (chunkRes (fetched T Z v1 S 16) W B X) Y 0) $$ [H4 H9]
  · unfold StoreSt
    isplitl [H4]; · iexact H4
    iexact H9
  iapply (wp_seq 𝒱 (c : Thread nD τ) bd E)
  iapply (part8_spec 𝒱 c bd E i arg1 harg1 arg2 harg2 arg3 harg3 arg4 harg4 arg5 harg5 arg6 harg6 arg7 harg7
    arg8 harg8 arg9 harg9 arg10 harg10 hw1 h1 hT _)
  isplitl [H6]; · iexact H6
  isplitl [H]; · iexact H
  iintro %r8 %hr H6 H
  obtain ⟨v282, v307, v309, c0⟩ := r8
  obtain rfl : v282 = (chunkRes (fetched T Z v1 S 16) W B X) := hr
  iapply (wp_seq 𝒱 (c : Thread nD τ) bd E)
  iapply (part9_spec 𝒱 c bd E i arg1 harg1 arg2 harg2 arg3 harg3 arg4 harg4 arg5 harg5 arg6 harg6 arg7 harg7
    arg8 harg8 arg9 harg9 arg10 harg10 hw1 h1 hT _ v307 v309 c0)
  isplitl [H]; · iexact H
  iintro %r9 H
  iapply (store_step (hp := rfl) (pay := k1_pay1 (chunkRes (fetched T Z v1 S 16) W B X)) (R := (chunkRes (fetched T Z v1 S 16) W B X)) 𝒱 c bd E arg4 arg9 15 hT (k1_cond17 v1 v3 = 1#1) Iff.rfl (k1_off64_inb v1 v3 hw1 h1) (k1_chk33 v1 v3) (fun h2 v h => k1_off65_inb v1 v3 v h h1 h2) (out_ok hT 15) rfl rfl (show k1_pay1 (chunkRes (fetched T Z v1 S 16) W B X) = blkRow _ 15 from slice_row _ 15 (by decide) slices_S16x32_o15_0_S1x32))
  isplitl [H]; · iexact H
  iintro H
  iapply (wp_done 𝒱 (c : Thread nD τ) bd E)
  unfold StoreSt
  icases H with ⟨H4, H9⟩
  iapply Hk $$ H2 H3 H4 H5 H6 H7 H8 H9 [H10]
  iexists fetched T Z v1 S 16
  iexact H10

end Cert.KernelIdeal.Gen
-- ==== Proof.ChunkValue.lean ====
/-
  What the steps of the attention call leave of its result, entry by entry: a step writes the results of the places of its
  chunk that lie in the chunk's segment and leaves every other row alone, so after a number of steps the rows of the chunks
  done hold their results, and after the last step every row does.
-/
module

public import proofs.«01_k».proof.Proof.AttendStep
public import proofs.«01_k».proof.Proof.Routing
public import Idealize.ShloMosaic.Lib.Pointwise

@[expose] public section

noncomputable section

namespace Cert.KernelIdeal.Gen

open Idealize.ShloMosaic Idealize.ShloMosaic.TcCoe
open Cert.Routing

variable {F : FTy → Type} [FloatOps F]

/-- The sixteen rows a chunk fetches. -/
def gath (T : S2048.Idx → BitVec 32) (Z : S2048x64.Idx → F .f32) (v : BitVec 32) : S16x64.Idx → F .f32 := fun y =>
  matRow Z (permWord T v (y 0).val) (ix2 0 ⟨(y 1).val, (y 1).isLt⟩)

/-- After `n` fetches the first `n` rows are those of the table. -/
theorem fetched_at (T : S2048.Idx → BitVec 32) (Z : S2048x64.Idx → F .f32) (v : BitVec 32) (S : S16x64.Idx → F .f32) :
    ∀ (n : ℕ) (y : S16x64.Idx), (y 0).val < n → fetched T Z v S n y = gath T Z v y
  | 0, y, h => absurd h (by omega)
  | n + 1, y, h => by
    have h1 : (y 1).val < 64 := (y 1).isLt
    unfold fetched VecWindow.put
    by_cases he : (y 0).val = n
    · subst he
      rw [dif_pos (fun
        | 0 => by show (y 0).val ≤ (y 0).val ∧ (y 0).val < (y 0).val + 1; omega
        | 1 => by show 0 ≤ (y 1).val ∧ (y 1).val < 0 + 64; omega)]
      unfold gath
      refine congrArg (matRow Z _) (funext fun a => Fin.ext ?_)
      fin_cases a
      · show (y 0).val - (y 0).val = 0; omega
      · show (y 1).val - 0 = (y 1).val; omega
    · rw [dif_neg (fun hall => by
        have h0 : n ≤ (y 0).val ∧ (y 0).val < n + 1 := hall 0
        omega)]
      exact fetched_at T Z v S n y (by omega)

/-- All sixteen rows fetched. -/
theorem fetched_all (T : S2048.Idx → BitVec 32) (Z : S2048x64.Idx → F .f32) (v : BitVec 32) (S : S16x64.Idx → F .f32) :
    fetched T Z v S 16 = gath T Z v :=
  funext fun y => fetched_at T Z v S 16 y (y 0).isLt

/-- The kernel's comparison of a row with the segment's end, in naturals. -/
theorem rowCond_iff (v e : BitVec 32) (n : ℕ) (hv : v.toNat < 2 ^ 20) (he : e.toNat < 2 ^ 20) (hn : n < 16) :
    rowCond v e n = 1#1 ↔ v.toNat + n < e.toNat := by
  have h1 : (v + BitVec.ofNat 32 n).toNat = v.toNat + n := by
    rw [BitVec.toNat_add, BitVec.toNat_ofNat]; omega
  have h2 : (v + BitVec.ofNat 32 n).slt e = decide (v.toNat + n < e.toNat) := by
    rw [BitVec.slt, BitVec.toInt_eq_toNat_of_lt (by omega), BitVec.toInt_eq_toNat_of_lt (by omega), h1]
    simp only [Nat.cast_lt]
  have h3 : rowCond v e n = if v.toNat + n < e.toNat then 1#1 else 0#1 := by
    show Scalar.cmpi .ne (Scalar.extui (BitVec.ofBool ((v + BitVec.ofNat 32 n).slt e))) 0#32 = _
    rw [h2]
    by_cases h : v.toNat + n < e.toNat <;> simp only [h, decide_true, decide_false, if_true, if_false] <;> decide
  rw [h3]
  by_cases h : v.toNat + n < e.toNat <;> simp [h]

/-- The kernel's test of a segment's end, in naturals. -/
theorem cond1_iff (e : BitVec 32) (he : e.toNat < 2 ^ 20) : k1_cond1 e = 1#1 ↔ 0 < e.toNat := by
  have h2 : (0#32).slt e = decide (0 < e.toNat) := by
    rw [BitVec.slt, BitVec.toInt_eq_toNat_of_lt (by decide), BitVec.toInt_eq_toNat_of_lt (by omega)]
    simp
  have h3 : k1_cond1 e = if 0 < e.toNat then 1#1 else 0#1 := by
    show Scalar.cmpi .ne (Scalar.extui (BitVec.ofBool ((0#32).slt e))) 0#32 = _
    rw [h2]
    by_cases h : 0 < e.toNat <;> simp only [h, decide_true, decide_false, if_true, if_false] <;> decide
  rw [h3]
  by_cases h : 0 < e.toNat <;> simp [h]

section

variable {T : S2048.Idx → BitVec 32} {v e : BitVec 32} {p : Fin 2048 → Fin 2048}

/-- The word a row of a chunk names. -/
theorem permWord_toNat (hT : ∀ r : Fin 2048, (tabAt T r.val).toNat = (p r).val) (hv : v.toNat < 2 ^ 20) {n : ℕ} (hn : n < 16) :
    (permWord T v n).toNat = (p ⟨min (v.toNat + n) 2047, by omega⟩).val := by
  unfold permWord
  rw [rowWord_eq v n hv hn]
  exact hT ⟨min (v.toNat + n) 2047, by omega⟩

/-- After `n` stores the row of a place holds its result if the place is one of the chunk's first `n` inside the segment, and
    what it held otherwise. -/
theorem stored_at (hT : ∀ r : Fin 2048, (tabAt T r.val).toNat = (p r).val) (hp : Function.Injective p) (hv : v.toNat < 2 ^ 20) (he : e.toNat ≤ 2048)
    (R : S16x32.Idx → F .f32) (Y : S2048x32.Idx → F .f32) (r : Fin 2048) (d : Fin 32) :
    ∀ n : ℕ, n ≤ 16 → stored T v e R Y n (ix2 (p r) d)
      = if v.toNat ≤ r.val ∧ r.val < v.toNat + n ∧ r.val < e.toNat then R (ix2 ⟨(r.val - v.toNat) % 16, Nat.mod_lt _ (by decide)⟩ d) else Y (ix2 (p r) d)
  | 0, _ => by rw [if_neg (by omega)]; rfl
  | n + 1, hn => by
    have ih := stored_at hT hp hv he R Y r d n (by omega)
    have hw := permWord_toNat hT hv (n := n) (by omega)
    unfold stored
    by_cases hc : rowCond v e n = 1#1
    · have hlt := (rowCond_iff v e n hv (by omega) (by omega)).mp hc
      have hmin : min (v.toNat + n) 2047 = v.toNat + n := by omega
      rw [if_pos hc]
      unfold VecWindow.put
      by_cases hr : r.val = v.toNat + n
      · have hpr : (permWord T v n).toNat = (p r).val := by
          rw [hw]; exact congrArg (fun x => (p x).val) (Fin.ext (by show min (v.toNat + n) 2047 = r.val; omega))
        rw [dif_pos (fun
          | 0 => by show (permWord T v n).toNat ≤ (p r).val ∧ (p r).val < (permWord T v n).toNat + 1; omega
          | 1 => by show 0 ≤ d.val ∧ d.val < 0 + 32; omega), if_pos (by omega)]
        refine congrArg R (funext fun a => Fin.ext ?_)
        fin_cases a
        · show n % 16 = (r.val - v.toNat) % 16; omega
        · show d.val - 0 = d.val; omega
      · rw [dif_neg (fun hall => by
          have h0 : (permWord T v n).toNat ≤ (p r).val ∧ (p r).val < (permWord T v n).toNat + 1 := hall 0
          have h1 : p r = p ⟨min (v.toNat + n) 2047, by omega⟩ := Fin.ext (by omega)
          have h2 : r.val = min (v.toNat + n) 2047 := congrArg Fin.val (hp h1)
          omega), ih]
        by_cases hb : v.toNat ≤ r.val ∧ r.val < v.toNat + n ∧ r.val < e.toNat
        · rw [if_pos hb, if_pos (by omega)]
        · rw [if_neg hb, if_neg (by omega)]
    · have hge : ¬ v.toNat + n < e.toNat := fun h => hc ((rowCond_iff v e n hv (by omega) (by omega)).mpr h)
      rw [if_neg hc, ih]
      by_cases hb : v.toNat ≤ r.val ∧ r.val < v.toNat + n ∧ r.val < e.toNat
      · rw [if_pos hb, if_pos (by omega)]
      · rw [if_neg hb, if_neg (by omega)]

/-- What a step leaves in the row of a place. -/
theorem attendStep_at (hT : ∀ r : Fin 2048, (tabAt T r.val).toNat = (p r).val) (hp : Function.Injective p) (hv : v.toNat < 2 ^ 20) (he : e.toNat ≤ 2048)
    (Z : S2048x64.Idx → F .f32) (S : S16x64.Idx → F .f32) (W : S1x64.Idx → F .bf16) (B : S1x64x2048.Idx → F .bf16) (X : S1x2048x32.Idx → F .f32)
    (Y : S2048x32.Idx → F .f32) (r : Fin 2048) (d : Fin 32) :
    attendStep T v e Z S W B X Y (ix2 (p r) d)
      = if v.toNat ≤ r.val ∧ r.val < v.toNat + 16 ∧ r.val < e.toNat then chunkRes (gath T Z v) W B X (ix2 ⟨(r.val - v.toNat) % 16, Nat.mod_lt _ (by decide)⟩ d)
        else Y (ix2 (p r) d) := by
  unfold attendStep
  by_cases hc : k1_cond1 e = 1#1
  · rw [if_pos hc, fetched_all]
    exact stored_at hT hp hv he _ Y r d 16 le_rfl
  · have hz : ¬ 0 < e.toNat := fun h => hc ((cond1_iff e (by omega)).mpr h)
    rw [if_neg hc, if_neg (by omega)]

end

section

variable (σ : Fin 2048 → ℕ)

/-- The chunk of a place. -/
def chunkOf (r : Fin 2048) : ℕ := Classical.epsilon fun t : ℕ => t < 192 ∧ row0 σ t ≤ r.val ∧ r.val < row0 σ t + 16 ∧ r.val < hi σ t

theorem chunkOf_spec (hσ : ∀ a, σ a < 64) (r : Fin 2048) :
    chunkOf σ r < 192 ∧ row0 σ (chunkOf σ r) ≤ r.val ∧ r.val < row0 σ (chunkOf σ r) + 16 ∧ r.val < hi σ (chunkOf σ r) := by
  obtain ⟨t, ht, i, hi', h1, h2⟩ := chunk_of_place σ hσ r
  exact Classical.epsilon_spec (p := fun t : ℕ => t < 192 ∧ row0 σ t ≤ r.val ∧ r.val < row0 σ t + 16 ∧ r.val < hi σ t) ⟨t, ht, by omega, by omega, h2⟩

/-- A place that a chunk holds is in that chunk. -/
theorem chunkOf_eq (hσ : ∀ a, σ a < 64) {r : Fin 2048} {t : ℕ} (h1 : row0 σ t ≤ r.val) (h2 : r.val < row0 σ t + 16) (h3 : r.val < hi σ t) : chunkOf σ r = t := by
  obtain ⟨-, g1, g2, g3⟩ := chunkOf_spec σ hσ r
  exact chunk_unique σ g1 g2 g3 h1 h2 h3

/-- The chunk of a place belongs to the scene of the point at the place. -/
theorem sfor_chunkOf (hσ : ∀ a, σ a < 64) (r : Fin 2048) : sfor σ (chunkOf σ r) = σ (perm σ r) := by
  obtain ⟨-, g1, -, g3⟩ := chunkOf_spec σ hσ r
  obtain ⟨_, e⟩ := scene_of_chunk σ g1 g3
  exact e.symm

/-- The result of chunk `t` for a place of it. -/
def placeRes (R : ℕ → S16x32.Idx → F .f32) (t : ℕ) (r : Fin 2048) (d : Fin 32) : F .f32 :=
  R t (ix2 ⟨(r.val - row0 σ t) % 16, Nat.mod_lt _ (by decide)⟩ d)

/-- The rows of the chunks done so far hold their results. -/
def Done (R : ℕ → S16x32.Idx → F .f32) (n : ℕ) (X : S2048x32.Idx → F .f32) : Prop :=
  ∀ r : Fin 2048, chunkOf σ r < n → ∀ d : Fin 32,
    X (ix2 (perm σ r) d) = placeRes σ R (chunkOf σ r) r d

/-- The result once every chunk is done. -/
def attended (R : ℕ → S16x32.Idx → F .f32) : S2048x32.Idx → F .f32 := fun y =>
  placeRes σ R (chunkOf σ ⟨pos σ (y 0), pos_lt σ (y 0)⟩) ⟨pos σ (y 0), pos_lt σ (y 0)⟩ ⟨(y 1).val, (y 1).isLt⟩

theorem Done.zero (R : ℕ → S16x32.Idx → F .f32) (X : S2048x32.Idx → F .f32) : Done σ R 0 X := fun _ h => absurd h (by omega)

theorem attended_at (R : ℕ → S16x32.Idx → F .f32) (r : Fin 2048) (d : Fin 32) :
    attended σ R (ix2 (perm σ r) d) = placeRes σ R (chunkOf σ r) r d := by
  have hp : (⟨pos σ (perm σ r), pos_lt σ (perm σ r)⟩ : Fin 2048) = r := Fin.ext (pos_perm σ r)
  exact congrArg (fun x : Fin 2048 => placeRes σ R (chunkOf σ x) x d) hp

theorem Done.all (hσ : ∀ a, σ a < 64) {R : ℕ → S16x32.Idx → F .f32} {X : S2048x32.Idx → F .f32} (h : Done σ R 192 X) : X = attended σ R := by
  have key : ∀ (r : Fin 2048) (d : Fin 32), X (ix2 (perm σ r) d) = attended σ R (ix2 (perm σ r) d) := fun r d =>
    (h r (chunkOf_spec σ hσ r).1 d).trans (attended_at σ R r d).symm
  funext y
  obtain ⟨r, hr⟩ := perm_surj σ (y 0)
  have hy : y = ix2 (perm σ r) ⟨(y 1).val, (y 1).isLt⟩ := by
    rw [hr]; exact funext fun a => by fin_cases a <;> rfl
  exact (congrArg X hy).trans ((key r _).trans (congrArg (attended σ R) hy.symm))

/-- One more step does one more chunk. -/
theorem Done.step (hσ : ∀ a, σ a < 64) {R : ℕ → S16x32.Idx → F .f32} {n : ℕ} {T : S2048.Idx → BitVec 32} {v e : BitVec 32} (hn : n < 192)
    (hT : ∀ r : Fin 2048, (tabAt T r.val).toNat = (perm σ r).val) (hv : v.toNat = row0 σ n) (he : e.toNat = hi σ n)
    {Z : S2048x64.Idx → F .f32} {S : S16x64.Idx → F .f32} {W : S1x64.Idx → F .bf16} {B : S1x64x2048.Idx → F .bf16} {X : S1x2048x32.Idx → F .f32}
    {Y : S2048x32.Idx → F .f32} (hR : R n = chunkRes (gath T Z v) W B X) (h : Done σ R n Y) : Done σ R (n + 1) (attendStep T v e Z S W B X Y) := by
  intro r hr d
  have hv' := row0_lt σ n hn
  have he' := hi_le σ n
  have hv2 : v.toNat < 2 ^ 20 := by rw [hv]; exact hv'.trans (by decide)
  have he2 : e.toNat ≤ 2048 := by rw [he]; exact he'
  refine (attendStep_at hT (perm_inj σ) hv2 he2 Z S W B X Y r d).trans ?_
  rw [hv, he]
  by_cases hc : row0 σ n ≤ r.val ∧ r.val < row0 σ n + 16 ∧ r.val < hi σ n
  · have hk : chunkOf σ r = n := chunkOf_eq σ hσ hc.1 hc.2.1 hc.2.2
    refine (if_pos hc).trans (Eq.trans ?_ (congrArg (fun t => placeRes σ R t r d) hk.symm))
    exact congrFun hR.symm _
  · refine (if_neg hc).trans ?_
    refine h r (Nat.lt_of_le_of_ne (by omega) fun e => hc ?_) d
    obtain ⟨-, g⟩ := chunkOf_spec σ hσ r
    rwa [e] at g

end

end Cert.KernelIdeal.Gen

end
-- ==== Proof.Region1.lean ====
/-
  The second call's region: the routing tables name a block of the arrays at every grid point, and what the windows hold
  there. The result's window is held to having every chunk done so far; the others are named.
-/
module

public import proofs.«01_k».proof.Proof.AttendBody
public import proofs.«01_k».proof.Proof.ChunkValue
public import proofs.«01_k».proof.Proof.RelRegion
public import proofs.«01_k».proof.Proof.Gen.KernelIdeal.Launch
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Cert.Routing

variable {F : FTy → Type} [FloatOps F]

variable {U : Type} [URA U]

local notation "𝕄" => MT nD τ sig Unit (Elt F) ℕ U ℕ

/-- The four tables the call prefetches. -/
abbrev sforOf (V : Valuation τ sig (Elt F)) : S192.Idx → BitVec 32 := V main_v6
abbrev row0Of (V : Valuation τ sig (Elt F)) : S192.Idx → BitVec 32 := V main_v7
abbrev hiOf (V : Valuation τ sig (Elt F)) : S192.Idx → BitVec 32 := V main_v8
abbrev permOf (V : Valuation τ sig (Elt F)) : S2048.Idx → BitVec 32 := V main_v9

/-- The tables hold the plan of the points sorted by the scenes `σ`. -/
structure Routed (V : Valuation τ sig (Elt F)) (σ : Fin 2048 → ℕ) : Prop where
  lt : ∀ a, σ a < 64
  sfor : ∀ t < 192, (tabAt192 (sforOf V) t).toNat = sfor σ t
  row0 : ∀ t < 192, (tabAt192 (row0Of V) t).toNat = row0 σ t
  hi : ∀ t < 192, (tabAt192 (hiOf V) t).toNat = hi σ t
  perm : ∀ r : Fin 2048, (tabAt (permOf V) r.val).toNat = (perm σ r).val

/-- The tables' contents. -/
abbrev tabs (V : Valuation τ sig (Elt F)) : (pre1 : Prefetch sig).Contents (Elt F) := fun k => V (Proc.devRef .tc (pre1.ref k))

/-- The block of the arrays a grid point takes. -/
theorem transform0_eq (V : Valuation τ sig (Elt F)) (i : grid1.Coords) :
    cc1_transform_0 k1_off1_inb numel1_S1 (tabs V) i = ![(tabAt192 (sforOf V) (i 0).val).toNat, 0, 0] := by
  have hi : (i 0).val < 192 := (i 0).isLt
  have h : (tabs V).at 0 (Rect.unit (s := S192) ![(Scalar.indexCast (BitVec.ofNat 32 (i 0).val) : Index).toNat] S1.size (k1_off1_inb i)) numel1_S1 = tabAt192 (sforOf V) (i 0).val := by
    refine congrArg (sforOf V) (funext fun a => Fin.ext ?_)
    fin_cases a
    show (BitVec.ofNat 32 (i 0).val).toNat + 1 * 0 = (i 0).val % 192
    rw [BitVec.toNat_ofNat]
    omega
  unfold cc1_transform_0
  dsimp only
  rw [h]
  rfl

theorem transform1_eq (V : Valuation τ sig (Elt F)) (i : grid1.Coords) :
    cc1_transform_1 k1_off1_inb numel1_S1 (tabs V) i = ![(tabAt192 (sforOf V) (i 0).val).toNat, 0, 0] :=
  (show cc1_transform_1 k1_off1_inb numel1_S1 (tabs V) i = cc1_transform_0 k1_off1_inb numel1_S1 (tabs V) i from rfl).trans (transform0_eq V i)

/-- Every block lies in its array. -/
theorem ok_of_routed {V : Valuation τ sig (Elt F)} {σ : Fin 2048 → ℕ} (hV : Routed V σ) : (pcfg1 (F := F)).ok (tabs V) := by
  show ok1 (tabs V)
  have hlt : ∀ i : grid1.Coords, (tabAt192 (sforOf V) (i 0).val).toNat < 64 := fun i => by
    rw [hV.sfor _ (i 0).isLt]; exact sfor_lt σ _
  unfold ok1
  constructor
  · intro i
    rw [transform0_eq]
    refine ⟨fun a => ?_, .inr (.inr ⟨by decide, rfl, ?_, rfl⟩)⟩
    · have := hlt i
      fin_cases a
      · show ((tabAt192 (sforOf V) (i 0).val).toNat + 1) * 1 ≤ 64; omega
      · show (0 + 1) * 64 ≤ 64; omega
      · show (0 + 1) * 2048 ≤ 2048; omega
    · rfl
  · intro i
    rw [transform1_eq]
    refine ⟨fun a => ?_, .inl rfl⟩
    have := hlt i
    fin_cases a
    · show ((tabAt192 (sforOf V) (i 0).val).toNat + 1) * 1 ≤ 64; omega
    · show (0 + 1) * 2048 ≤ 2048; omega
    · show (0 + 1) * 32 ≤ 32; omega

/-- The tables as contents the call admits. -/
abbrev admOf {V : Valuation τ sig (Elt F)} {σ : Fin 2048 → ℕ} (hV : Routed V σ) : (pcfg1 (F := F)).Adm := ⟨tabs V, ok_of_routed hV⟩

/-- The first-layer block and the features of a scene. -/
def zBlock (V : Valuation τ sig (Elt F)) (n : ℕ) : S1x64x2048.Idx → F .bf16 := fun y =>
  (V main_v4_0 : S64x64x2048.Idx → F .bf16) (ix3 ⟨n % 64, Nat.mod_lt _ (by decide)⟩ ⟨(y 1).val, (y 1).isLt⟩ ⟨(y 2).val, (y 2).isLt⟩)
def xBlock (V : Valuation τ sig (Elt F)) (n : ℕ) : S1x2048x32.Idx → F .f32 := fun y =>
  (V main_arg0 : S64x2048x32.Idx → F .f32) (ix3 ⟨n % 64, Nat.mod_lt _ (by decide)⟩ ⟨(y 1).val, (y 1).isLt⟩ ⟨(y 2).val, (y 2).isLt⟩)

/-- The second-layer rows and the weight row. -/
abbrev zRows (V : Valuation τ sig (Elt F)) : S2048x64.Idx → F .f32 := V main_v5
abbrev wRow (V : Valuation τ sig (Elt F)) : S1x64.Idx → F .bf16 := V main_v11

/-- The results of chunk `t`. -/
def chunkAt (V : Valuation τ sig (Elt F)) (σ : Fin 2048 → ℕ) (t : ℕ) : S16x32.Idx → F .f32 :=
  chunkRes (gath (permOf V) (zRows V) (tabAt192 (row0Of V) t)) (wRow V) (zBlock V (sfor σ t)) (xBlock V (sfor σ t))

/-- The block of a window at a grid point, of the contents at entry. -/
abbrev blk1 {V : Valuation τ sig (Elt F)} {σ : Fin 2048 → ℕ} (hV : Routed V σ) (w : Fin 5) (t : Fin (cfg1 (admOf hV)).N) :
    (((cfg1 (admOf hV)).win w).xblock ((cfg1 (admOf hV)).grid.coords t)).Idx → Elt F ((cfg1 (admOf hV)).win w).elt :=
  (((cfg1 (admOf hV)).win w).blk t).view.read (Elt F) (V (Proc.devRef .tc (arrRef spec1 w)))

/-- What each window's buffer holds after the body, the result's at the end. -/
def after1 {V : Valuation τ sig (Elt F)} {σ : Fin 2048 → ℕ} (hV : Routed V σ) : (w : Fin 5) → (t : Fin (cfg1 (admOf hV)).N) → ((cfg1 (admOf hV)).win w).block.Idx → Elt F ((cfg1 (admOf hV)).win w).elt
  | ⟨0, _⟩, t => blk1 hV 0 t
  | ⟨1, _⟩, t => blk1 hV 1 t
  | ⟨2, _⟩, t => blk1 hV 2 t
  | ⟨3, _⟩, t => blk1 hV 3 t
  | ⟨4, _⟩, _ => attended σ (chunkAt V σ)
  | ⟨n + 5, h⟩, _ => absurd h (by omega)

/-- The window held to a predicate: the result's. -/
abbrev fg1 : Fin 5 → Bool
  | ⟨0, _⟩ => false | ⟨1, _⟩ => false | ⟨2, _⟩ => false | ⟨3, _⟩ => false | _ => true

/-- The predicate: every chunk so far is done. -/
def Rl1 {V : Valuation τ sig (Elt F)} {σ : Fin 2048 → ℕ} (hV : Routed V σ) : (w : Fin 5) → (t : Fin (cfg1 (admOf hV)).N) → (((cfg1 (admOf hV)).win w).block.Idx → Elt F ((cfg1 (admOf hV)).win w).elt) → Prop
  | ⟨0, _⟩, _, _ => True
  | ⟨1, _⟩, _, _ => True
  | ⟨2, _⟩, _, _ => True
  | ⟨3, _⟩, _, _ => True
  | ⟨4, _⟩, t, X => Done σ (chunkAt V σ) (t.val + 1) X
  | ⟨n + 5, h⟩, _, _ => absurd h (by omega)

variable {V : Valuation τ sig (Elt F)} {σ : Fin 2048 → ℕ} (hV : Routed V σ) (c : Dev nD)

/-- The region's proof data, entered at contents `V`. -/
def dat1 (Φ : sProp 𝕄) : Dat τ (Elt F) Unit ℕ U ℕ (cfg1 (admOf hV)) c where
  A w := V (Proc.devRef .tc (arrRef spec1 w))
  after := after1 hV
  Φ _ := Φ
  owed _ := 0
  q _ := fullShare

theorem coords1 (t : Fin grid1.N) : (grid1.coords t 0).val = t.val := by
  revert t; decide +kernel

theorem blk1_0 (t : Fin (cfg1 (admOf hV)).N) : blk1 hV 0 t = zBlock V (sfor σ t.val) := by
  have ht : t.val < 192 := t.isLt
  have h0 := sfor_lt σ t.val
  have hc : (grid1.coords t 0).val = t.val := coords1 t
  have hix : cc1_transform_0 k1_off1_inb numel1_S1 (tabs V) (grid1.coords t) = ![sfor σ t.val, 0, 0] := by
    rw [transform0_eq, hc, hV.sfor _ ht]
  generalize sfor σ t.val = n at h0 hix ⊢
  have e0 : cc1_transform_0 k1_off1_inb numel1_S1 (tabs V) (grid1.coords t) 0 = n := congrFun hix 0
  have e1 : cc1_transform_0 k1_off1_inb numel1_S1 (tabs V) (grid1.coords t) 1 = 0 := congrFun hix 1
  have e2 : cc1_transform_0 k1_off1_inb numel1_S1 (tabs V) (grid1.coords t) 2 = 0 := congrFun hix 2
  funext j
  refine congrArg (V main_v4_0 : S64x64x2048.Idx → F .bf16) (funext fun a => Fin.ext ?_)
  have hj : (j (0 : Fin 3)).val < 1 := (j 0).isLt
  fin_cases a
  · show cc1_transform_0 k1_off1_inb numel1_S1 (tabs V) (grid1.coords t) 0 * 1 + 1 * (j 0).val = n % 64
    omega
  · show cc1_transform_0 k1_off1_inb numel1_S1 (tabs V) (grid1.coords t) 1 * 64 + 1 * (j 1).val = (j 1).val
    omega
  · show cc1_transform_0 k1_off1_inb numel1_S1 (tabs V) (grid1.coords t) 2 * 2048 + 1 * (j 2).val = (j 2).val
    omega

theorem blk1_1 (t : Fin (cfg1 (admOf hV)).N) : blk1 hV 1 t = xBlock V (sfor σ t.val) := by
  have ht : t.val < 192 := t.isLt
  have h0 := sfor_lt σ t.val
  have hc : (grid1.coords t 0).val = t.val := coords1 t
  have hix : cc1_transform_1 k1_off1_inb numel1_S1 (tabs V) (grid1.coords t) = ![sfor σ t.val, 0, 0] := by
    rw [transform1_eq, hc, hV.sfor _ ht]
  generalize sfor σ t.val = n at h0 hix ⊢
  have e0 : cc1_transform_1 k1_off1_inb numel1_S1 (tabs V) (grid1.coords t) 0 = n := congrFun hix 0
  have e1 : cc1_transform_1 k1_off1_inb numel1_S1 (tabs V) (grid1.coords t) 1 = 0 := congrFun hix 1
  have e2 : cc1_transform_1 k1_off1_inb numel1_S1 (tabs V) (grid1.coords t) 2 = 0 := congrFun hix 2
  funext j
  refine congrArg (V main_arg0 : S64x2048x32.Idx → F .f32) (funext fun a => Fin.ext ?_)
  have hj : (j (0 : Fin 3)).val < 1 := (j 0).isLt
  fin_cases a
  · show cc1_transform_1 k1_off1_inb numel1_S1 (tabs V) (grid1.coords t) 0 * 1 + 1 * (j 0).val = n % 64
    omega
  · show cc1_transform_1 k1_off1_inb numel1_S1 (tabs V) (grid1.coords t) 1 * 2048 + 1 * (j 1).val = (j 1).val
    omega
  · show cc1_transform_1 k1_off1_inb numel1_S1 (tabs V) (grid1.coords t) 2 * 32 + 1 * (j 2).val = (j 2).val
    omega

theorem blk1_2 (t : Fin (cfg1 (admOf hV)).N) : blk1 hV 2 t = zRows V := by
  funext j
  refine congrArg (zRows V) (funext fun a => Fin.ext ?_)
  fin_cases a
  · show 0 * 2048 + 1 * (j 0).val = (j 0).val; omega
  · show 0 * 64 + 1 * (j 1).val = (j 1).val; omega

theorem blk1_3 (t : Fin (cfg1 (admOf hV)).N) : blk1 hV 3 t = wRow V := by
  funext j
  refine congrArg (wRow V) (funext fun a => Fin.ext ?_)
  fin_cases a
  · show 0 * 1 + 1 * (j 0).val = (j 0).val; omega
  · show 0 * 64 + 1 * (j 1).val = (j 1).val; omega

/-- The result's window is written back at the last point only. -/
theorem flush1_4 (t : Fin (cfg1 (admOf hV)).N) : ((cfg1 (admOf hV)).win 4).flush t = true ↔ t.val % 192 = 191 :=
  Pipeline.Window.flush_const ((cfg1 (admOf hV)).win 4) rfl (fun _ _ => rfl) (n := 192) (show grid1.N = 192 from by decide +kernel) rfl t

/-- What the body finds in the result's window has every earlier chunk done. -/
theorem found1 (Φ : sProp 𝕄) (t : Fin (cfg1 (admOf hV)).N) (Y : S2048x32.Idx → F .f32) (hY : ((dat1 hV c Φ).toRRel fg1 (Rl1 hV)).Finds 4 t Y) :
    Done σ (chunkAt V σ) t.val Y := by
  have h2 : t.val < 192 := t.isLt
  by_cases ht : t.val = 0
  · rw [ht]; exact Done.zero σ _ _
  rcases (((dat1 hV c Φ).toRRel fg1 (Rl1 hV)).finds_of_pos (w := (4 : Fin 5)) (t := t) rfl ht Y).mp hY with hf | hL
  · have h1 := (flush1_4 hV _).mp hf
    have h3 : (t.val - 1) % 192 = 191 := h1
    omega
  · have hR : Done σ (chunkAt V σ) (t.val - 1 + 1) Y := (dat1 hV c Φ).toRRel_leaves (w := 4) rfl hL
    rwa [Nat.sub_add_cancel (Nat.one_le_iff_ne_zero.mpr ht)] at hR

/-- What the body keeps beside the windows: the scoped buffers no window stages, and the tables. -/
abbrev keeps1 (V : Valuation τ sig (Elt F)) (c : Dev nD) : sProp 𝕄 :=
  iprop(Pipeline.scopedRest (Ix := Unit) (Name := ℕ) (U := U) (Lvl := ℕ) (Val := Elt F) spec1 c ∗ prefHeld pre1 c (fun _ => fullShare) (tabs V))

/-- The tables, one by one. -/
theorem tables_eq (V : Valuation τ sig (Elt F)) (c : Dev nD) :
    (prefHeld pre1 c (fun _ => fullShare) (tabs V) : sProp 𝕄)
      = iprop((((c : Thread nD τ).loc main_v6) ↦{fullShare} V main_v6) ∗ (((c : Thread nD τ).loc main_v7) ↦{fullShare} V main_v7)
        ∗ (((c : Thread nD τ).loc main_v8) ↦{fullShare} V main_v8) ∗ (((c : Thread nD τ).loc main_v9) ↦{fullShare} V main_v9)) := by
  unfold prefHeld
  exact bigSep_univ_eq_bigSepL [(0 : Fin 4), (1 : Fin 4), (2 : Fin 4), (3 : Fin 4)] (by decide) (by decide) _

/-- A table word is a point. -/
theorem perm_lt (hV : Routed V σ) (j : S2048.Idx) : (permOf V j).toNat < 2048 := by
  have h := hV.perm (j 0)
  have e : tabAt (permOf V) (j 0).val = permOf V j := congrArg (permOf V) (funext fun a => Fin.ext (by
    fin_cases a
    exact Nat.mod_eq_of_lt (j 0).isLt))
  rw [e] at h
  rw [h]
  exact (perm σ (j 0)).isLt

/-- The buffers no window stages: the scratch and the others. -/
theorem rest_open (c : Dev nD) : ∃ P : sProp 𝕄,
    (Pipeline.scopedRest (Ix := Unit) (Name := ℕ) (U := U) (Lvl := ℕ) (Val := Elt F) spec1 c : sProp 𝕄)
      = iprop(P ∗ ∃ f : Buf (Elt F) ((c : Thread nD τ).loc cc1_scratch0), ((c : Thread nD τ).loc cc1_scratch0) ↦{fullShare} f) := by
  rw [scopedRest1_eq]
  have regroup : ∀ A B C : sProp 𝕄, iprop(A ∗ B ∗ C) = iprop((A ∗ B) ∗ C) := fun _ _ _ => equiv_iff.mp ⟨Idealize.SL.BI.sep_assoc', Idealize.SL.BI.sep_assoc⟩
  simp only [regroup]
  exact ⟨_, rfl⟩

include hV in
/-- One chunk more is done. -/
theorem done1 (t : ℕ) (ht : t < 192) {n : ℕ} (hn : n = t) (S : S16x64.Idx → F .f32) {B : S1x64x2048.Idx → F .bf16} {X : S1x2048x32.Idx → F .f32} {Z : S2048x64.Idx → F .f32} {W : S1x64.Idx → F .bf16}
    (hB : B = zBlock V (sfor σ t)) (hX : X = xBlock V (sfor σ t)) (hZ : Z = zRows V) (hW : W = wRow V) {Y : S2048x32.Idx → F .f32}
    (hY : Done σ (chunkAt V σ) t Y) :
    Done σ (chunkAt V σ) (t + 1) (attendStep (permOf V) (tabAt192 (row0Of V) n) (tabAt192 (hiOf V) n) Z S W B X Y) := by
  subst hn hB hX hZ hW
  exact Done.step σ hV.lt ht hV.perm (hV.row0 _ ht) (hV.hi _ ht) rfl hY

set_option maxHeartbeats 8000000 in
/-- The body's triple at every grid point. -/
theorem body1 (Φ : sProp 𝕄) (hk : Φ = keeps1 (U := U) V c) (𝒱 : Variants) (E : Set ℕ) :
    BodyObligationRel (dat1 hV c Φ) (defs₀ (F := F)) 𝒱 () E fg1 (Rl1 hV) := by
  intro t
  have ht : t.val < 192 := t.isLt
  have hc : (grid1.coords t 0).val = t.val := coords1 t
  have e0 : ∀ d, (dat1 hV c Φ).before 0 t d = zBlock V (sfor σ t.val) := fun d => ((dat1 hV c Φ).before_in_eq_fetched 0 rfl (fun _ => rfl) (fun _ _ _ => rfl) (fun _ => rfl) t d).trans (blk1_0 hV t)
  have e1 : ∀ d, (dat1 hV c Φ).before 1 t d = xBlock V (sfor σ t.val) := fun d => ((dat1 hV c Φ).before_in_eq_fetched 1 rfl (fun _ => rfl) (fun _ _ _ => rfl) (fun _ => rfl) t d).trans (blk1_1 hV t)
  have e2 : ∀ d, (dat1 hV c Φ).before 2 t d = zRows V := fun d => ((dat1 hV c Φ).before_in_eq_fetched 2 rfl (fun _ => rfl) (fun _ _ _ => rfl) (fun _ => rfl) t d).trans (blk1_2 hV t)
  have e3 : ∀ d, (dat1 hV c Φ).before 3 t d = wRow V := fun d => ((dat1 hV c Φ).before_in_eq_fetched 3 rfl (fun _ => rfl) (fun _ _ _ => rfl) (fun _ => rfl) t d).trans (blk1_3 hV t)
  have a0 : (dat1 hV c Φ).after 0 t = zBlock V (sfor σ t.val) := blk1_0 hV t
  have a1 : (dat1 hV c Φ).after 1 t = xBlock V (sfor σ t.val) := blk1_1 hV t
  have a2 : (dat1 hV c Φ).after 2 t = zRows V := blk1_2 hV t
  have a3 : (dat1 hV c Φ).after 3 t = wRow V := blk1_3 hV t
  have hΦ : ∀ u, (dat1 hV c Φ).Φ u = Φ := fun _ => rfl
  have f0 : fg1 0 = false := rfl
  have f1 : fg1 1 = false := rfl
  have f2 : fg1 2 = false := rfl
  have f3 : fg1 3 = false := rfl
  have f4 : fg1 4 = true := rfl
  obtain ⟨P, hP⟩ := rest_open (F := F) (U := U) c
  have hk1 : Φ = iprop((P ∗ ∃ f : Buf (Elt F) ((c : Thread nD τ).loc cc1_scratch0), ((c : Thread nD τ).loc cc1_scratch0) ↦{fullShare} f)
      ∗ (((c : Thread nD τ).loc main_v6) ↦{fullShare} V main_v6) ∗ (((c : Thread nD τ).loc main_v7) ↦{fullShare} V main_v7)
        ∗ (((c : Thread nD τ).loc main_v8) ↦{fullShare} V main_v8) ∗ (((c : Thread nD τ).loc main_v9) ↦{fullShare} V main_v9)) := by
    rw [hk, ← tables_eq, ← hP]
  rw [bigSep_W1, bigSep_W1]
  simp only [f0, f1, f2, f3, f4, a0, a1, a2, a3, hΦ]
  iintro ⟨HK, HO, ⟨%d0, H0⟩, ⟨%d1, H1⟩, ⟨%d2, H2⟩, ⟨%d3, H3⟩, ⟨%Y, %hY, H4⟩⟩
  ihave HK := (Entails.of_eq hk1) $$ HK
  icases HK with ⟨⟨HP, ⟨%S, HS⟩⟩, T6, T7, T8, T9⟩
  iapply (attend_spec (T := permOf V) (T2 := row0Of V) (T3 := hiOf V) (Z := zRows V) (S := S) (W := wRow V) (B := zBlock V (sfor σ t.val)) (X := xBlock V (sfor σ t.val)) (Y := Y)
    (v1 := tabAt192 (row0Of V) (grid1.coords t 0).val) (v3 := tabAt192 (hiOf V) (grid1.coords t 0).val)
    𝒱 c none E (grid1.coords t) (Memref.whole main_v6) (Memref.isWhole_whole _) (Memref.whole main_v7) (Memref.isWhole_whole _)
    (Memref.whole main_v8) (Memref.isWhole_whole _) (Memref.whole main_v9) (Memref.isWhole_whole _)
    (spec1_0.stage ((cfg1 (admOf hV)).slots t 0)) (hstage1_0 (((cfg1 (admOf hV)).slots t 0).cast nbuf1_0)) (spec1_1.stage ((cfg1 (admOf hV)).slots t 1)) (hstage1_1 (((cfg1 (admOf hV)).slots t 1).cast nbuf1_1))
    (spec1_2.stage ((cfg1 (admOf hV)).slots t 2)) (hstage1_2 (((cfg1 (admOf hV)).slots t 2).cast nbuf1_2)) (spec1_3.stage ((cfg1 (admOf hV)).slots t 3)) (hstage1_3 (((cfg1 (admOf hV)).slots t 3).cast nbuf1_3))
    (spec1_4.stage ((cfg1 (admOf hV)).slots t 4)) (hstage1_4 (((cfg1 (admOf hV)).slots t 4).cast nbuf1_4)) (Memref.whole cc1_scratch0) (Memref.isWhole_whole _)
    (hv := rfl) (he := rfl) (hv1 := by rw [hc, hV.row0 _ ht]; exact (row0_lt σ _ ht).trans (by decide)) (hT := perm_lt hV))
  isplitl [T7]; · iapply (Entails.of_eq (owns_whole (c : Thread nD τ) main_v7 fullShare (V main_v7)).symm) $$ T7
  isplitl [T8]; · iapply (Entails.of_eq (owns_whole (c : Thread nD τ) main_v8 fullShare (V main_v8)).symm) $$ T8
  isplitl [T9]; · iapply (Entails.of_eq (owns_whole (c : Thread nD τ) main_v9 fullShare (V main_v9)).symm) $$ T9
  isplitl [H0]; · iapply (Entails.of_eq (congrArg (owns (c : Thread nD τ) (spec1_0.stage ((cfg1 (admOf hV)).slots t 0)) fullShare) (e0 d0))) $$ H0
  isplitl [H1]; · iapply (Entails.of_eq (congrArg (owns (c : Thread nD τ) (spec1_1.stage ((cfg1 (admOf hV)).slots t 1)) fullShare) (e1 d1))) $$ H1
  isplitl [H2]; · iapply (Entails.of_eq (congrArg (owns (c : Thread nD τ) (spec1_2.stage ((cfg1 (admOf hV)).slots t 2)) fullShare) (e2 d2))) $$ H2
  isplitl [H3]; · iapply (Entails.of_eq (congrArg (owns (c : Thread nD τ) (spec1_3.stage ((cfg1 (admOf hV)).slots t 3)) fullShare) (e3 d3))) $$ H3
  isplitl [H4]; · iexact H4
  isplitl [HS]; · iapply (Entails.of_eq (owns_whole (c : Thread nD τ) cc1_scratch0 fullShare S).symm) $$ HS
  iintro T7 T8 T9 H0 H1 H2 H3 H4 ⟨%S', HS⟩
  isplitl [HP HS T6 T7 T8 T9]
  · iapply (Entails.of_eq hk1.symm)
    isplitl [HP HS]
    · isplitl [HP]; · iexact HP
      iexists S'
      iapply (Entails.of_eq (owns_whole (c : Thread nD τ) cc1_scratch0 fullShare S')) $$ HS
    isplitl [T6]; · iexact T6
    isplitl [T7]; · iapply (Entails.of_eq (owns_whole (c : Thread nD τ) main_v7 fullShare (V main_v7))) $$ T7
    isplitl [T8]; · iapply (Entails.of_eq (owns_whole (c : Thread nD τ) main_v8 fullShare (V main_v8))) $$ T8
    iapply (Entails.of_eq (owns_whole (c : Thread nD τ) main_v9 fullShare (V main_v9))) $$ T9
  isplitl [HO]; · iexact HO
  isplitl [H0]; · iexact H0
  isplitl [H1]; · iexact H1
  isplitl [H2]; · iexact H2
  isplitl [H3]; · iexact H3
  iexists (attendStep (permOf V) (tabAt192 (row0Of V) (grid1.coords t 0).val) (tabAt192 (hiOf V) (grid1.coords t 0).val) (zRows V) S (wRow V) (zBlock V (sfor σ t.val)) (xBlock V (sfor σ t.val)) Y)
  isplitr
  · ipureintro
    exact done1 hV t.val ht hc S rfl rfl rfl rfl (found1 hV c Φ t Y hY)
  iexact H4

end Cert.KernelIdeal.Gen

end
-- ==== Proof.Between.lean ====
/-
  The contents of the buffers between the items: after the first host operations, after the first call, after the
  second host operations, after the second call. The tables the second call prefetches hold the plan.
-/
module

public import proofs.«01_k».proof.Proof.Region0
public import proofs.«01_k».proof.Proof.Region1
public import proofs.«01_k».proof.Proof.Gen.KernelIdeal.Regions
public import Idealize.ShloMosaic.Lib.Pipeline.FrameTail
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Cert.Routing

variable {F : FTy → Type} [FloatOps F]

local notation "𝕄" => MT nD τ sig Unit (Elt F) ℕ (UR sig nD τ) ℕ

section General

variable {cfg : Cfg sig Λ₀} {c : Dev nD} (dat : Dat τ (Elt F) Unit ℕ (UR sig nD τ) ℕ cfg c) (V : Valuation τ sig (Elt F))

/-- A buffer that is no window's array is left as it was. -/
theorem region_off {b : DevRef τ sig} (hb : b ∉ arrRefs (τ := τ) cfg.spec) : afterRegion dat V b = V b := by
  unfold afterRegion
  rw [dif_neg]
  rintro ⟨w, rfl⟩
  exact hb (Finset.mem_map.mpr ⟨_, Finset.mem_image.mpr ⟨w, Finset.mem_univ _, rfl⟩, rfl⟩)

/-- The array of an input window is left as it was. -/
theorem region_in (hinj : Function.Injective (arrRef cfg.spec)) (w : Fin cfg.W) (hw : (cfg.win w).isOut = false)
    (hA : dat.A w = V (Proc.devRef .tc (arrRef cfg.spec w))) :
    afterRegion dat V (Proc.devRef .tc (arrRef cfg.spec w)) = V (Proc.devRef .tc (arrRef cfg.spec w)) :=
  ((afterRegion_arr dat V hinj w).trans (dat.arrAt_in w hw _)).trans hA

end General

/-- What the first call's body keeps beside the windows: the scoped buffers no window stages. -/
abbrev keeps0 (c : Dev nD) : sProp 𝕄 :=
  iprop(scopedRest (Ix := Unit) (Name := ℕ) (U := UR sig nD τ) (Lvl := ℕ) (Val := Elt F) spec0 c
    ∗ prefHeld (cfg0.toPCfg (Val := Elt F)).pre c (fun _ => fullShare) (cfg0.toPCfg_adm (Val := Elt F)).1)

variable (V : Valuation τ sig (Elt F)) (c : Dev nD)

/-- The contents after the first call, entered at `V`. -/
def past0 : Valuation τ sig (Elt F) := afterRegion (dat0 (U := UR sig nD τ) V c (keeps0 c)) V
/-- The contents the second call is entered at. -/
def entry1 : Valuation τ sig (Elt F) := StableHlo.after hostOps1 (past0 V c)
/-- The contents after the second call. -/
def past1 {V : Valuation τ sig (Elt F)} {σ : Fin 2048 → ℕ} (hV : Routed V σ) (c : Dev nD) : Valuation τ sig (Elt F) :=
  afterRegion (dat1 (U := UR sig nD τ) hV c (keeps1 V c)) V

theorem inj0 : Function.Injective (arrRef spec0) := winFacts0.arr_inj
theorem inj1 : Function.Injective (arrRef spec1) := winFacts1.arr_inj

theorem past0_arr (w : Fin 13) : past0 V c (Proc.devRef .tc (arrRef spec0 w)) = (dat0 (U := UR sig nD τ) V c (keeps0 c)).arrAt w cfg0.N :=
  afterRegion_arr (dat0 V c (keeps0 c)) V inj0 w

/-- The last point of the first call's grid. -/
abbrev last0 : Fin cfg0.N := ⟨63, by decide⟩

theorem whole9 : (cfg0.win 9).WholeAt last0 := by decide +kernel
theorem whole10 : (cfg0.win 10).WholeAt last0 := by decide +kernel
theorem whole11 : (cfg0.win 11).WholeAt last0 := by decide +kernel
theorem whole12 : (cfg0.win 12).WholeAt last0 := by decide +kernel

theorem past0_sfor : (past0 V c main_v4_2 : S192x1.Idx → BitVec 32) = sforT (sidOf V) :=
  (past0_arr V c 9).trans ((dat0 V c (keeps0 c)).arrAt_eq_of_after_last 9 last0 whole9 (sforT (sidOf V)) (fun _ => rfl) (Memref.isWhole_whole _))
theorem past0_row0 : (past0 V c main_v4_3 : S192x1.Idx → BitVec 32) = row0T (sidOf V) :=
  (past0_arr V c 10).trans ((dat0 V c (keeps0 c)).arrAt_eq_of_after_last 10 last0 whole10 (row0T (sidOf V)) (fun _ => rfl) (Memref.isWhole_whole _))
theorem past0_hi : (past0 V c main_v4_4 : S192x1.Idx → BitVec 32) = hiT (sidOf V) :=
  (past0_arr V c 11).trans ((dat0 V c (keeps0 c)).arrAt_eq_of_after_last 11 last0 whole11 (hiT (sidOf V)) (fun _ => rfl) (Memref.isWhole_whole _))
theorem past0_perm : (past0 V c main_v4_5 : S2048x1.Idx → BitVec 32) = permT (sidOf V) :=
  (past0_arr V c 12).trans ((dat0 V c (keeps0 c)).arrAt_eq_of_after_last 12 last0 whole12 (permT (sidOf V)) (fun _ => rfl) (Memref.isWhole_whole _))

theorem entry1_v6 : (entry1 V c main_v6 : S192.Idx → BitVec 32) = shapeCast S192 (past0 V c main_v4_2 : S192x1.Idx → BitVec 32) shapeCasts_S192x1_S192 := by
  unfold entry1; after_results; rfl
theorem entry1_v7 : (entry1 V c main_v7 : S192.Idx → BitVec 32) = shapeCast S192 (past0 V c main_v4_3 : S192x1.Idx → BitVec 32) shapeCasts_S192x1_S192 := by
  unfold entry1; after_results; rfl
theorem entry1_v8 : (entry1 V c main_v8 : S192.Idx → BitVec 32) = shapeCast S192 (past0 V c main_v4_4 : S192x1.Idx → BitVec 32) shapeCasts_S192x1_S192 := by
  unfold entry1; after_results; rfl
theorem entry1_v9 : (entry1 V c main_v9 : S2048.Idx → BitVec 32) = shapeCast S2048 (past0 V c main_v4_5 : S2048x1.Idx → BitVec 32) shapeCasts_S2048x1_S2048 := by
  unfold entry1; after_results; rfl

/-- A column of 192 words reshaped to a row, read at a position. -/
theorem tab192_cast (T : S192x1.Idx → BitVec 32) (t : ℕ) (ht : t < 192) :
    tabAt192 (shapeCast S192 T shapeCasts_S192x1_S192) t = T (ix2 ⟨t, ht⟩ 0) := by
  refine shapeCast_apply _ _ _ _ ?_
  rw [Shape.rowMajor_val_one, Shape.rowMajor_val_two]
  show t * 1 + 0 = t % 192
  omega

/-- A column of 2048 words reshaped to a row, read at a position. -/
theorem tab_cast (T : S2048x1.Idx → BitVec 32) (t : Fin 2048) :
    tabAt (shapeCast S2048 T shapeCasts_S2048x1_S2048) t.val = T (ix2 t 0) := by
  have ht := t.isLt
  refine shapeCast_apply _ _ _ _ ?_
  rw [Shape.rowMajor_val_one, Shape.rowMajor_val_two]
  show t.val * 1 + 0 = t.val % 2048
  omega

/-- The tables the second call prefetches hold the plan of the points. -/
theorem routed1 (hs : ∀ a, sceneOf (sidOf V) a < 64) : Routed (entry1 V c) (sceneOf (sidOf V)) where
  lt := hs
  sfor t ht := by
    unfold sforOf
    rw [entry1_v6, tab192_cast _ t ht, past0_sfor]
    exact Nat.mod_eq_of_lt ((sfor_lt _ t).trans (by decide))
  row0 t ht := by
    unfold row0Of
    rw [entry1_v7, tab192_cast _ t ht, past0_row0]
    exact Nat.mod_eq_of_lt ((row0_lt _ t ht).trans (by decide))
  hi t ht := by
    unfold hiOf
    rw [entry1_v8, tab192_cast _ t ht, past0_hi]
    exact Nat.mod_eq_of_lt ((Nat.lt_succ_of_le (hi_le _ t)).trans (by decide))
  perm r := by
    unfold permOf
    rw [entry1_v9, tab_cast, past0_perm]
    exact Nat.mod_eq_of_lt ((perm _ r).isLt.trans (by decide))

end Cert.KernelIdeal.Gen

end
-- ==== Proof.Run.lean ====
/-
  The launch: the two calls' regions between the host operations, from any memory whose scene numbers are in range.
  Every buffer ends at contents named in `Proof/Between.lean`; the arguments are unchanged.
-/
module

public import proofs.«01_k».proof.Proof.Between

@[expose] public section

set_option maxRecDepth 16384

noncomputable section

namespace Cert.KernelIdeal.Gen

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Cert.Routing Cert.Proof

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

variable (m : (ℓ : Loc nD τ sig) → Buf (Elt F) ℓ)

/-- The scene numbers the first call is handed. -/
abbrev scenes (c : Dev nD) : Fin 2048 → ℕ := sceneOf (sidOf (V1 m c))

/-- Every scene number is one of the 64. -/
def InRange : Prop := ∀ (c : Dev nD) (a : Fin 2048), scenes m c a < 64

variable {m} (hs : InRange m)

/-- The tables' contents at the two calls. -/
def adm : (p : Fin 2) → (pcfgs (F := F) p).Adm
  | ⟨0, _⟩ => cfg0.toPCfg_adm
  | ⟨1, _⟩ => admOf (routed1 (V1 m 0) 0 (hs 0))

/-- The two regions' proof data. -/
def pdats : (p : Fin 2) → (c : Dev nD) → Dat τ (Elt F) Unit ℕ (UR sig nD τ) ℕ (pin (pcfgs (F := F)) (adm hs) p) c
  | ⟨0, _⟩, c => dat0 (V1 m c) c (keeps0 c)
  | ⟨1, _⟩, c => dat1 (routed1 (V1 m 0) 0 (hs 0)) c (keeps1 (entry1 (V1 m 0) 0) c)

/-- The windows held to a predicate. -/
def fgs : (p : Fin 2) → Fin (pin (pcfgs (F := F)) (adm hs) p).W → Bool
  | ⟨0, _⟩ => fg0
  | ⟨1, _⟩ => fg1

/-- The predicates. -/
def Rls : (p : Fin 2) → Dev nD → (w : Fin (pin (pcfgs (F := F)) (adm hs) p).W) → Fin (pin (pcfgs (F := F)) (adm hs) p).N
    → (((pin (pcfgs (F := F)) (adm hs) p).win w).block.Idx → Elt F ((pin (pcfgs (F := F)) (adm hs) p).win w).elt) → Prop
  | ⟨0, _⟩, c => Rl0 (V1 m c)
  | ⟨1, _⟩, _ => Rl1 (routed1 (V1 m 0) 0 (hs 0))

/-- The contents after each item. -/
def W2 (m : (ℓ : Loc nD τ sig) → Buf (Elt F) ℓ) (c : Dev nD) : Valuation τ sig (Elt F) := past0 (V1 m c) c
def W3 (m : (ℓ : Loc nD τ sig) → Buf (Elt F) ℓ) (c : Dev nD) : Valuation τ sig (Elt F) := StableHlo.after hostOps1 (W2 m c)
def W4 (c : Dev nD) : Valuation τ sig (Elt F) := past1 (routed1 (V1 m 0) 0 (hs 0)) c

set_option backward.isDefEq.respectTransparency.types false in
/-- The first call's region. -/
def reg0 : RDat.RegionSeg (pcfgs (F := F)) (adm hs) (relDats (pcfgs (F := F)) (adm hs) (pdats hs) (fgs hs) (Rls hs)) () (defs₀ (F := F)) 𝒱₀ L lv 0 :=
  relRegion (pcfgs (F := F)) (adm hs) (pdats hs) () (defs₀ (F := F)) 𝒱₀ L lv (fgs hs) (Rls hs) 0 launch0
    (fun c => body0 (V1 m c) c (hs c) (keeps0 c) 𝒱₀ Set.univ) (fun _ _ => rfl) (fun _ => rfl) (fun c => (dat0 (V1 m c) c (keeps0 c)).share_full fun _ => rfl)
    (fun _ => .rfl) (fun _ => .rfl) (V1 m) (W2 m) (fun _ _ => rfl) (fun _ k => k.elim0)
    (fun c A hA w => by
      refine Eq.trans ?_ (past0_arr (V1 m c) c w).symm
      cases h : fg0 w
      · exact arrAt_named (dat0 (V1 m c) c (keeps0 c)) h (hA w)
      · exact arrAt_determined (dat0 (V1 m c) c (keeps0 c)) h (fun _ _ _ hX => hX) (hA w))
    (fun c b hb => region_off (dat0 (V1 m c) c (keeps0 c)) (V1 m c) hb)

/-- At the point whose block is written back the predicate says every chunk is done. -/
theorem flushed1 {V : Valuation τ sig (Elt F)} {σ : Fin 2048 → ℕ} (hV : Routed V σ) (c : Dev nD) (u : Fin (cfg1 (admOf hV)).N)
    (X : ((cfg1 (admOf hV)).win 4).block.Idx → Elt F ((cfg1 (admOf hV)).win 4).elt) (hf : ((cfg1 (admOf hV)).win 4).flush u = true)
    (hX : Rl1 hV 4 u X) : X = (dat1 (U := UR sig nD τ) hV c (keeps1 V c)).after 4 u := by
  have h1 := (flush1_4 hV u).mp hf
  have h2 : u.val < 192 := u.isLt
  have h3 : u.val + 1 = 192 := by omega
  have hD : Done σ (chunkAt V σ) (u.val + 1) X := hX
  rw [h3] at hD
  exact Done.all σ hV.lt hD

theorem past1_arr {V : Valuation τ sig (Elt F)} {σ : Fin 2048 → ℕ} (hV : Routed V σ) (c : Dev nD) (w : Fin 5) :
    past1 hV c (Proc.devRef .tc (arrRef spec1 w)) = (dat1 (U := UR sig nD τ) hV c (keeps1 V c)).arrAt w (cfg1 (admOf hV)).N :=
  afterRegion_arr (dat1 hV c (keeps1 V c)) V inj1 w

/-- The arrays after the second call. -/
theorem arrays1 {V : Valuation τ sig (Elt F)} {σ : Fin 2048 → ℕ} (hV : Routed V σ) (c : Dev nD) (w : Fin 5)
    (G : Buf (Elt F) (((cfg1 (admOf hV)).win w).arr.view.loc (c.tc : Thread nD τ)))
    (hG : ((dat1 (U := UR sig nD τ) hV c (keeps1 V c)).toRRel fg1 (Rl1 hV)).ArrAt w (cfg1 (admOf hV)).N G) :
    G = (dat1 (U := UR sig nD τ) hV c (keeps1 V c)).arrAt w (cfg1 (admOf hV)).N := by
  by_cases h : w = 4
  · subst h
    exact arrAt_determined (dat1 (U := UR sig nD τ) hV c (keeps1 V c)) (w := (4 : Fin 5)) rfl (flushed1 hV c) hG
  · exact arrAt_named (dat1 (U := UR sig nD τ) hV c (keeps1 V c)) ((by decide : ∀ w : Fin 5, w ≠ 4 → fg1 w = false) w h) hG

set_option backward.isDefEq.respectTransparency.types false in
/-- The second call's region. -/
def reg1 : RDat.RegionSeg (pcfgs (F := F)) (adm hs) (relDats (pcfgs (F := F)) (adm hs) (pdats hs) (fgs hs) (Rls hs)) () (defs₀ (F := F)) 𝒱₀ L lv 1 :=
  relRegion (pcfgs (F := F)) (adm hs) (pdats hs) () (defs₀ (F := F)) 𝒱₀ L lv (fgs hs) (Rls hs) 1 launch1
    (fun c => body1 (routed1 (V1 m 0) 0 (hs 0)) c (keeps1 (entry1 (V1 m 0) 0) c) rfl 𝒱₀ Set.univ) (fun _ _ => rfl) (fun _ => rfl)
    (fun c => (dat1 (routed1 (V1 m 0) 0 (hs 0)) c (keeps1 (entry1 (V1 m 0) 0) c)).share_full fun _ => rfl)
    (fun _ => .rfl) (fun _ => .rfl) (W3 m) (W4 hs)
    (fun c w => by obtain rfl : c = 0 := Subsingleton.elim _ _; rfl)
    (fun c k => by obtain rfl : c = 0 := Subsingleton.elim _ _; rfl)
    (fun c A hA w => (arrays1 (routed1 (V1 m 0) 0 (hs 0)) c w (A w) (hA w)).trans (past1_arr (routed1 (V1 m 0) 0 (hs 0)) c w).symm)
    (fun c b hb => by
      obtain rfl : c = 0 := Subsingleton.elim _ _
      exact region_off (dat1 (routed1 (V1 m 0) 0 (hs 0)) 0 (keeps1 (entry1 (V1 m 0) 0) 0)) (entry1 (V1 m 0) 0) hb)

/-- The host stretches between the same thread states. -/
def host0 : HostSeg (Ix := Unit) (Name := ℕ) (U := UR sig nD τ) (Lvl := ℕ) (pcfgs (F := F)) defs₀ 𝒱₀ L lv :=
  HostSeg.ofOps _ _ _ _ _ (ucRefs τ sig) hostOps0
    (fun op h => sub_ucRefs op ((List.forall_iff_forall_mem.mp hostOps0_sub) op h))
    (fun op h => (List.forall_iff_forall_mem.mp hostOps0_fresh) op h) (V0 m) (fun c => iprop(∃ W, owes (c : Thread nD τ) (0 : CellTallies nD τ sig Unit) W))
def host1 : HostSeg (Ix := Unit) (Name := ℕ) (U := UR sig nD τ) (Lvl := ℕ) (pcfgs (F := F)) defs₀ 𝒱₀ L lv :=
  HostSeg.ofOps _ _ _ _ _ (ucRefs τ sig) hostOps1
    (fun op h => sub_ucRefs op ((List.forall_iff_forall_mem.mp hostOps1_sub) op h))
    (fun op h => (List.forall_iff_forall_mem.mp hostOps1_fresh) op h) (W2 m) (fun c => iprop(∃ W, owes (c : Thread nD τ) (0 : CellTallies nD τ sig Unit) W))

/-- The items of the program. -/
abbrev items : List (RDat.Seg (pcfgs (F := F)) (adm hs) (relDats (pcfgs (F := F)) (adm hs) (pdats hs) (fgs hs) (Rls hs)) () (defs₀ (F := F)) 𝒱₀ L lv) :=
  [.host (host0 (m := m)), .region (reg0 hs), .host (host1 (m := m)), .region (reg1 hs)]

set_option backward.isDefEq.respectTransparency.types false in
/-- Every execution ends, with each buffer at the contents named and no semaphore raised. -/
theorem run_named (ρ : Dev nD → PrngReg) :
    θ_run defs (onTc (τ := τ) (main (F := F))) ⟨m, fun _ => 0, ρ⟩ (fun r => (∀ c : Dev nD, ∀ b ∈ ucRefs τ sig, r.2.mem (c, b) = W4 hs c b) ∧ r.2.sem = fun _ => 0) := by
  refine RDat.θ_run_regions_kit_dev_sems (pcfgs (F := F)) (adm hs) (relDats (pcfgs (F := F)) (adm hs) (pdats hs) (fgs hs) (Rls hs)) () (cellOf_inj (adm hs)) emb₁ defs₀ 𝒱₀ L lv m ρ main
    (fun _ => items hs)
    (fun c Q => by
      rewrite [main_chain c, RDat.Seg.run_eq_chain,
        show (items hs).map RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [RDat.Seg.pipes_host, RDat.Seg.pipes_region, RDat.Seg.pipes_nil]; decide) (O₀ := 0) (hL := fun _ _ => rfl)
    (G := fun _ => iprop(emp)) (u₀ := Rounds.initOf (cells (pin (pcfgs (F := F)) (adm hs)) (cellOf_inj (adm hs))) (launchToks (pin (pcfgs (F := F)) (adm hs)) (cellOf_inj (adm hs))))
    (hu₀ := ?_)
    (T₀ := fun c => iprop(StableHlo.held (c : Thread nD τ) (ucRefs τ sig) (V0 m c) ∗ ∃ W, owes (c : Thread nD τ) (0 : CellTallies nD τ sig Unit) W))
    (Tₙ := fun c => StableHlo.held (c : Thread nD τ) (ucRefs τ sig) (W4 hs c))
    (hch := fun c => ⟨.rfl, .rfl, .rfl, .rfl, (show bufsAt (Ix := Unit) (Name := ℕ) (U := UR sig nD τ) (Lvl := ℕ) (W4 hs) c ⊢ bufsAt (W4 hs) c from .rfl)⟩)
    (hinit := ?_) (QY := fun c s => ∀ b ∈ ucRefs τ sig, s.mem (c, b) = W4 hs c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (Rounds.initOf (cells (pin (pcfgs (F := F)) (adm hs)) (cellOf_inj (adm hs))) (launchToks (pin (pcfgs (F := F)) (adm hs)) (cellOf_inj (adm hs))))) from .rfl)
      iexact Hu
    iapply (show (BI.emp : sProp 𝕄) ⊢ bigSep Finset.univ (fun _ : Dev nD => (BI.emp : sProp 𝕄)) from by rw [BI.bigSep_emp_const])
    iempintro
  · refine initEach L lv fun c => ?_
    rw [show unscopedBufs c (fun b => m ((c.tc : Thread nD τ).loc b)) = StableHlo.held (c.tc : Thread nD τ) (ucRefs τ sig) (V0 m c)
      from unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅
    iexact HO
  · unfold StableHlo.held
    iintro ⟨Hh, HSI⟩
    ihave Hr := (pointsTo_read_all (ucRefs τ sig) (fun b => ((c : Thread nD τ).1, b)) (W4 hs c) s') $$ [Hh HSI]
    · isplitl [Hh] <;> iassumption
    icases Hr with ⟨%h, HSI⟩
    imodintro
    isplitr
    · ipureintro
      exact h
    iexact HSI

end Cert.KernelIdeal.Gen

end
-- ==== Proof.Ends.lean ====
/-
  What the launch leaves in the arguments and in the result.
-/
module

public import proofs.«01_k».proof.Proof.Run

@[expose] public section

set_option maxRecDepth 16384

noncomputable section

namespace Cert.KernelIdeal.Gen

open Idealize.ShloMosaic Idealize.ShloMosaic.TcCoe Idealize.ShloMosaic.Pipeline
open Idealize.SL Idealize.SL.RA Idealize.SL.BI Idealize.SL.Sem
open Cert.Routing Cert.Proof

variable {F : FTy → Type} [FloatOps F]

/-- The first call leaves what it only reads, and what it is not handed. -/
theorem past0_kept (V : Valuation τ sig (Elt F)) (c : Dev nD) (r : Ref sig .tc)
    (h : (∀ w : Fin 13, r ≠ arrRef spec0 w) ∨ ∃ w : Fin 13, r = arrRef spec0 w ∧ (cfg0.win w).isOut = false) :
    past0 V c r = V r := by
  rcases h with h | ⟨w, rfl, hw⟩
  · exact afterRegion_of_not_arr (dat0 V c (keeps0 c)) V h
  · exact region_in (dat0 V c (keeps0 c)) V inj0 w hw rfl

/-- The windows of the second call but the last are read only. -/
theorem inputs1 {V : Valuation τ sig (Elt F)} {σ : Fin 2048 → ℕ} (hV : Routed V σ) :
    ∀ w : Fin 5, w ≠ 4 → ((cfg1 (admOf hV)).win w).isOut = false
  | ⟨0, _⟩, _ => rfl
  | ⟨1, _⟩, _ => rfl
  | ⟨2, _⟩, _ => rfl
  | ⟨3, _⟩, _ => rfl
  | ⟨4, _⟩, h => absurd rfl h

/-- The second call leaves what it only reads, and what it is not handed. -/
theorem past1_kept {V : Valuation τ sig (Elt F)} {σ : Fin 2048 → ℕ} (hV : Routed V σ) (c : Dev nD) (r : Ref sig .tc)
    (h : (∀ w : Fin 5, r ≠ arrRef spec1 w) ∨ ∃ w : Fin 5, r = arrRef spec1 w ∧ w ≠ 4) : past1 hV c r = V r := by
  rcases h with h | ⟨w, rfl, hw⟩
  · exact afterRegion_of_not_arr (dat1 hV c (keeps1 V c)) V h
  · exact region_in (dat1 hV c (keeps1 V c)) V inj1 w (inputs1 hV w hw) rfl

variable {m : (ℓ : Loc nD τ sig) → Buf (Elt F) ℓ} (hs : InRange m)

/-- A buffer no item writes ends as launched. -/
theorem W4_kept (c : Dev nD) (r : Ref sig .tc) (h0 : r ∉ hostOps0_W) (h1 : r ∉ hostOps1_W)
    (h : (∀ w : Fin 13, r ≠ arrRef spec0 w) ∨ ∃ w : Fin 13, r = arrRef spec0 w ∧ (cfg0.win w).isOut = false)
    (h' : (∀ w : Fin 5, r ≠ arrRef spec1 w) ∨ ∃ w : Fin 5, r = arrRef spec1 w ∧ w ≠ 4) : W4 hs c r = m ((c : Thread nD τ).loc r) := by
  obtain rfl : c = 0 := Subsingleton.elim _ _
  refine (past1_kept _ 0 r h').trans ?_
  refine (StableHlo.after_of_writes_sub hostOps1 _ hostOps1_writes h1).trans ?_
  refine (past0_kept _ 0 r h).trans ?_
  exact (V1_of m 0 r h0).trans rfl

/-- An unscoped buffer is read off the end of the run. -/
theorem unscoped (r : Ref sig .tc) (h : (Proc.devRef (τ := τ) .tc r).isScoped = false) : Proc.devRef (τ := τ) .tc r ∈ ucRefs τ sig :=
  Finset.mem_filter.mpr ⟨StableHlo.devRef_mem_tcRefs r, by rw [h]; exact Bool.false_ne_true⟩

/-- The result: every point's result, each at its point. -/
theorem W4_result (c : Dev nD) :
    (W4 hs c main_v12 : S2048x32.Idx → F .f32) = attended (scenes m 0) (chunkAt (entry1 (V1 m 0) 0) (scenes m 0)) := by
  refine (past1_arr (routed1 (V1 m 0) 0 (hs 0)) c 4).trans ?_
  have hN : 191 < (cfg1 (admOf (routed1 (V1 m 0) 0 (hs 0)))).N := by show 191 < grid1.N; decide
  refine Dat.arrAt_eq_of_after_last _ 4 ⟨191, hN⟩ ⟨?_, ?_, ?_⟩ _ (fun _ => rfl) (Memref.isWhole_whole _)
  · exact (flush1_4 (routed1 (V1 m 0) 0 (hs 0)) _).mpr rfl
  · intro t ht
    have h1 := (flush1_4 (routed1 (V1 m 0) 0 (hs 0)) t).mp ht
    have h2 : t.val < 192 := t.isLt
    exact Fin.ext (show t.val = 191 by omega)
  · intro a
    exact ⟨match a with | ⟨0, _⟩ => rfl | ⟨1, _⟩ => rfl, match a with | ⟨0, _⟩ => rfl | ⟨1, _⟩ => rfl⟩

include hs in
/-- Every execution ends with the result named, the arguments unchanged, no semaphore raised. -/
theorem run_ends (ρ : Dev nD → PrngReg) :
    θ_run defs (onTc (τ := τ) (main (F := F))) ⟨m, fun _ => 0, ρ⟩ (fun r => (∀ c : Dev nD,
      r.2.mem ((c.tc : Thread nD τ).loc main_v12) = attended (scenes m 0) (chunkAt (entry1 (V1 m 0) 0) (scenes m 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => ⟨(h.1 c _ (unscoped main_v12 (by decide))).trans (W4_result hs c),
    (h.1 c _ (unscoped main_arg0 (by decide))).trans (W4_kept hs c main_arg0 (by decide) (by decide) (by decide) (by decide)),
    (h.1 c _ (unscoped main_arg1 (by decide))).trans (W4_kept hs c main_arg1 (by decide) (by decide) (by decide) (by decide)),
    (h.1 c _ (unscoped main_arg2 (by decide))).trans (W4_kept hs c main_arg2 (by decide) (by decide) (by decide) (by decide)),
    (h.1 c _ (unscoped main_arg3 (by decide))).trans (W4_kept hs c main_arg3 (by decide) (by decide) (by decide) (by decide)),
    (h.1 c _ (unscoped main_arg4 (by decide))).trans (W4_kept hs c main_arg4 (by decide) (by decide) (by decide) (by decide)),
    (h.1 c _ (unscoped main_arg5 (by decide))).trans (W4_kept hs c main_arg5 (by decide) (by decide) (by decide) (by decide)),
    (h.1 c _ (unscoped main_arg6 (by decide))).trans (W4_kept hs c main_arg6 (by decide) (by decide) (by decide) (by decide)),
    (h.1 c _ (unscoped main_arg7 (by decide))).trans (W4_kept hs c main_arg7 (by decide) (by decide) (by decide) (by decide)),
    (h.1 c _ (unscoped main_arg8 (by decide))).trans (W4_kept hs c main_arg8 (by decide) (by decide) (by decide) (by decide))⟩, h.2⟩) (run_named hs ρ)

end Cert.KernelIdeal.Gen

end
-- ==== Proof.InRange.lean ====
/-
  The precondition on the scene numbers, read off its predicate: where it holds, every scene number the launch finds is one
  of the 64 scenes.
-/
module

public import proofs.«01_k».proof.Defs
public import proofs.«01_k».proof.Proof.Ends
public import proofs.«01_k».proof.Proof.Twin.Ends
public import Idealize.ShloMosaic.Lib.WordCmp

@[expose] public section

set_option maxRecDepth 16384

noncomputable section

namespace Cert.Proof

open Idealize.ShloMosaic Idealize.ShloMosaic.TcCoe Idealize.SL.Sem Cert.Routing

/-- The facts the first predicate states. -/
instance rangeFacts : Cert.Pre_scene_in_range.Facts where
  bcast_S_S2048 := by decide

/-- The facts the second predicate states. -/
instance finiteFacts : Cert.Pre_finite_and_in_range.Facts where
  bcast_S_S2048 := by decide
  bcast_S_S64x2048x32 := by decide
  bcast_S_S2048x128 := by decide
  bcast_S_S32x64 := by decide
  bcast_S_S64 := by decide
  bcast_S_S128x64 := by decide
  bcast_S_S1 := by decide

/-- A word that is at least zero and below 64, as the predicate compares it, is below 64 as a natural number. -/
theorem word_in_range {w : BitVec 32} (h : IntOp.andi (IntOp.cmpi .sge w 0#32) (IntOp.cmpi .slt w 64#32) = 1#1) : w.toNat < 64 := by
  have both (p q : Bool) : IntOp.andi (BitVec.ofBool p) (BitVec.ofBool q) = BitVec.ofBool (p && q) := by
    cases p <;> cases q <;> decide
  have one (p : Bool) : BitVec.ofBool p = 1#1 ↔ p = true := by cases p <;> decide
  simp only [IntOp.cmpi, both, one, Bool.and_eq_true] at h
  obtain ⟨h0, h1⟩ := h
  simp only [BitVec.sle, BitVec.slt, decide_eq_true_eq, BitVec.toInt, BitVec.toNat_ofNat] at h0 h1
  omega

end Cert.Proof

namespace Cert.KernelIdeal.Gen

open Idealize.ShloMosaic Idealize.ShloMosaic.TcCoe Idealize.SL.Sem Cert.Routing Cert.Proof

variable {F : FTy → Type} [FloatOps F]

/-- The row of scene numbers the launch finds, entry by entry. -/
theorem scenes_eq (m : (ℓ : Loc nD τ sig) → Buf (Elt F) ℓ) (c : Dev nD) (a : Fin 2048) :
    scenes m c a = ((m ((c : Thread nD τ).loc main_arg1) : IVec S2048 32) (Idealize.ShloMosaic.ix1 a)).toNat := by
  have e : (V1 m c main_v1 : IVec S1x2048 32) = shapeCast S1x2048 (m ((c : Thread nD τ).loc main_arg1) : IVec S2048 32) shapeCasts_S2048_S1x2048 := by
    unfold V1
    after_results
    rfl
  unfold scenes sceneOf sidOf
  refine congrArg BitVec.toNat ((congrFun e _).trans (shapeCast_apply (s := S2048) _ _ _ _ ?_))
  rw [Shape.rowMajor_val_one, Shape.rowMajor_val_two]
  simp

/-- The bound on the argument is the bound on the scenes. -/
theorem inRange_of (m : (ℓ : Loc nD τ sig) → Buf (Elt F) ℓ)
    (h : ∀ (c : Dev nD) (a : Fin 2048), ((m ((c : Thread nD τ).loc main_arg1) : IVec S2048 32) (Idealize.ShloMosaic.ix1 a)).toNat < 64) : InRange m :=
  fun c a => by rw [scenes_eq]; exact h c a

end Cert.KernelIdeal.Gen
namespace Cert.Kernel.Gen

open Idealize.ShloMosaic Idealize.ShloMosaic.TcCoe Idealize.SL.Sem Cert.Routing Cert.Proof

variable {F : FTy → Type} [FloatOps F]

/-- The row of scene numbers the launch finds, entry by entry. -/
theorem scenes_eq (m : (ℓ : Loc nD τ sig) → Buf (Elt F) ℓ) (c : Dev nD) (a : Fin 2048) :
    scenes m c a = ((m ((c : Thread nD τ).loc main_arg1) : IVec S2048 32) (Idealize.ShloMosaic.ix1 a)).toNat := by
  have e : (V1 m c main_v1 : IVec S1x2048 32) = shapeCast S1x2048 (m ((c : Thread nD τ).loc main_arg1) : IVec S2048 32) shapeCasts_S2048_S1x2048 := by
    unfold V1
    after_results
    rfl
  unfold scenes sceneOf sidOf
  refine congrArg BitVec.toNat ((congrFun e _).trans (shapeCast_apply (s := S2048) _ _ _ _ ?_))
  rw [Shape.rowMajor_val_one, Shape.rowMajor_val_two]
  simp

/-- The bound on the argument is the bound on the scenes. -/
theorem inRange_of (m : (ℓ : Loc nD τ sig) → Buf (Elt F) ℓ)
    (h : ∀ (c : Dev nD) (a : Fin 2048), ((m ((c : Thread nD τ).loc main_arg1) : IVec S2048 32) (Idealize.ShloMosaic.ix1 a)).toNat < 64) : InRange m :=
  fun c a => by rw [scenes_eq]; exact h c a

end Cert.Kernel.Gen

namespace Cert.Proof

open Idealize.ShloMosaic Idealize.ShloMosaic.TcCoe Idealize.SL.Sem

theorem inRange_kernel (m : (ℓ : Loc Cert.Kernel.nD Cert.Kernel.τ Cert.Kernel.sig) → Buf (Elt Bits) ℓ) (h : Cert.Pre_Kernel m) :
    Cert.Kernel.Gen.InRange m := by
  refine Cert.Kernel.Gen.inRange_of m fun c a => word_in_range ?_
  have e := congrFun (h c) (Idealize.ShloMosaic.ix1 a)
  simp only [Cert.Pre_scene_in_range.fn, andi, cmpi, broadcastInDim, constantI] at e
  exact e

theorem inRange_ideal (m : (ℓ : Loc Cert.KernelIdeal.nD Cert.KernelIdeal.τ Cert.KernelIdeal.sig) → Buf (Elt Ideal) ℓ)
    (h : Cert.Pre_KernelIdeal m) : Cert.KernelIdeal.Gen.InRange m := by
  refine Cert.KernelIdeal.Gen.inRange_of m fun c a => word_in_range ?_
  have e := congrFun (h c) (Idealize.ShloMosaic.ix1 a)
  simp only [Cert.Pre_scene_in_range.fn, andi, cmpi, broadcastInDim, constantI] at e
  exact e

theorem inRange_finite (m : (ℓ : Loc Cert.KernelIdeal.nD Cert.KernelIdeal.τ Cert.KernelIdeal.sig) → Buf (Elt Ideal) ℓ)
    (h : Cert.Pre_KernelIdeal_finite_and_in_range m) : Cert.KernelIdeal.Gen.InRange m := by
  refine Cert.KernelIdeal.Gen.inRange_of m fun c a => word_in_range ?_
  have e := congrFun (h c).1 (Idealize.ShloMosaic.ix1 a)
  simp only [Cert.Pre_finite_and_in_range.fn, Cert.Pre_finite_and_in_range.fn_part1, andi, cmpi, broadcastInDim, constantI] at e
  exact e

end Cert.Proof

end
-- ==== Proof.Reference.lean ====
/-
  The run of the reference program: a straight line of host operations, no kernel. Its operations fall into four stages —
  the two linear maps and the gather into hidden units, the logits, the softmax weights, the pooled features — and each
  stage is read as a function of the buffers it takes. From any memory every execution leaves `refOut` of the arguments in
  the result and the arguments as they were.
-/
module

public import Idealize.ShloMosaic.Lib.StableHlo.Run
public import Idealize.ShloMosaic.Lib.Quiescent
public import proofs.«01_k».proof.Proof.Gen.ReferenceIdeal

@[expose] public section

set_option maxRecDepth 16384

noncomputable section

namespace Cert.ReferenceIdeal.Gen

open Idealize.ShloMosaic Idealize.ShloMosaic.TcCoe Idealize.ShloMosaic.StableHlo Idealize.SL.Sem
open Cert.ReferenceIdeal.Facts₀

variable {F : FTy → Type} [FloatOps F]

/-- The scene numbers as the lookups take them: a negative one counted from the end. -/
def sceneIx (sid : IVec S2048 32) : IVec S2048x1 32 :=
  broadcastInDim S2048x1 ![0] bcast_S2048_S2048x1_0
    (select (cmpi .slt sid (broadcastInDim S2048 ![] bcast_S_S2048 (constantI S_ 32 0#32)))
      (addi sid (broadcastInDim S2048 ![] bcast_S_S2048 (constantI S_ 32 64#32))) sid)

/-- The hidden units of every agent and place before the cut at zero. -/
def refHidden (x : FVec F S64x2048x32 .f32) (sid : IVec S2048 32) (a : FVec F S2048x128 .f32) (w1 : FVec F S32x64 .f32)
    (b1 : FVec F S64 .f32) (w2 : FVec F S128x64 .f32) (b2 : FVec F S64 .f32) : FVec F S2048x2048x64 .f32 :=
  addf
    (Host.gather gather_S64x2048x64_S2048x1_S2048x2048x64_12_0_n_n_0_1_1204864
      (addf (Host.dotGeneral dot_S64x2048x32_S32x64_S64x2048x64_2_0_01_1_n_n none x w1)
        (broadcastInDim S64x2048x64 ![0, 1, 2] bcast_S1x1x64_S64x2048x64_0_1_2 (broadcastInDim S1x1x64 ![2] bcast_S64_S1x1x64_2 b1)))
      (sceneIx sid))
    (broadcastInDim S2048x2048x64 ![0, 1, 2] bcast_S2048x1x64_S2048x2048x64_0_1_2
      (broadcastInDim S2048x1x64 ![0, 2] bcast_S2048x64_S2048x1x64_0_2
        (addf (Host.dotGeneral dot_S2048x128_S128x64_S2048x64_1_0_0_1_n_n none a w2)
          (broadcastInDim S2048x64 ![0, 1] bcast_S1x64_S2048x64_0_1 (broadcastInDim S1x64 ![1] bcast_S64_S1x64_1 b2)))))

/-- The logits. -/
def refLogits (h : FVec F S2048x2048x64 .f32) (w3 : FVec F S64 .f32) (b3 : FVec F S1 .f32) : FVec F S2048x2048 .f32 :=
  addf
    (Host.dotGeneral dot_S2048x2048x64_S64_S2048x2048_2_0_01_n_n_n none
      (maximumf h (broadcastInDim S2048x2048x64 ![] bcast_S_S2048x2048x64 (constant S_ .f32 0x00000000#32))) w3)
    (broadcastInDim S2048x2048 ![] bcast_S_S2048x2048 (shapeCast S_ b3 shapeCasts_S1_S_))

/-- A value per agent, repeated at every place. -/
def perAgent (v : FVec F S2048 .f32) : FVec F S2048x2048 .f32 :=
  broadcastInDim S2048x2048 ![0, 1] bcast_S2048x1_S2048x2048_0_1 (broadcastInDim S2048x1 ![0] bcast_S2048_S2048x1_0 v)

/-- The exponentials of the logits less their maximum. -/
def refExps (l : FVec F S2048x2048 .f32) : FVec F S2048x2048 .f32 :=
  Host.exp (subf l (perAgent
    (maximumf (broadcastInDim S2048 ![] bcast_S_S2048 (constant S_ .f32 0xFF800000#32))
      (Host.reduce FloatOps.maximumf l (constant S_ .f32 0xFF800000#32) reducesTo_S2048x2048_S2048_d1 h_S_))))

/-- The weights: the exponentials over their sum. -/
def refWeights (e : FVec F S2048x2048 .f32) : FVec F S2048x2048x1 .f32 :=
  broadcastInDim S2048x2048x1 ![0, 1] bcast_S2048x2048_S2048x2048x1_0_1
    (Host.divf e (perAgent (Host.reduceAdd e (constant S_ .f32 0x00000000#32) reducesTo_S2048x2048_S2048_d1 h_S_)))

/-- The features of each agent's scene, pooled by its weights. -/
def refPooled (x : FVec F S64x2048x32 .f32) (sid : IVec S2048 32) (w : FVec F S2048x2048x1 .f32) : FVec F S2048x32 .f32 :=
  Host.reduceAdd
    (mulf (broadcastInDim S2048x2048x32 ![0, 1, 2] bcast_S2048x2048x1_S2048x2048x32_0_1_2 w)
      (Host.gather gather_S64x2048x32_S2048x1_S2048x2048x32_12_0_n_n_0_1_1204832 x (sceneIx sid)))
    (constant S_ .f32 0x00000000#32) reducesTo_S2048x2048x32_S2048x32_d1 h_S_

/-- The reference's result from its arguments. -/
def refOut (x : FVec F S64x2048x32 .f32) (sid : IVec S2048 32) (a : FVec F S2048x128 .f32) (w1 : FVec F S32x64 .f32)
    (b1 : FVec F S64 .f32) (w2 : FVec F S128x64 .f32) (b2 w3 : FVec F S64 .f32) (b3 : FVec F S1 .f32) : FVec F S2048x32 .f32 :=
  refPooled x sid (refWeights (refExps (refLogits (refHidden x sid a w1 b1 w2 b2) w3 b3)))

/-- The operations, up to the hidden units. -/
abbrev opsA : List (HloOp τ sig (Elt F)) :=
  [ binary main_arg0 main_arg3 main_v0 ((fun l r => Host.dotGeneral dot_S64x2048x32_S32x64_S64x2048x64_2_0_01_1_n_n none l r)),
    unary main_arg4 main_v1 (broadcastInDim S1x1x64 ![2] bcast_S64_S1x1x64_2),
    unary main_v1 main_v2 (broadcastInDim S64x2048x64 ![0, 1, 2] bcast_S1x1x64_S64x2048x64_0_1_2),
    binary main_v0 main_v2 main_v3 (addf),
    binary main_arg2 main_arg5 main_v4 ((fun l r => Host.dotGeneral dot_S2048x128_S128x64_S2048x64_1_0_0_1_n_n none l r)),
    unary main_arg6 main_v5 (broadcastInDim S1x64 ![1] bcast_S64_S1x64_1),
    unary main_v5 main_v6 (broadcastInDim S2048x64 ![0, 1] bcast_S1x64_S2048x64_0_1),
    binary main_v4 main_v6 main_v7 (addf),
    nullary main_c (constantI S_ 32 0#32),
    unary main_c main_v8 (broadcastInDim S2048 ![] bcast_S_S2048),
    binary main_arg1 main_v8 main_v9 (cmpi .slt),
    nullary main_c_0 (constantI S_ 32 64#32),
    unary main_c_0 main_v10 (broadcastInDim S2048 ![] bcast_S_S2048),
    binary main_arg1 main_v10 main_v11 (addi),
    ternary main_v9 main_v11 main_arg1 main_v12 (select),
    unary main_v12 main_v13 (broadcastInDim S2048x1 ![0] bcast_S2048_S2048x1_0),
    binary main_v3 main_v13 main_v14 ((fun x i => Host.gather gather_S64x2048x64_S2048x1_S2048x2048x64_12_0_n_n_0_1_1204864 x i)),
    unary main_v7 main_v15 (broadcastInDim S2048x1x64 ![0, 2] bcast_S2048x64_S2048x1x64_0_2),
    unary main_v15 main_v16 (broadcastInDim S2048x2048x64 ![0, 1, 2] bcast_S2048x1x64_S2048x2048x64_0_1_2),
    binary main_v14 main_v16 main_v17 (addf) ]

/-- The operations, the logits. -/
abbrev opsB : List (HloOp τ sig (Elt F)) :=
  [ TRef.nullary main_call0.cst (constant S_ .f32 0x00000000#32),
    TRef.unary main_call0.cst main_call0.v0 (broadcastInDim S2048x2048x64 ![] bcast_S_S2048x2048x64),
    TRef.binary (.of main_v17) main_call0.v0 main_call0.v1 maximumf,
    binary main_v18 main_arg7 main_v19 ((fun l r => Host.dotGeneral dot_S2048x2048x64_S64_S2048x2048_2_0_01_n_n_n none l r)),
    reshape main_arg8 main_v20 (rfl : (.f32 : EltTy) = .f32) shapeCasts_S1_S_,
    unary main_v20 main_v21 (broadcastInDim S2048x2048 ![] bcast_S_S2048x2048),
    binary main_v19 main_v21 main_v22 (addf) ]

/-- The operations, the exponentials. -/
abbrev opsC : List (HloOp τ sig (Elt F)) :=
  [ nullary main_cst (constant S_ .f32 0xFF800000#32),
    binary main_v22 main_cst main_v23 ((fun x v => Host.reduce FloatOps.maximumf x v reducesTo_S2048x2048_S2048_d1 h_S_)),
    nullary main_cst_1 (constant S_ .f32 0xFF800000#32),
    unary main_cst_1 main_v24 (broadcastInDim S2048 ![] bcast_S_S2048),
    binary main_v24 main_v23 main_v25 (maximumf),
    unary main_v25 main_v26 (broadcastInDim S2048x1 ![0] bcast_S2048_S2048x1_0),
    unary main_v26 main_v27 (broadcastInDim S2048x2048 ![0, 1] bcast_S2048x1_S2048x2048_0_1),
    binary main_v22 main_v27 main_v28 (subf),
    unary main_v28 main_v29 (Host.exp) ]

/-- The operations, the weights. -/
abbrev opsD : List (HloOp τ sig (Elt F)) :=
  [ nullary main_cst_2 (constant S_ .f32 0x00000000#32),
    binary main_v29 main_cst_2 main_v30 ((fun x v => Host.reduceAdd x v reducesTo_S2048x2048_S2048_d1 h_S_)),
    unary main_v30 main_v31 (broadcastInDim S2048x1 ![0] bcast_S2048_S2048x1_0),
    unary main_v31 main_v32 (broadcastInDim S2048x2048 ![0, 1] bcast_S2048x1_S2048x2048_0_1),
    binary main_v29 main_v32 main_v33 (Host.divf),
    unary main_v33 main_v34 (broadcastInDim S2048x2048x1 ![0, 1] bcast_S2048x2048_S2048x2048x1_0_1) ]

/-- The operations, the pooling. -/
abbrev opsE : List (HloOp τ sig (Elt F)) :=
  [ nullary main_c_3 (constantI S_ 32 0#32),
    unary main_c_3 main_v35 (broadcastInDim S2048 ![] bcast_S_S2048),
    binary main_arg1 main_v35 main_v36 (cmpi .slt),
    nullary main_c_4 (constantI S_ 32 64#32),
    unary main_c_4 main_v37 (broadcastInDim S2048 ![] bcast_S_S2048),
    binary main_arg1 main_v37 main_v38 (addi),
    ternary main_v36 main_v38 main_arg1 main_v39 (select),
    unary main_v39 main_v40 (broadcastInDim S2048x1 ![0] bcast_S2048_S2048x1_0),
    binary main_arg0 main_v40 main_v41 ((fun x i => Host.gather gather_S64x2048x32_S2048x1_S2048x2048x32_12_0_n_n_0_1_1204832 x i)),
    unary main_v34 main_v42 (broadcastInDim S2048x2048x32 ![0, 1, 2] bcast_S2048x2048x1_S2048x2048x32_0_1_2),
    binary main_v42 main_v41 main_v43 (mulf),
    nullary main_cst_5 (constant S_ .f32 0x00000000#32),
    binary main_v43 main_cst_5 main_v44 ((fun x v => Host.reduceAdd x v reducesTo_S2048x2048x32_S2048x32_d1 h_S_)) ]

/-- All of them. -/
abbrev ops : List (HloOp τ sig (Elt F)) := opsA ++ (opsB ++ (opsC ++ (opsD ++ opsE)))

set_option maxHeartbeats 4000000 in
/-- The program is that straight line. -/
theorem main_eq (c : Dev nD) : main (F := F) c = seq ops := rfl

theorem after_two (l₁ l₂ : List (HloOp τ sig (Elt F))) (V : Valuation τ sig (Elt F)) : after (l₁ ++ l₂) V = after l₂ (after l₁ V) := by
  induction l₁ generalizing V with
  | nil => rfl
  | cons op l ih => exact ih _

/-- What the operations up to the hidden units write. -/
abbrev wrA : List (Ref sig .tc) := [main_v0, main_v1, main_v2, main_v3, main_v4, main_v5, main_v6, main_v7, main_c, main_v8, main_v9, main_c_0, main_v10, main_v11, main_v12, main_v13, main_v14, main_v15, main_v16, main_v17]
theorem writesA : (opsA (F := F)).Forall fun op => op.writes ⊆ (wrA.map (Proc.devRef (τ := τ) .tc)).toFinset :=
  forall_writes_sub_of_map rfl
theorem subA : (opsA (F := F)).Forall fun op => op.bufs ⊆ tcRefs τ sig :=
  ⟨binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

/-- What the operations the logits write. -/
abbrev wrB : List (Ref sig .tc) := [main_call0_cst, main_call0_v0, main_v18, main_v19, main_v20, main_v21, main_v22]
theorem writesB : (opsB (F := F)).Forall fun op => op.writes ⊆ (wrB.map (Proc.devRef (τ := τ) .tc)).toFinset :=
  forall_writes_sub_of_map rfl
theorem subB : (opsB (F := F)).Forall fun op => op.bufs ⊆ tcRefs τ sig :=
  ⟨nullary_bufs_sub .., unary_bufs_sub .., binary_bufs_sub .., binary_bufs_sub .., reshape_bufs_sub .., unary_bufs_sub .., binary_bufs_sub ..⟩

/-- What the operations the exponentials write. -/
abbrev wrC : List (Ref sig .tc) := [main_cst, main_v23, main_cst_1, main_v24, main_v25, main_v26, main_v27, main_v28, main_v29]
theorem writesC : (opsC (F := F)).Forall fun op => op.writes ⊆ (wrC.map (Proc.devRef (τ := τ) .tc)).toFinset :=
  forall_writes_sub_of_map rfl
theorem subC : (opsC (F := F)).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩

/-- What the operations the weights write. -/
abbrev wrD : List (Ref sig .tc) := [main_cst_2, main_v30, main_v31, main_v32, main_v33, main_v34]
theorem writesD : (opsD (F := F)).Forall fun op => op.writes ⊆ (wrD.map (Proc.devRef (τ := τ) .tc)).toFinset :=
  forall_writes_sub_of_map rfl
theorem subD : (opsD (F := F)).Forall fun op => op.bufs ⊆ tcRefs τ sig :=
  ⟨nullary_bufs_sub .., binary_bufs_sub .., unary_bufs_sub .., unary_bufs_sub .., binary_bufs_sub .., unary_bufs_sub ..⟩

/-- What the operations the pooling write. -/
abbrev wrE : List (Ref sig .tc) := [main_c_3, main_v35, main_v36, main_c_4, main_v37, main_v38, main_v39, main_v40, main_v41, main_v42, main_v43, main_cst_5, main_v44]
theorem writesE : (opsE (F := F)).Forall fun op => op.writes ⊆ (wrE.map (Proc.devRef (τ := τ) .tc)).toFinset :=
  forall_writes_sub_of_map rfl
theorem subE : (opsE (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub ..⟩

variable (V : Valuation τ sig (Elt F))

theorem outA : after opsA V (main_v17 : DevRef τ sig) = refHidden (V (main_arg0 : DevRef τ sig)) (V (main_arg1 : DevRef τ sig))
    (V (main_arg2 : DevRef τ sig)) (V (main_arg3 : DevRef τ sig)) (V (main_arg4 : DevRef τ sig)) (V (main_arg5 : DevRef τ sig))
    (V (main_arg6 : DevRef τ sig)) := by
  after_results
  rfl

theorem outB : after opsB V (main_v22 : DevRef τ sig) = refLogits (V (main_v17 : DevRef τ sig)) (V (main_arg7 : DevRef τ sig))
    (V (main_arg8 : DevRef τ sig)) := by
  after_results
  rfl

theorem outC : after opsC V (main_v29 : DevRef τ sig) = refExps (V (main_v22 : DevRef τ sig)) := by
  after_results
  rfl

theorem outD : after opsD V (main_v34 : DevRef τ sig) = refWeights (V (main_v29 : DevRef τ sig)) := by
  after_results
  rfl

theorem outE : after opsE V (main_v44 : DevRef τ sig) = refPooled (V (main_arg0 : DevRef τ sig)) (V (main_arg1 : DevRef τ sig))
    (V (main_v34 : DevRef τ sig)) := by
  after_results
  rfl

/-- A buffer no operation writes is as before. -/
theorem kept_all (r : Ref sig .tc) (hA : r ∉ wrA) (hB : r ∉ wrB) (hC : r ∉ wrC) (hD : r ∉ wrD) (hE : r ∉ wrE) :
    after ops V (r : DevRef τ sig) = V (r : DevRef τ sig) := by
  simp only [ops, after_two]
  rw [after_of_writes_sub opsE _ writesE hE, after_of_writes_sub opsD _ writesD hD, after_of_writes_sub opsC _ writesC hC,
    after_of_writes_sub opsB _ writesB hB, after_of_writes_sub opsA _ writesA hA]

/-- What the whole line leaves in the result. -/
theorem out_all : after ops V (main_v44 : DevRef τ sig) = refOut (V (main_arg0 : DevRef τ sig)) (V (main_arg1 : DevRef τ sig))
    (V (main_arg2 : DevRef τ sig)) (V (main_arg3 : DevRef τ sig)) (V (main_arg4 : DevRef τ sig)) (V (main_arg5 : DevRef τ sig))
    (V (main_arg6 : DevRef τ sig)) (V (main_arg7 : DevRef τ sig)) (V (main_arg8 : DevRef τ sig)) := by
  simp only [ops, after_two]
  have e0 : after opsD (after opsC (after opsB (after opsA V))) (main_arg0 : DevRef τ sig) = V (main_arg0 : DevRef τ sig) := by
    rw [after_of_writes_sub opsD _ writesD (by decide), after_of_writes_sub opsC _ writesC (by decide),
      after_of_writes_sub opsB _ writesB (by decide), after_of_writes_sub opsA _ writesA (by decide)]
  have e1 : after opsD (after opsC (after opsB (after opsA V))) (main_arg1 : DevRef τ sig) = V (main_arg1 : DevRef τ sig) := by
    rw [after_of_writes_sub opsD _ writesD (by decide), after_of_writes_sub opsC _ writesC (by decide),
      after_of_writes_sub opsB _ writesB (by decide), after_of_writes_sub opsA _ writesA (by decide)]
  have e7 : after opsA V (main_arg7 : DevRef τ sig) = V (main_arg7 : DevRef τ sig) := after_of_writes_sub opsA _ writesA (by decide)
  have e8 : after opsA V (main_arg8 : DevRef τ sig) = V (main_arg8 : DevRef τ sig) := after_of_writes_sub opsA _ writesA (by decide)
  rw [outE, e0, e1, outD, outC, outB, e7, e8, outA]
  rfl

theorem all_sub : (ops : List (HloOp τ sig (Elt F))).Forall fun op => op.bufs ⊆ tcRefs τ sig := by
  rw [List.forall_iff_forall_mem]
  intro op h
  simp only [ops, List.mem_append] at h
  rcases h with h | h | h | h | h
  · exact List.forall_iff_forall_mem.mp subA op h
  · exact List.forall_iff_forall_mem.mp subB op h
  · exact List.forall_iff_forall_mem.mp subC op h
  · exact List.forall_iff_forall_mem.mp subD op h
  · exact List.forall_iff_forall_mem.mp subE op h

theorem no_scoped_refs : (Finset.univ.filter fun b : Ref sig .tc => b.isScoped) = ∅ := by decide
theorem no_scoped_sems : (Finset.univ.filter fun sm : SemLoc sig => sm.isScoped .tc) = ∅ := by decide

/-- Every execution of the reference leaves `refOut` of its arguments in the result, the arguments as they were and every
    semaphore at zero. -/
theorem run_reference (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v44)
          = refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0 := by
  have kept : ∀ (c : Dev nD) (r : Ref sig .tc) (_ : r ∉ wrA) (_ : r ∉ wrB) (_ : r ∉ wrC) (_ : r ∉ wrD) (_ : r ∉ wrE),
      after (ops (F := F)) (launchContents m c) (r : DevRef τ sig) = m ((c.tc : Thread nD τ).loc r) :=
    fun c r hA hB hC hD hE => kept_all (launchContents m c) r hA hB hC hD hE
  refine (θ_run defs _ _).mono (fun r h => ⟨fun c => ⟨(h c main_v44).trans (out_all _), ?_, ?_, ?_, ?_, ?_, ?_, ?_, ?_, ?_⟩,
      sem_eq_zero_of_no_sems (by decide) r.2⟩)
    (run_seq no_scoped_refs no_scoped_sems defs main (fun _ => ops) main_eq (fun _ => all_sub) m ρ)
  all_goals exact (h c _).trans (kept c _ (by decide) (by decide) (by decide) (by decide) (by decide))

end Cert.ReferenceIdeal.Gen

end
-- ==== Proof.EntryValues.lean ====
/-
  What the second call is entered at, entry by entry: the first-layer block of each scene and the second-layer row of each
  agent as the first call leaves them, in terms of the arguments.
-/
module

public import proofs.«01_k».proof.Proof.Ends

@[expose] public section

set_option maxRecDepth 16384

noncomputable section

namespace Cert.KernelIdeal.Gen

open Idealize.ShloMosaic Idealize.ShloMosaic.TcCoe Idealize.ShloMosaic.Pipeline
open Cert.Routing Cert.Proof

variable {F : FTy → Type} [FloatOps F]

/-! ### Where each scene's blocks lie -/

theorem first0 : ∀ t : Fin cfg0.N, cc0_transform_0 (grid0.coords t) = ![t.val, 0, 0] :=
  (by decide +kernel : ∀ t : Fin grid0.N, cc0_transform_0 (grid0.coords t) = ![t.val, 0, 0])
theorem first1 : ∀ t : Fin cfg0.N, cc0_transform_1 (grid0.coords t) = ![t.val, 0, 0] :=
  (by decide +kernel : ∀ t : Fin grid0.N, cc0_transform_1 (grid0.coords t) = ![t.val, 0, 0])
theorem first7 : ∀ t : Fin cfg0.N, cc0_transform_7 (grid0.coords t) = ![t.val, 0, 0] :=
  (by decide +kernel : ∀ t : Fin grid0.N, cc0_transform_7 (grid0.coords t) = ![t.val, 0, 0])
theorem first8 : ∀ t : Fin cfg0.N, cc0_transform_8 (grid0.coords t) = ![t.val, 0, 0] :=
  (by decide +kernel : ∀ t : Fin grid0.N, cc0_transform_8 (grid0.coords t) = ![t.val, 0, 0])

theorem emb0 (t : Fin 64) (n : Fin 2048) (k : Fin 32) : ((cfg0.win 0).blk t).view.emb (ix3 (0 : Fin 1) n k) = ix3 t n k := by
  refine funext fun a => Fin.ext ((Window.rect_emb_val_off (cfg0.win 0) t _ a).trans ?_)
  rw [show (cfg0.win 0).index t a = ![t.val, 0, 0] a from congrFun (first0 t) a]
  match a with
  | ⟨0, _⟩ => show t.val * 1 + 0 = t.val; omega
  | ⟨1, _⟩ => show 0 * 2048 + n.val = n.val; omega
  | ⟨2, _⟩ => show 0 * 32 + k.val = k.val; omega

theorem emb1 (t : Fin 64) (n : Fin 32) (k : Fin 128) : ((cfg0.win 1).blk t).view.emb (ix3 (0 : Fin 1) n k) = ix3 t n k := by
  refine funext fun a => Fin.ext ((Window.rect_emb_val_off (cfg0.win 1) t _ a).trans ?_)
  rw [show (cfg0.win 1).index t a = ![t.val, 0, 0] a from congrFun (first1 t) a]
  match a with
  | ⟨0, _⟩ => show t.val * 1 + 0 = t.val; omega
  | ⟨1, _⟩ => show 0 * 32 + n.val = n.val; omega
  | ⟨2, _⟩ => show 0 * 128 + k.val = k.val; omega

theorem emb7 (t : Fin 64) (n : Fin 64) (k : Fin 2048) : ((cfg0.win 7).blk t).view.emb (ix3 (0 : Fin 1) n k) = ix3 t n k := by
  refine funext fun a => Fin.ext ((Window.rect_emb_val_off (cfg0.win 7) t _ a).trans ?_)
  rw [show (cfg0.win 7).index t a = ![t.val, 0, 0] a from congrFun (first7 t) a]
  match a with
  | ⟨0, _⟩ => show t.val * 1 + 0 = t.val; omega
  | ⟨1, _⟩ => show 0 * 64 + n.val = n.val; omega
  | ⟨2, _⟩ => show 0 * 2048 + k.val = k.val; omega

theorem emb8 (t : Fin 64) (n : Fin 32) (k : Fin 64) : ((cfg0.win 8).blk t).view.emb (ix3 (0 : Fin 1) n k) = ix3 t n k := by
  refine funext fun a => Fin.ext ((Window.rect_emb_val_off (cfg0.win 8) t _ a).trans ?_)
  rw [show (cfg0.win 8).index t a = ![t.val, 0, 0] a from congrFun (first8 t) a]
  match a with
  | ⟨0, _⟩ => show t.val * 1 + 0 = t.val; omega
  | ⟨1, _⟩ => show 0 * 32 + n.val = n.val; omega
  | ⟨2, _⟩ => show 0 * 64 + k.val = k.val; omega

variable (V : Valuation τ sig (Elt F)) (c : Dev nD)

/-! ### What the first call reads at a point -/

theorem blk0_0 (t : Fin 64) (n : Fin 2048) (k : Fin 32) : blk0 V 0 t (ix3 (0 : Fin 1) n k) = (V main_arg0 : S64x2048x32.Idx → F .f32) (ix3 t n k) :=
  congrArg (V main_arg0 : S64x2048x32.Idx → F .f32) (emb0 t n k)

theorem blk0_1 (t : Fin 64) (n : Fin 32) (k : Fin 128) : blk0 V 1 t (ix3 (0 : Fin 1) n k) = (V main_v0 : S64x32x128.Idx → F .f32) (ix3 t n k) :=
  congrArg (V main_v0 : S64x32x128.Idx → F .f32) (emb1 t n k)

theorem blk0_3 (t : Fin cfg0.N) : blk0 V 3 t = V main_arg3 := by
  refine funext fun j => congrArg (V main_arg3) (funext fun i => Fin.ext ?_)
  fin_cases i <;> simp <;> rfl

theorem blk0_4 (t : Fin cfg0.N) : blk0 V 4 t = V main_v2 := by
  refine funext fun j => congrArg (V main_v2) (funext fun i => Fin.ext ?_)
  fin_cases i <;> simp <;> rfl

theorem blk0_5 (t : Fin cfg0.N) : blk0 V 5 t = V main_arg5 := by
  refine funext fun j => congrArg (V main_arg5) (funext fun i => Fin.ext ?_)
  fin_cases i <;> simp <;> rfl

theorem blk0_6 (t : Fin cfg0.N) : blk0 V 6 t = V main_v3 := by
  refine funext fun j => congrArg (V main_v3) (funext fun i => Fin.ext ?_)
  fin_cases i <;> simp <;> rfl

/-! ### What it leaves -/

theorem flush7 : ∀ t : Fin cfg0.N, (cfg0.win 7).flush t = true := by decide +kernel
theorem flush8 : ∀ t : Fin cfg0.N, (cfg0.win 8).flush t = true := by decide +kernel

theorem apart (w : Fin cfg0.W) (e : ∀ u : Fin cfg0.N, ∃ a, (cfg0.win w).index u a = u.val ∧ ∀ u', (cfg0.win w).index u' a = u'.val) :
    ∀ t t' : Fin cfg0.N, (cfg0.win w).flush t = true → (cfg0.win w).flush t' = true → t ≠ t' →
      Disjoint ((cfg0.win w).blk t).view.set ((cfg0.win w).blk t').view.set :=
  Window.hdisj_of_index_inj (cfg0.win w) fun t t' _ _ h => by
    obtain ⟨a, h1, h2⟩ := e t
    exact Fin.ext (h1.symm.trans ((congrFun h a).trans (h2 t')))

theorem past0_places (s : Fin 64) (e : Fin 64) (n : Fin 2048) :
    (past0 V c main_v4_0 : S64x64x2048.Idx → F .bf16) (ix3 s e n) = k0_pay1 (V main_arg3) (blk0 V 0 s) (V main_v2) (ix3 0 e n) := by
  refine (congrFun (past0_arr V c 7) (ix3 s e n)).trans ?_
  rw [← emb7, ← blk0_3 V s, ← blk0_4 V s]
  exact ((dat0 V c (keeps0 c)).arrAt_emb_eq_flushed 7
    (apart 7 fun u => ⟨0, congrFun (first7 u) 0, fun u' => congrFun (first7 u') 0⟩) s (flush7 s) (ix3 0 e n)).trans rfl

theorem past0_agents (s : Fin 64) (i : Fin 32) (e : Fin 64) :
    (past0 V c main_v4_1 : S64x32x64.Idx → F .f32) (ix3 s i e) = k0_pay2 (blk0 V 1 s) (V main_arg5) (V main_v3) (ix3 0 i e) := by
  refine (congrFun (past0_arr V c 8) (ix3 s i e)).trans ?_
  rw [← emb8, ← blk0_5 V s, ← blk0_6 V s]
  exact ((dat0 V c (keeps0 c)).arrAt_emb_eq_flushed 8
    (apart 8 fun u => ⟨0, congrFun (first8 u) 0, fun u' => congrFun (first8 u') 0⟩) s (flush8 s) (ix3 0 i e)).trans rfl

/-! ### What the second call is entered at -/

theorem entry1_v4_0 : entry1 V c main_v4_0 = past0 V c main_v4_0 :=
  StableHlo.after_of_writes_sub hostOps1 _ hostOps1_writes (by decide)

theorem entry1_arg0 : entry1 V c main_arg0 = V main_arg0 :=
  (StableHlo.after_of_writes_sub hostOps1 _ hostOps1_writes (by decide)).trans (past0_kept V c main_arg0 (by decide))

theorem entry1_v5 : (entry1 V c main_v5 : S2048x64.Idx → F .f32)
    = shapeCast S2048x64 (past0 V c main_v4_1 : S64x32x64.Idx → F .f32) shapeCasts_S64x32x64_S2048x64 := by
  unfold entry1; after_results; rfl

theorem entry1_v11 : (entry1 V c main_v11 : S1x64.Idx → F .bf16)
    = truncf .bf16 (shapeCast S1x64 (past0 V c main_arg7 : S64.Idx → F .f32) shapeCasts_S64_S1x64) bitsLt_bf16_f32 := by
  unfold entry1; after_results; rfl

variable (m : (ℓ : Loc nD τ sig) → Buf (Elt F) ℓ)

theorem V1_v0 : (V1 m c main_v0 : S64x32x128.Idx → F .f32)
    = shapeCast S64x32x128 (m ((c : Thread nD τ).loc main_arg2) : S2048x128.Idx → F .f32) shapeCasts_S2048x128_S64x32x128 := by
  unfold V1; after_results; rfl

theorem V1_v2 : (V1 m c main_v2 : S64x1.Idx → F .f32)
    = shapeCast S64x1 (m ((c : Thread nD τ).loc main_arg4) : S64.Idx → F .f32) shapeCasts_S64_S64x1 := by
  unfold V1; after_results; rfl

theorem V1_v3 : (V1 m c main_v3 : S1x64.Idx → F .f32)
    = shapeCast S1x64 (m ((c : Thread nD τ).loc main_arg6) : S64.Idx → F .f32) shapeCasts_S64_S1x64 := by
  unfold V1; after_results; rfl

end Cert.KernelIdeal.Gen

end
-- ==== Proof.Softmax.lean ====
/-
  Softmax over the extended reals, where every entry is a real number: a pooled average of exponentials does not depend on
  what is taken off the logits first, nor on a constant added to them, and dividing the pooled sum by the total is pooling
  the quotients.
-/
module

public import Idealize.ShloMosaic.PureOps.Ideal
public import Idealize.ShloMosaic.PureOps.Ideal.Laws

@[expose] public section

noncomputable section

namespace Cert.Proof

open Idealize.ShloMosaic

/-- The extended real is a real number. -/
def IsReal (x : EReal) : Prop := ∃ r : ℝ, x = (r : EReal)

/-- The word of minus infinity denotes the least extended real. -/
theorem ofBits_negInf : Ideal.ofBits .f32 0xFF800000#32 = ⊥ := by simp [Ideal.ofBits, Ideal.ieee]

theorem IsReal.zero : IsReal 0 := ⟨0, rfl⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.max {x y : EReal} (hx : IsReal x) (hy : IsReal y) : IsReal (Max.max x y) := by
  rcases max_choice x y with h | h <;> rw [h] <;> assumption

theorem IsReal.sum {ι : Type} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

/-- The greatest of a family of real numbers that is not empty is a real number. -/
theorem IsReal.fold_max {ι : Type} (s : Finset ι) (f : ι → EReal) (h : ∀ k, IsReal (f k)) (hs : s.Nonempty) :
    IsReal (s.fold Max.max ⊥ f) := by
  classical
  induction hs using Finset.Nonempty.cons_induction with
  | singleton a => rw [Finset.fold_singleton, max_bot_right]; exact h a
  | cons a s ha hs ih => rw [Finset.fold_cons]; exact (h a).max ih

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The pooled average, over the reals: the shift cancels. -/
theorem pooled_shift {n : ℕ} [NeZero n] (l X : Fin n → ℝ) (b M M' : ℝ) :
    (∑ k, Real.exp (l k - M) * X k) * (1 / ∑ k, Real.exp (l k - M))
      = ∑ k, Real.exp (l k + b - M') * (1 / ∑ k, Real.exp (l k + b - M')) * X k := by
  have hc : ∀ k, Real.exp (l k + b - M') = Real.exp (l k - M) * Real.exp (b + M - M') := fun k => by
    rw [← Real.exp_add]; congr 1; ring
  have hS : 0 < ∑ k, Real.exp (l k - M) := Finset.sum_pos (fun k _ => Real.exp_pos _) ⟨0, Finset.mem_univ _⟩
  have hp : 0 < Real.exp (b + M - M') := Real.exp_pos _
  simp only [hc]
  rw [← Finset.sum_mul, Finset.sum_mul]
  refine Finset.sum_congr rfl fun k _ => ?_
  field_simp

/-- The pooled average of a chunk is the reference's weighted sum. -/
theorem softmax_shift {n : ℕ} [NeZero n] (l X : Fin n → EReal) (b M M' : EReal) (hl : ∀ k, IsReal (l k)) (hX : ∀ k, IsReal (X k))
    (hb : IsReal b) (hM : IsReal M) (hM' : IsReal M') :
    Ideal.div (∑ k, Ideal.exp (l k - M) * X k) (∑ k, Ideal.exp (l k - M))
      = ∑ k, Ideal.div (Ideal.exp (l k + b - M')) (∑ k, Ideal.exp (l k + b - M')) * X k := by
  choose l' hl' using hl
  choose X' hX' using hX
  obtain ⟨b', rfl⟩ := hb
  obtain ⟨m, rfl⟩ := hM
  obtain ⟨m', rfl⟩ := hM'
  have e1 : ∀ k, Ideal.exp (l k - (m : EReal)) = (Real.exp (l' k - m) : EReal) := fun k => by
    rw [hl' k, ← EReal.coe_sub]; rfl
  have e2 : ∀ k, Ideal.exp (l k + (b' : EReal) - (m' : EReal)) = (Real.exp (l' k + b' - m') : EReal) := fun k => by
    rw [hl' k, ← EReal.coe_add, ← EReal.coe_sub]; rfl
  have h1 : (∑ k, Real.exp (l' k - m)) ≠ 0 := (Finset.sum_pos (fun k _ => Real.exp_pos _) ⟨0, Finset.mem_univ _⟩).ne'
  have h2 : (∑ k, Real.exp (l' k + b' - m')) ≠ 0 := (Finset.sum_pos (fun k _ => Real.exp_pos _) ⟨0, Finset.mem_univ _⟩).ne'
  simp only [e1, e2, hX', ← EReal.coe_mul, ← coe_sum, Ideal.div_coe h1, Ideal.div_coe h2]
  exact congrArg _ (pooled_shift l' X' b' m m')

end Cert.Proof

end
-- ==== Proof.ChunkIdeal.lean ====
/-
  The sixteen results of a chunk over the extended reals: row `i` scores each of the scene's 2048 pedestrians by a rectified
  sum over 64 hidden units, and its result is the features averaged with the exponentials of the scores less their greatest.
-/
module

public import proofs.«01_k».proof.Proof.AttendStep
public import proofs.«01_k».proof.Proof.Softmax
public import Idealize.ShloMosaic.Lib.Pointwise

@[expose] public section

set_option maxRecDepth 16384

noncomputable section

namespace Cert.KernelIdeal.Gen

open Idealize.ShloMosaic Idealize.ShloMosaic.TcCoe Cert.Proof
open Cert.KernelIdeal.Facts₀

section Shape

variable {F : FTy → Type} [FloatOps F]

theorem slices_col (n : Fin 16) : S64x16.Slices ![0, n.val] S64x1 := by
  revert n; decide

/-- Row `n`'s scores, one for each pedestrian of the scene. -/
def rowLogit (Gt : FVec F S64x16 .bf16) (W : FVec F S1x64 .bf16) (B : FVec F S64x2048 .bf16) (n : Fin 16) : FVec F S1x2048 .f32 :=
  matmul dot_S1x64_S64x2048_S1x2048_1_0_0_1_n_n none W
    (maximumf (addf B (broadcastTo S64x2048 (extractStridedSlice S64x1 ![0, n.val] Gt (slices_col n)) broadcasts_S64x1_S64x2048))
      (broadcast S64x2048 (Scalar.ofBits .bf16 0x0000#16)))
    (constant S1x2048 .f32 0x00000000#32)

/-- The scores of the chunk's sixteen rows. -/
def chunkLogits (Gt : FVec F S64x16 .bf16) (W : FVec F S1x64 .bf16) (B : FVec F S64x2048 .bf16) : FVec F S16x2048 .f32 :=
  concatenate S16x2048 0 (List.ofFn fun n : Fin 16 => (⟨S1x2048, rowLogit Gt W B n⟩ : (s : Shape) × (s.Idx → F .f32)))
    concatenates_S1x2048_S1x2048_S1x2048_S1x2048_S1x2048_S1x2048_S1x2048_S1x2048_S1x2048_S1x2048_S1x2048_S1x2048_S1x2048_S1x2048_S1x2048_S1x2048_S16x2048_d0

/-- Each row's greatest score. -/
def rowMax (L : FVec F S16x2048 .f32) : FVec F S16 .f32 :=
  multiReduction .maximumf [1] S16 L 0xFF800000#32 reduces_S16x2048_S16 (.inl rfl) rfl

/-- The scores less their row's greatest. -/
def lessMax (L : FVec F S16x2048 .f32) : FVec F S16x2048 .f32 :=
  subf L (broadcastTo S16x2048 (shapeCast S16x1 (rowMax L) shapeCasts_S16_S16x1) broadcasts_S16x1_S16x2048)

theorem chunkRes_eq (G : S16x64.Idx → F .f32) (W : S1x64.Idx → F .bf16) (B : S1x64x2048.Idx → F .bf16) (X : S1x2048x32.Idx → F .f32) :
    chunkRes G W B X = k1_pay33 (lessMax (chunkLogits (k1_pay18 G) (k1_pay19 W) (k1_pay20 B))) X := rfl

end Shape

/-- The score of pedestrian `n` for row `i`. -/
def score (G : S16x64.Idx → EReal) (W : S1x64.Idx → EReal) (B : S1x64x2048.Idx → EReal) (i : Fin 16) (n : Fin 2048) : EReal :=
  ∑ e : Fin 64, W (ix2 0 e) * max (B (ix3 0 e n) + G (ix2 i e)) 0

theorem rowLogit_at (G : S16x64.Idx → EReal) (W : S1x64.Idx → EReal) (B : S1x64x2048.Idx → EReal) (i : Fin 16) (n : Fin 2048) :
    (rowLogit (F := Ideal) (k1_pay18 (F := Ideal) G) (k1_pay19 (F := Ideal) W) (k1_pay20 (F := Ideal) B) i (ix2 0 n) : EReal) = score G W B i n := by
  pointwise [rowLogit, k1_pay18, k1_pay19, k1_pay20, score]

theorem chunkLogits_at (G : S16x64.Idx → EReal) (W : S1x64.Idx → EReal) (B : S1x64x2048.Idx → EReal) (i : Fin 16) (n : Fin 2048) :
    (chunkLogits (F := Ideal) (k1_pay18 (F := Ideal) G) (k1_pay19 (F := Ideal) W) (k1_pay20 (F := Ideal) B) (ix2 i n) : EReal) = score G W B i n := by
  rw [← rowLogit_at]
  refine (concatenate_ofFn_unit_apply' (t := S16x2048) (s₁ := S1x2048) 0
    (fun n => rowLogit (F := Ideal) (k1_pay18 (F := Ideal) G) (k1_pay19 (F := Ideal) W) (k1_pay20 (F := Ideal) B) n)
    concatenates_S1x2048_S1x2048_S1x2048_S1x2048_S1x2048_S1x2048_S1x2048_S1x2048_S1x2048_S1x2048_S1x2048_S1x2048_S1x2048_S1x2048_S1x2048_S1x2048_S16x2048_d0
    rfl (ix2 i n)).trans ?_
  refine congrArg (rowLogit (F := Ideal) _ _ _ i) ?_
  idx_ext

theorem pooled_at (L : S16x2048.Idx → EReal) (X : S1x2048x32.Idx → EReal) (i : Fin 16) (d : Fin 32) :
    (k1_pay33 (F := Ideal) (lessMax (F := Ideal) L) X (ix2 i d) : EReal)
      = Ideal.div (∑ n : Fin 2048, Ideal.exp (L (ix2 i n) - rowMax (F := Ideal) L (Idealize.ShloMosaic.ix1 i)) * X (ix3 0 n d))
          (∑ n : Fin 2048, Ideal.exp (L (ix2 i n) - rowMax (F := Ideal) L (Idealize.ShloMosaic.ix1 i))) := by
  pointwise [k1_pay33, lessMax]

theorem rowMax_real (L : S16x2048.Idx → EReal) (i : Fin 16) (hL : ∀ n : Fin 2048, IsReal (L (ix2 i n))) :
    IsReal (rowMax (F := Ideal) L (Idealize.ShloMosaic.ix1 i)) := by
  have h : (rowMax (F := Ideal) L (Idealize.ShloMosaic.ix1 i) : EReal) = (Finset.univ : Finset (Fin 2048)).fold max ⊥ fun n => L (ix2 i n) := by
    pointwise [rowMax]
    rw [ofBits_negInf]
  rw [h]
  exact IsReal.fold_max _ _ (fun n => hL _) ⟨0, Finset.mem_univ _⟩

end Cert.KernelIdeal.Gen

end
-- ==== Proof.Lookup.lean ====
/-
  A lookup along the leading axis of a rank-3 array: block `a` of the result is the operand's block at the number the
  index column names, held inside the axis.
-/
module

public import Idealize.ShloMosaic.Lib.Pointwise
public import proofs.«01_k».proof.Proof.Reference

@[expose] public section

set_option maxRecDepth 16384

noncomputable section

namespace Cert.ReferenceIdeal.Gen

open Idealize.ShloMosaic Idealize.ShloMosaic.TcCoe
open Cert.ReferenceIdeal.Facts₀

/-- The dimension numbers of a lookup of whole blocks. -/
abbrev blockDims (N P C B : ℕ) (wf : GatherDims.WF ⟨3, ![N, P, C]⟩ ⟨2, ![B, 1]⟩ ⟨3, ![B, P, C]⟩ [1, 2] [0] [] [0] [] 1 ![1, P, C]) :
    GatherDims ⟨3, ![N, P, C]⟩ ⟨2, ![B, 1]⟩ ⟨3, ![B, P, C]⟩ where
  offsetDims := [1, 2]
  collapsedSliceDims := [0]
  operandBatchingDims := []
  startIndicesBatchingDims := []
  startIndexMap := [0]
  indexVectorDim := 1
  sliceSizes := ![1, P, C]
  wf := wf

theorem lookup_at {α : Type} {N P C B : ℕ} (hN : 0 < N)
    (wf : GatherDims.WF ⟨3, ![N, P, C]⟩ ⟨2, ![B, 1]⟩ ⟨3, ![B, P, C]⟩ [1, 2] [0] [] [0] [] 1 ![1, P, C])
    (x : (⟨3, ![N, P, C]⟩ : Shape).Idx → α) (idx : IVec ⟨2, ![B, 1]⟩ 32) (a : Fin B) (p : Fin P) (e : Fin C) :
    Host.gather (blockDims N P C B wf) x idx (ix3 a p e) = x (ix3 ⟨min (idx (ix2 a 0)).toInt.toNat (N - 1), by omega⟩ p e) := by
  unfold Host.gather
  refine congrArg x (funext fun k => Fin.ext ?_)
  show (blockDims N P C B wf).start (ix3 a p e) idx k + (blockDims N P C B wf).batchCoord (ix3 a p e) k
      + (blockDims N P C B wf).offCoord (ix3 a p e) k = _
  rw [GatherDims.batchCoord_eq_zero _ _ _ List.not_mem_nil]
  have hk : k = (0 : Fin 3) ∨ k = (1 : Fin 3) ∨ k = (2 : Fin 3) := by
    match k with
    | ⟨0, _⟩ => exact .inl rfl
    | ⟨1, _⟩ => exact .inr (.inl rfl)
    | ⟨2, _⟩ => exact .inr (.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (blockDims N P C B wf).startIndexMap from List.mem_singleton.mpr rfl)]
    have hsi : (blockDims N P C B wf).siIdx (ix3 a p e) ⟨List.idxOf (0 : Fin 3) (blockDims N P C B wf).startIndexMap,
        List.idxOf_lt_length_iff.2 (List.mem_singleton.mpr rfl)⟩ = ix2 a 0 := by
      funext b; refine Fin.ext ?_
      match b with
      | ⟨0, _⟩ => rfl
      | ⟨1, _⟩ => rfl
    rw [hsi]
    rfl
  · rw [show (blockDims N P C B wf).start (ix3 a p e) idx 1 = 0 from dif_neg (by simp)]
    simp only [Nat.zero_add]
    rfl
  · rw [show (blockDims N P C B wf).start (ix3 a p e) idx 2 = 0 from dif_neg (by simp)]
    simp only [Nat.zero_add]
    rfl

end Cert.ReferenceIdeal.Gen

end
-- ==== Proof.RefValue.lean ====
/-
  The reference's result over the extended reals, entry by entry: agent `r` scores each place `n` of its scene by a
  rectified sum over 64 hidden units plus a constant, and its result is the scene's features weighted by the softmax.
-/
module

public import proofs.«01_k».proof.Proof.Lookup
public import proofs.«01_k».proof.Proof.Softmax

@[expose] public section

set_option maxRecDepth 16384

noncomputable section

namespace Cert.ReferenceIdeal.Gen

open Idealize.ShloMosaic Idealize.ShloMosaic.TcCoe Cert.Proof
open Cert.ReferenceIdeal.Facts₀

variable (x : S64x2048x32.Idx → EReal) (sid : IVec S2048 32) (a : S2048x128.Idx → EReal) (w1 : S32x64.Idx → EReal)
  (b1 : S64.Idx → EReal) (w2 : S128x64.Idx → EReal) (b2 w3 : S64.Idx → EReal) (b3 : S1.Idx → EReal)

/-- Hidden unit `e` of place `n` of scene `s`. -/
def placeUnit (s : Fin 64) (n : Fin 2048) (e : Fin 64) : EReal := (∑ k : Fin 32, x (ix3 s n k) * w1 (ix2 k e)) + b1 (ix1 e)

/-- Hidden unit `e` of agent `r`. -/
def agentUnit (r : Fin 2048) (e : Fin 64) : EReal := (∑ k : Fin 128, a (ix2 r k) * w2 (ix2 k e)) + b2 (ix1 e)

/-- The score of place `n` of scene `s` for agent `r`, without the constant. -/
def refScore (s : Fin 64) (r n : Fin 2048) : EReal :=
  ∑ e : Fin 64, max (placeUnit x w1 b1 s n e + agentUnit a w2 b2 r e) 0 * w3 (ix1 e)

/-- A scene number in range is taken as it is. -/
theorem sceneIx_at (r : Fin 2048) (h : (sid (ix1 r)).toNat < 64) : min (sceneIx sid (ix2 r 0)).toInt.toNat (64 - 1) = (sid (ix1 r)).toNat := by
  have hi : (sid (ix1 r)).toInt = ((sid (ix1 r)).toNat : ℤ) := BitVec.toInt_eq_toNat_of_lt (by omega)
  have hn : IntOp.cmpi .slt (sid (ix1 r)) 0#32 = 0#1 := by
    show BitVec.ofBool ((sid (ix1 r)).slt 0#32) = 0#1
    rw [show (sid (ix1 r)).slt 0#32 = false by rw [BitVec.slt_eq_decide, hi]; simp]
    rfl
  have e : sceneIx sid (ix2 r 0) = sid (ix1 r) := by
    pointwise [sceneIx, hn]
  rw [e, hi, Int.toNat_natCast]
  omega

/-! ### The hidden units and the scores -/

/-- The hidden units of every place of every scene. -/
def places : S64x2048x64.Idx → EReal :=
  addf (F := Ideal) (φ := .f32) (Host.dotGeneral (F := Ideal) (φ₁ := .f32) (φ₂ := .f32) dot_S64x2048x32_S32x64_S64x2048x64_2_0_01_1_n_n none x w1)
    (broadcastInDim S64x2048x64 ![0, 1, 2] bcast_S1x1x64_S64x2048x64_0_1_2 (broadcastInDim S1x1x64 ![2] bcast_S64_S1x1x64_2 b1))

/-- The hidden units of every agent, repeated at every place. -/
def agents : S2048x2048x64.Idx → EReal :=
  broadcastInDim S2048x2048x64 ![0, 1, 2] bcast_S2048x1x64_S2048x2048x64_0_1_2
    (broadcastInDim S2048x1x64 ![0, 2] bcast_S2048x64_S2048x1x64_0_2
      (addf (F := Ideal) (φ := .f32) (Host.dotGeneral (F := Ideal) (φ₁ := .f32) (φ₂ := .f32) dot_S2048x128_S128x64_S2048x64_1_0_0_1_n_n none a w2)
        (broadcastInDim S2048x64 ![0, 1] bcast_S1x64_S2048x64_0_1 (broadcastInDim S1x64 ![1] bcast_S64_S1x64_1 b2))))

theorem places_at (s : Fin 64) (n : Fin 2048) (e : Fin 64) : places x w1 b1 (ix3 s n e) = placeUnit x w1 b1 s n e := by
  pointwise [places, placeUnit]

theorem agents_at (r n : Fin 2048) (e : Fin 64) : agents a w2 b2 (ix3 r n e) = agentUnit a w2 b2 r e := by
  pointwise [agents, agentUnit]

theorem hidden_at (r n : Fin 2048) (e : Fin 64) (s : Fin 64) (h : (sid (ix1 r)).toNat = s.val) :
    (refHidden (F := Ideal) x sid a w1 b1 w2 b2 (ix3 r n e) : EReal) = placeUnit x w1 b1 s n e + agentUnit a w2 b2 r e := by
  have hl : (Host.gather gather_S64x2048x64_S2048x1_S2048x2048x64_12_0_n_n_0_1_1204864 (places x w1 b1) (sceneIx sid) (ix3 r n e) : EReal)
      = places x w1 b1 (ix3 s n e) := by
    refine (lookup_at (by decide) gather_S64x2048x64_S2048x1_S2048x2048x64_12_0_n_n_0_1_1204864_wf (places x w1 b1) (sceneIx sid) r n e).trans ?_
    exact congrArg (fun k => places x w1 b1 (ix3 k n e)) (Fin.ext ((sceneIx_at sid r (h ▸ s.isLt)).trans h))
  rw [← places_at, ← agents_at a w2 b2 r n, ← hl]
  rfl

theorem logit_at (H : S2048x2048x64.Idx → EReal) (r n : Fin 2048) :
    (refLogits (F := Ideal) H w3 b3 (ix2 r n) : EReal) = (∑ e : Fin 64, max (H (ix3 r n e)) 0 * w3 (ix1 e)) + b3 (ix1 0) := by
  pointwise [refLogits]

theorem score_at (r n : Fin 2048) (s : Fin 64) (h : (sid (ix1 r)).toNat = s.val) :
    (refLogits (F := Ideal) (refHidden (F := Ideal) x sid a w1 b1 w2 b2) w3 b3 (ix2 r n) : EReal)
      = refScore x a w1 b1 w2 b2 w3 s r n + b3 (ix1 0) := by
  rw [logit_at]
  simp only [hidden_at x sid a w1 b1 w2 b2 r n _ s h, refScore]

/-! ### The softmax -/

/-- An agent's greatest logit. -/
def topOf (l : S2048x2048.Idx → EReal) (r : Fin 2048) : EReal := (Finset.univ : Finset (Fin 2048)).fold max ⊥ fun k => l (ix2 r k)

theorem max_at (l : S2048x2048.Idx → EReal) (r : Fin 2048) :
    (Host.reduce (max : EReal → EReal → EReal) l (constant (F := Ideal) S_ .f32 0xFF800000#32) reducesTo_S2048x2048_S2048_d1 h_S_ (ix1 r) : EReal)
      = topOf l r := by
  have h : S2048x2048.Reduces [1] S2048 := by decide
  have e : (constant (F := Ideal) S_ .f32 0xFF800000#32 (Shape.Idx.first h_S_) : EReal) = ⊥ := ofBits_negInf
  refine (Host.reduce_eq_fold_single (max : EReal → EReal → EReal) l _ _ h _ _).trans ?_
  rw [e]
  refine congrArg (fun g => (Finset.univ : Finset (Fin 2048)).fold max ⊥ g) (funext fun k => ?_)
  refine congrArg l ?_
  idx_ext

/-- The exponentials of the logits less a value for each agent. -/
def expsOf (l : S2048x2048.Idx → EReal) (M : S2048.Idx → EReal) : S2048x2048.Idx → EReal :=
  Host.exp (F := Ideal) (φ := .f32) (subf (F := Ideal) (φ := .f32) l (perAgent (F := Ideal)
    (maximumf (F := Ideal) (φ := .f32) (broadcastInDim S2048 ![] bcast_S_S2048 (constant (F := Ideal) S_ .f32 0xFF800000#32)) M)))

theorem expsOf_at (l : S2048x2048.Idx → EReal) (M : S2048.Idx → EReal) (r n : Fin 2048) :
    expsOf l M (ix2 r n) = Ideal.exp (l (ix2 r n) - M (ix1 r)) := by
  pointwise [expsOf, perAgent]
  rw [ofBits_negInf, max_bot_left]

theorem exps_eq (l : S2048x2048.Idx → EReal) : refExps (F := Ideal) l
    = expsOf l (Host.reduce (FloatOps.maximumf (F := Ideal) (φ := .f32)) l (constant (F := Ideal) S_ .f32 0xFF800000#32) reducesTo_S2048x2048_S2048_d1 h_S_) := by
  unfold refExps expsOf; rfl

theorem exps_at (l : S2048x2048.Idx → EReal) (r n : Fin 2048) :
    (refExps (F := Ideal) l (ix2 r n) : EReal) = Ideal.exp (l (ix2 r n) - topOf l r) := by
  rw [exps_eq, expsOf_at]
  exact congrArg (fun t => Ideal.exp (l (ix2 r n) - t)) (max_at l r)

theorem weights_at (e : S2048x2048.Idx → EReal) (r n : Fin 2048) :
    (refWeights (F := Ideal) e (ix3 r n 0) : EReal) = Ideal.div (e (ix2 r n)) (∑ k : Fin 2048, e (ix2 r k)) := by
  pointwise [refWeights, perAgent]

/-! ### The pooling -/

/-- Features pooled by weights. -/
def pooledOf (w : S2048x2048x1.Idx → EReal) (X : S2048x2048x32.Idx → EReal) : S2048x32.Idx → EReal :=
  Host.reduceAdd (F := Ideal) (φ := .f32)
    (mulf (F := Ideal) (φ := .f32) (broadcastInDim S2048x2048x32 ![0, 1, 2] bcast_S2048x2048x1_S2048x2048x32_0_1_2 w) X)
    (constant (F := Ideal) S_ .f32 0x00000000#32) reducesTo_S2048x2048x32_S2048x32_d1 h_S_

theorem pooledOf_at (w : S2048x2048x1.Idx → EReal) (X : S2048x2048x32.Idx → EReal) (r : Fin 2048) (d : Fin 32) :
    pooledOf w X (ix2 r d) = ∑ n : Fin 2048, w (ix3 r n 0) * X (ix3 r n d) := by
  pointwise [pooledOf]

theorem features_at (r n : Fin 2048) (d : Fin 32) (s : Fin 64) (h : (sid (ix1 r)).toNat = s.val) :
    (Host.gather gather_S64x2048x32_S2048x1_S2048x2048x32_12_0_n_n_0_1_1204832 x (sceneIx sid) (ix3 r n d) : EReal) = x (ix3 s n d) := by
  refine (lookup_at (by decide) gather_S64x2048x32_S2048x1_S2048x2048x32_12_0_n_n_0_1_1204832_wf x (sceneIx sid) r n d).trans ?_
  exact congrArg (fun k => x (ix3 k n d)) (Fin.ext ((sceneIx_at sid r (h ▸ s.isLt)).trans h))

theorem pooled_eq (w : S2048x2048x1.Idx → EReal) : refPooled (F := Ideal) x sid w
    = pooledOf w (Host.gather gather_S64x2048x32_S2048x1_S2048x2048x32_12_0_n_n_0_1_1204832 x (sceneIx sid)) := by
  unfold refPooled pooledOf; rfl

/-- The reference's result at an entry. -/
theorem out_at (r : Fin 2048) (d : Fin 32) (s : Fin 64) (h : (sid (ix1 r)).toNat = s.val) :
    (refOut (F := Ideal) x sid a w1 b1 w2 b2 w3 b3 (ix2 r d) : EReal)
      = ∑ n : Fin 2048, Ideal.div
          (Ideal.exp (refScore x a w1 b1 w2 b2 w3 s r n + b3 (ix1 0)
            - (Finset.univ : Finset (Fin 2048)).fold max ⊥ fun k => refScore x a w1 b1 w2 b2 w3 s r k + b3 (ix1 0)))
          (∑ n : Fin 2048, Ideal.exp (refScore x a w1 b1 w2 b2 w3 s r n + b3 (ix1 0)
            - (Finset.univ : Finset (Fin 2048)).fold max ⊥ fun k => refScore x a w1 b1 w2 b2 w3 s r k + b3 (ix1 0))) * x (ix3 s n d) := by
  unfold refOut
  rw [pooled_eq, pooledOf_at]
  simp only [features_at x sid r _ d s h, weights_at, exps_at, topOf, score_at x sid a w1 b1 w2 b2 w3 b3 r _ s h]

end Cert.ReferenceIdeal.Gen

end
-- ==== Proof.KernelValue.lean ====
/-
  The kernel's result over the extended reals is the reference's, entry by entry: the first call leaves the hidden units of
  places and agents, a chunk's row is the agent the plan puts at that place, and the chunk's pooled average is the softmax
  the reference takes, the constant it adds to every logit being lost in the quotient.
-/
module

public import proofs.«01_k».proof.Proof.EntryValues
public import proofs.«01_k».proof.Proof.ChunkIdeal
public import proofs.«01_k».proof.Proof.RefValue
public import proofs.«01_k».proof.Proof.InRange

@[expose] public section

set_option maxRecDepth 16384

noncomputable section

namespace Cert.KernelIdeal.Gen

open Idealize.ShloMosaic Idealize.ShloMosaic.TcCoe
open Cert.Routing Cert.Proof
open Cert.ReferenceIdeal.Gen (placeUnit agentUnit refScore refOut out_at)

/-! ### The first call's two results at an entry -/

theorem places_pay (v0 : S32x64.Idx → EReal) (v1 : S1x2048x32.Idx → EReal) (v4 : S64x1.Idx → EReal) (e : Fin 64) (n : Fin 2048) :
    (k0_pay1 (F := Ideal) v0 v1 v4 (ix3 0 e n) : EReal) = (∑ k : Fin 32, v0 (ix2 k e) * v1 (ix3 0 n k)) + v4 (ix2 e 0) := by
  pointwise [k0_pay1]

theorem agents_pay (v12 : S1x32x128.Idx → EReal) (v14 : S128x64.Idx → EReal) (v16 : S1x64.Idx → EReal) (i : Fin 32) (e : Fin 64) :
    (k0_pay2 (F := Ideal) v12 v14 v16 (ix3 0 i e) : EReal) = (∑ k : Fin 128, v12 (ix3 0 i k) * v14 (ix2 k e)) + v16 (ix2 0 e) := by
  pointwise [k0_pay2]

variable (m : (ℓ : Loc nD τ sig) → Buf (Elt Ideal) ℓ)

/-- The arguments. -/
abbrev xOf : S64x2048x32.Idx → EReal := m (((0 : Dev nD) : Thread nD τ).loc main_arg0)
abbrev sidArg : IVec S2048 32 := m (((0 : Dev nD) : Thread nD τ).loc main_arg1)
abbrev aOf : S2048x128.Idx → EReal := m (((0 : Dev nD) : Thread nD τ).loc main_arg2)
abbrev w1Of : S32x64.Idx → EReal := m (((0 : Dev nD) : Thread nD τ).loc main_arg3)
abbrev b1Of : S64.Idx → EReal := m (((0 : Dev nD) : Thread nD τ).loc main_arg4)
abbrev w2Of : S128x64.Idx → EReal := m (((0 : Dev nD) : Thread nD τ).loc main_arg5)
abbrev b2Of : S64.Idx → EReal := m (((0 : Dev nD) : Thread nD τ).loc main_arg6)
abbrev w3Of : S64.Idx → EReal := m (((0 : Dev nD) : Thread nD τ).loc main_arg7)
abbrev b3Of : S1.Idx → EReal := m (((0 : Dev nD) : Thread nD τ).loc main_arg8)

/-- The contents the second call is entered at. -/
abbrev E1 : Valuation τ sig (Elt Ideal) := entry1 (V1 m 0) 0

theorem place_entry (s : Fin 64) (e : Fin 64) (n : Fin 2048) :
    (E1 m main_v4_0 : S64x64x2048.Idx → EReal) (ix3 s e n) = placeUnit (xOf m) (w1Of m) (b1Of m) s n e := by
  refine (congrFun (entry1_v4_0 (V1 m 0) 0) _).trans ?_
  refine (past0_places (V1 m 0) 0 s e n).trans ?_
  refine (places_pay _ _ _ e n).trans ?_
  have hw : (V1 m 0 main_arg3 : S32x64.Idx → EReal) = w1Of m := V1_of m 0 main_arg3 (by decide)
  have hx : (V1 m 0 main_arg0 : S64x2048x32.Idx → EReal) = xOf m := V1_of m 0 main_arg0 (by decide)
  have hb : (V1 m 0 main_v2 : S64x1.Idx → EReal) (ix2 e 0) = b1Of m (Idealize.ShloMosaic.ix1 e) := by
    refine (congrFun (V1_v2 0 m) _).trans ?_
    pointwise
  have h0 : ∀ k : Fin 32, (blk0 (V1 m 0) 0 s (ix3 (0 : Fin 1) n k) : EReal) = xOf m (ix3 s n k) := fun k =>
    (blk0_0 (V1 m 0) s n k).trans (congrFun hx _)
  unfold placeUnit
  rw [hb]
  refine congrArg (· + b1Of m (Idealize.ShloMosaic.ix1 e)) (Finset.sum_congr rfl fun k _ => ?_)
  rw [h0, hw, mul_comm]

theorem agent_entry (r : Fin 2048) (e : Fin 64) :
    (E1 m main_v5 : S2048x64.Idx → EReal) (ix2 r e) = agentUnit (aOf m) (w2Of m) (b2Of m) r e := by
  have hr := r.isLt
  refine (congrFun (entry1_v5 (V1 m 0) 0) _).trans ?_
  have hc : (shapeCast S2048x64 (past0 (V1 m 0) 0 main_v4_1 : S64x32x64.Idx → EReal) shapeCasts_S64x32x64_S2048x64 : S2048x64.Idx → EReal) (ix2 r e)
      = (past0 (V1 m 0) 0 main_v4_1 : S64x32x64.Idx → EReal) (ix3 (⟨r.val / 32, by omega⟩ : Fin 64) (⟨r.val % 32, by omega⟩ : Fin 32) e) := by
    refine shapeCast_apply (s := S64x32x64) _ _ _ _ ?_
    rw [Shape.rowMajor_val_three, Shape.rowMajor_val_two]
    show (r.val / 32 * 32 + r.val % 32) * 64 + e.val = r.val * 64 + e.val
    omega
  refine hc.trans ((past0_agents (V1 m 0) 0 _ _ e).trans ((agents_pay _ _ _ _ e).trans ?_))
  have hw : (V1 m 0 main_arg5 : S128x64.Idx → EReal) = w2Of m := V1_of m 0 main_arg5 (by decide)
  have hb : (V1 m 0 main_v3 : S1x64.Idx → EReal) (ix2 0 e) = b2Of m (Idealize.ShloMosaic.ix1 e) := by
    refine (congrFun (V1_v3 0 m) _).trans ?_
    pointwise
  have h0 : ∀ k : Fin 128, (blk0 (V1 m 0) 1 (⟨r.val / 32, by omega⟩ : Fin 64) (ix3 (0 : Fin 1) (⟨r.val % 32, by omega⟩ : Fin 32) k) : EReal) = aOf m (ix2 r k) := fun k => by
    refine (blk0_1 (V1 m 0) _ _ k).trans ((congrFun (V1_v0 0 m) _).trans ?_)
    refine shapeCast_apply (s := S2048x128) _ _ _ _ ?_
    rw [Shape.rowMajor_val_three, Shape.rowMajor_val_two]
    show r.val * 128 + k.val = (r.val / 32 * 32 + r.val % 32) * 128 + k.val
    omega
  unfold agentUnit
  rw [hb]
  refine congrArg (· + b2Of m (Idealize.ShloMosaic.ix1 e)) (Finset.sum_congr rfl fun k _ => ?_)
  rw [h0, hw]

theorem weight_entry (e : Fin 64) : (E1 m main_v11 : S1x64.Idx → EReal) (ix2 0 e) = w3Of m (Idealize.ShloMosaic.ix1 e) := by
  have h7 : (past0 (V1 m 0) 0 main_arg7 : S64.Idx → EReal) = w3Of m :=
    (past0_kept (V1 m 0) 0 main_arg7 (by decide)).trans (V1_of m 0 main_arg7 (by decide))
  refine (congrFun (entry1_v11 (V1 m 0) 0) _).trans ?_
  rw [h7]
  pointwise

theorem feature_entry : (E1 m main_arg0 : S64x2048x32.Idx → EReal) = xOf m :=
  (entry1_arg0 (V1 m 0) 0).trans (V1_of m 0 main_arg0 (by decide))

/-! ### A chunk's row -/

variable {m} (hs : InRange m)

include hs in
/-- The row of its chunk a place falls in holds the second-layer row of the agent the plan puts there. -/
theorem gath_at (r : Fin 2048) (e : Fin 64) :
    (gath (permOf (E1 m)) (zRows (E1 m)) (tabAt192 (row0Of (E1 m)) (chunkOf (scenes m 0) r))
        (ix2 ⟨(r.val - row0 (scenes m 0) (chunkOf (scenes m 0) r)) % 16, Nat.mod_lt _ (by decide)⟩ e) : EReal)
      = agentUnit (aOf m) (w2Of m) (b2Of m) (perm (scenes m 0) r) e := by
  have hV := routed1 (V1 m 0) 0 (hs 0)
  obtain ⟨h1, h2, h3, -⟩ := chunkOf_spec (scenes m 0) (hs 0) r
  have hr := r.isLt
  have hv : (tabAt192 (row0Of (E1 m)) (chunkOf (scenes m 0) r)).toNat = row0 (scenes m 0) (chunkOf (scenes m 0) r) := hV.row0 _ h1
  have hp := permWord_toNat (p := perm (scenes m 0)) (T := permOf (E1 m)) (v := tabAt192 (row0Of (E1 m)) (chunkOf (scenes m 0) r)) hV.perm
    (by rw [hv]; omega) (n := (r.val - row0 (scenes m 0) (chunkOf (scenes m 0) r)) % 16) (Nat.mod_lt _ (by decide))
  rw [show (⟨min ((tabAt192 (row0Of (E1 m)) (chunkOf (scenes m 0) r)).toNat
      + (r.val - row0 (scenes m 0) (chunkOf (scenes m 0) r)) % 16) 2047, by omega⟩ : Fin 2048) = r from Fin.ext (by
    show min ((tabAt192 (row0Of (E1 m)) (chunkOf (scenes m 0) r)).toNat + (r.val - row0 (scenes m 0) (chunkOf (scenes m 0) r)) % 16) 2047 = r.val
    rw [hv]; omega)] at hp
  rw [← agent_entry]
  refine congrArg (E1 m main_v5 : S2048x64.Idx → EReal) (funext fun a => Fin.ext ?_)
  match a with
  | ⟨0, _⟩ => exact (congrArg (· % 2048) hp).trans (Nat.mod_eq_of_lt (perm (scenes m 0) r).isLt)
  | ⟨1, _⟩ => rfl

include hs in
/-- The scores of that row are the reference's for the agent, without the constant. -/
theorem score_eq (r n : Fin 2048) (s : Fin 64) (h : scenes m 0 (perm (scenes m 0) r) = s.val) :
    score (gath (permOf (E1 m)) (zRows (E1 m)) (tabAt192 (row0Of (E1 m)) (chunkOf (scenes m 0) r))) (wRow (E1 m)) (zBlock (E1 m) s.val)
        ⟨(r.val - row0 (scenes m 0) (chunkOf (scenes m 0) r)) % 16, Nat.mod_lt _ (by decide)⟩ n
      = refScore (xOf m) (aOf m) (w1Of m) (b1Of m) (w2Of m) (b2Of m) (w3Of m) s (perm (scenes m 0) r) n := by
  unfold score refScore
  refine Finset.sum_congr rfl fun e _ => ?_
  have hz : (zBlock (E1 m) s.val (ix3 0 e n) : EReal) = placeUnit (xOf m) (w1Of m) (b1Of m) s n e := by
    rw [← place_entry]
    exact congrArg (fun k : Fin 64 => (E1 m main_v4_0 : S64x64x2048.Idx → EReal) (ix3 k e n)) (Fin.ext (Nat.mod_eq_of_lt s.isLt))
  rw [gath_at hs, hz, mul_comm]
  exact congrArg (fun t => _ * t) (weight_entry m e)

/-! ### Finite arguments -/

/-- Every entry of every float argument is a real number. -/
structure Finite (m : (ℓ : Loc nD τ sig) → Buf (Elt Ideal) ℓ) : Prop where
  x : ∀ j, IsReal (xOf m j)
  a : ∀ j, IsReal (aOf m j)
  w1 : ∀ j, IsReal (w1Of m j)
  b1 : ∀ j, IsReal (b1Of m j)
  w2 : ∀ j, IsReal (w2Of m j)
  b2 : ∀ j, IsReal (b2Of m j)
  w3 : ∀ j, IsReal (w3Of m j)
  b3 : ∀ j, IsReal (b3Of m j)

theorem Finite.score (hf : Finite m) (s : Fin 64) (r n : Fin 2048) :
    IsReal (refScore (xOf m) (aOf m) (w1Of m) (b1Of m) (w2Of m) (b2Of m) (w3Of m) s r n) :=
  IsReal.sum _ _ fun e => (IsReal.max
    (((IsReal.sum _ _ fun _ => (hf.x _).mul (hf.w1 _)).add (hf.b1 _)).add ((IsReal.sum _ _ fun _ => (hf.a _).mul (hf.w2 _)).add (hf.b2 _)))
    IsReal.zero).mul (hf.w3 _)

include hs in
/-- The kernel's result is the reference's. -/
theorem attended_eq (hf : Finite m) : (attended (scenes m 0) (chunkAt (E1 m) (scenes m 0)) : S2048x32.Idx → EReal)
    = refOut (F := Ideal) (xOf m) (sidArg m) (aOf m) (w1Of m) (b1Of m) (w2Of m) (b2Of m) (w3Of m) (b3Of m) := by
  have key : ∀ (r : Fin 2048) (d : Fin 32), (attended (scenes m 0) (chunkAt (E1 m) (scenes m 0)) (ix2 (perm (scenes m 0) r) d) : EReal)
      = refOut (F := Ideal) (xOf m) (sidArg m) (aOf m) (w1Of m) (b1Of m) (w2Of m) (b2Of m) (w3Of m) (b3Of m) (ix2 (perm (scenes m 0) r) d) := fun r d => by
    obtain ⟨s, h⟩ : ∃ s : Fin 64, scenes m 0 (perm (scenes m 0) r) = s.val := ⟨⟨_, hs 0 _⟩, rfl⟩
    have hsid : (sidArg m (Idealize.ShloMosaic.ix1 (perm (scenes m 0) r))).toNat = s.val := (scenes_eq m 0 _).symm.trans h
    rw [out_at _ _ _ _ _ _ _ _ _ _ d s hsid, attended_at]
    unfold placeRes chunkAt
    rw [sfor_chunkOf _ (hs 0), h, chunkRes_eq]
    refine (pooled_at _ _ _ d).trans ?_
    simp only [chunkLogits_at, score_eq hs r _ s h]
    have hX : ∀ n : Fin 2048, (xBlock (E1 m) s.val (ix3 0 n d) : EReal) = xOf m (ix3 s n d) := fun n => by
      rw [← feature_entry]
      exact congrArg (fun k : Fin 64 => (E1 m main_arg0 : S64x2048x32.Idx → EReal) (ix3 k n d)) (Fin.ext (Nat.mod_eq_of_lt s.isLt))
    simp only [hX]
    refine softmax_shift _ _ _ _ _ (fun n => hf.score s _ n) (fun n => hf.x _) (hf.b3 _) (rowMax_real _ _ fun n => ?_)
      (IsReal.fold_max _ _ (fun n => (hf.score s _ n).add (hf.b3 _)) ⟨0, Finset.mem_univ _⟩)
    rw [chunkLogits_at, score_eq hs r n s h]
    exact hf.score s _ n
  funext y
  obtain ⟨r, hr⟩ := perm_surj (scenes m 0) (y 0)
  have hy : y = ix2 (perm (scenes m 0) r) ⟨(y 1).val, (y 1).isLt⟩ := by
    rw [hr]; exact funext fun a => by fin_cases a <;> rfl
  rw [hy]
  exact key r _

end Cert.KernelIdeal.Gen

end
-- ==== Proof.FiniteArgs.lean ====
/-
  What the second predicate says of the arguments: every entry of every float argument is a real number.
-/
module

public import proofs.«01_k».proof.Defs
public import proofs.«01_k».proof.Proof.KernelValue

@[expose] public section

set_option maxRecDepth 16384

noncomputable section

namespace Cert.Proof

open Idealize.ShloMosaic Idealize.ShloMosaic.TcCoe

/-- An entry whose absolute value lies below infinity is a real number. -/
theorem real_of_olt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

theorem finite_args (m : (ℓ : Loc Cert.KernelIdeal.nD Cert.KernelIdeal.τ Cert.KernelIdeal.sig) → Buf (Elt Ideal) ℓ)
    (h : Cert.Pre_KernelIdeal_finite_and_in_range m) : Cert.KernelIdeal.Gen.Finite m := by
  obtain ⟨-, h0, h2, h3, h4, h5, h6, h7, h8⟩ := h 0
  exact ⟨fun j => real_of_olt _ (congrFun h0 j), fun j => real_of_olt _ (congrFun h2 j), fun j => real_of_olt _ (congrFun h3 j),
    fun j => real_of_olt _ (congrFun h4 j), fun j => real_of_olt _ (congrFun h5 j), fun j => real_of_olt _ (congrFun h6 j),
    fun j => real_of_olt _ (congrFun h7 j), fun j => real_of_olt _ (congrFun h8 j)⟩

end Cert.Proof

end
-- ==== Proof.lean ====
/-
  The claims, put together from the two programs' runs and the reference's: each program terminates from every memory whose
  scene numbers name one of the 64 scenes, leaves its arguments as they were and every semaphore at zero, and from finite
  arguments the kernel and the reference end with the same result.
-/
module

public import proofs.«01_k».proof.Defs
public import proofs.«01_k».proof.Proof.InRange
public import proofs.«01_k».proof.Proof.Reference
public import proofs.«01_k».proof.Proof.FiniteArgs

@[expose] public section

noncomputable section

namespace Cert.Proof

open Idealize.ShloMosaic Idealize.SL.Sem

/-- The kernel's frame. -/
theorem frame_kernel : Cert.quiescent_Kernel := fun m ρ h =>
  (θ_run _ _ _).mono (fun _ e => ⟨fun c => (e.1 c).2, e.2⟩) (Cert.Kernel.Gen.run_ends (inRange_kernel m h) ρ)

/-- The frame of the kernel read over the reals. -/
theorem frame_ideal : Cert.quiescent_KernelIdeal := fun m ρ h =>
  (θ_run _ _ _).mono (fun _ e => ⟨fun c => (e.1 c).2, e.2⟩) (Cert.KernelIdeal.Gen.run_ends (inRange_ideal m h) ρ)

/-- The reference's frame. -/
theorem frame_reference : Cert.quiescent_ReferenceIdeal := fun m ρ _ =>
  (θ_run _ _ _).mono (fun _ e => ⟨fun c => (e.1 c).2, e.2⟩) (Cert.ReferenceIdeal.Gen.run_reference m ρ)

/-- The frame of the kernel read over the reals, from finite arguments. -/
theorem frame_ideal_finite : Cert.quiescent_KernelIdeal_pre_finite_and_in_range := fun m ρ h =>
  (θ_run _ _ _).mono (fun _ e => ⟨fun c => (e.1 c).2, e.2⟩) (Cert.KernelIdeal.Gen.run_ends (inRange_finite m h) ρ)

/-- The reference's frame, from finite arguments. -/
theorem frame_reference_finite : Cert.quiescent_ReferenceIdeal_pre_finite_and_in_range := fun m ρ _ =>
  (θ_run _ _ _).mono (fun _ e => ⟨fun c => (e.1 c).2, e.2⟩) (Cert.ReferenceIdeal.Gen.run_reference m ρ)

/-- The kernel and the reference end with the same result. -/
theorem same_result : Cert.algebraic_KernelIdeal_ReferenceIdeal_pre_finite_and_in_range := fun m g m' g' h hm => by
  have hs := inRange_finite m h
  obtain ⟨a0, a1, a2, a3, a4, a5, a6, a7, a8⟩ := hm 0
  refine ⟨fun _ => Cert.KernelIdeal.Gen.attended (Cert.KernelIdeal.Gen.scenes m 0)
    (Cert.KernelIdeal.Gen.chunkAt (Cert.KernelIdeal.Gen.E1 m) (Cert.KernelIdeal.Gen.scenes m 0)), ?_, ?_⟩
  · exact (θ_run _ _ _).mono (fun _ e => e.1) (Cert.KernelIdeal.Gen.run_ends hs g)
  · refine (θ_run _ _ _).mono (fun _ e c => ⟨?_, (e.1 c).2⟩) (Cert.ReferenceIdeal.Gen.run_reference m' g')
    obtain rfl : c = 0 := Subsingleton.elim _ _
    refine (e.1 0).1.trans ?_
    rw [a0, a1, a2, a3, a4, a5, a6, a7, a8]
    exact (Cert.KernelIdeal.Gen.attended_eq hs (finite_args m h)).symm

theorem claim : Cert.Claim :=
  ⟨Cert.Kernel.Gen.facts, Cert.KernelIdeal.Gen.facts, Cert.ReferenceIdeal.Gen.facts, rangeFacts, finiteFacts,
    frame_kernel, frame_ideal, frame_ideal_finite, frame_reference, frame_reference_finite, trivial, same_result⟩

end Cert.Proof

end
